-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_inputs [hPre_attention_inputs : Cert.Pre_attention_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs [hPre_attention_inputs : Cert.Pre_attention_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attention_inputs [hPre_attention_inputs : Cert.Pre_attention_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attention_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_attention_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_attention_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attention_inputs [hPre_attention_inputs : Cert.Pre_attention_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attention_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_attention_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_attention_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_mixer_outputs [hPre_mixer_outputs : Cert.Pre_mixer_outputs.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_mixer_outputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).1 = (fun _ => 1#1)
    ∧ (Cert.Pre_mixer_outputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.1 = (fun _ => 1#1)
    ∧ (Cert.Pre_mixer_outputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.1 = (fun _ => 1#1)
    ∧ (Cert.Pre_mixer_outputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_mixer_outputs [hPre_mixer_outputs : Cert.Pre_mixer_outputs.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_mixer_outputs.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).1 = (fun _ => 1#1)
    ∧ (Cert.Pre_mixer_outputs.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.1 = (fun _ => 1#1)
    ∧ (Cert.Pre_mixer_outputs.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.1 = (fun _ => 1#1)
    ∧ (Cert.Pre_mixer_outputs.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_mixer_outputs_last [hPre_mixer_outputs_last : Cert.Pre_mixer_outputs_last.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_mixer_outputs_last.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).1 = (fun _ => 1#1)
    ∧ (Cert.Pre_mixer_outputs_last.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.1 = (fun _ => 1#1)
    ∧ (Cert.Pre_mixer_outputs_last.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.1 = (fun _ => 1#1)
    ∧ (Cert.Pre_mixer_outputs_last.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_mixer_outputs_last [hPre_mixer_outputs_last : Cert.Pre_mixer_outputs_last.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_mixer_outputs_last.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).1 = (fun _ => 1#1)
    ∧ (Cert.Pre_mixer_outputs_last.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.1 = (fun _ => 1#1)
    ∧ (Cert.Pre_mixer_outputs_last.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.1 = (fun _ => 1#1)
    ∧ (Cert.Pre_mixer_outputs_last.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_attention_inputs [hKernelIdeal : Cert.KernelIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_attention_inputs [hReferenceIdeal : Cert.ReferenceIdeal.Facts] [hPre_attention_inputs : Cert.Pre_attention_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_attention_inputs [hKernel2Ideal : Cert.Kernel2Ideal.Facts] [hPre_attention_inputs : Cert.Pre_attention_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attention_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_attention_inputs [hReference2Ideal : Cert.Reference2Ideal.Facts] [hPre_attention_inputs : Cert.Pre_attention_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attention_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Kernel6Ideal_pre_mixer_outputs [hKernel6Ideal : Cert.Kernel6Ideal.Facts] [hPre_mixer_outputs : Cert.Pre_mixer_outputs.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_mixer_outputs m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Reference6Ideal_pre_mixer_outputs [hReference6Ideal : Cert.Reference6Ideal.Facts] [hPre_mixer_outputs : Cert.Pre_mixer_outputs.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_mixer_outputs m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Kernel7Ideal_pre_mixer_outputs_last [hKernel7Ideal : Cert.Kernel7Ideal.Facts] [hPre_mixer_outputs_last : Cert.Pre_mixer_outputs_last.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_mixer_outputs_last m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Reference7Ideal_pre_mixer_outputs_last [hReference7Ideal : Cert.Reference7Ideal.Facts] [hPre_mixer_outputs_last : Cert.Pre_mixer_outputs_last.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_mixer_outputs_last m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def preserves_Kernel_KernelIdeal : Prop :=
  True

def algebraic_KernelIdeal_ReferenceIdeal_pre_attention_inputs [hKernelIdeal : Cert.KernelIdeal.Facts] [hReferenceIdeal : Cert.ReferenceIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_attention_inputs [hKernel2Ideal : Cert.Kernel2Ideal.Facts] [hReference2Ideal : Cert.Reference2Ideal.Facts] [hPre_attention_inputs : Cert.Pre_attention_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attention_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_v57) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_v71) = v1 c
          ∧ r.2.mem ((c.tc : Thread Cert.Reference4Ideal.nD Cert.Reference4Ideal.τ).loc Cert.Reference4Ideal.main_v73) = v2 c
          ∧ r.2.mem ((c.tc : Thread Cert.Reference4Ideal.nD Cert.Reference4Ideal.τ).loc Cert.Reference4Ideal.main_v74) = v3 c
          ∧ r.2.mem ((c.tc : Thread Cert.Reference4Ideal.nD Cert.Reference4Ideal.τ).loc Cert.Reference4Ideal.main_v75) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_mixer_outputs [hKernel6Ideal : Cert.Kernel6Ideal.Facts] [hReference6Ideal : Cert.Reference6Ideal.Facts] [hPre_mixer_outputs : Cert.Pre_mixer_outputs.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_mixer_outputs m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_v100) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  True

def algebraic_Kernel7Ideal_Reference7Ideal_pre_mixer_outputs_last [hKernel7Ideal : Cert.Kernel7Ideal.Facts] [hReference7Ideal : Cert.Reference7Ideal.Facts] [hPre_mixer_outputs_last : Cert.Pre_mixer_outputs_last.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_mixer_outputs_last m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v86) = v0 c
          ∧ r.2.mem ((c.tc : Thread Cert.Reference7Ideal.nD Cert.Reference7Ideal.τ).loc Cert.Reference7Ideal.main_v103) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_attention_inputs : Cert.Pre_attention_inputs.Facts) (hPre_mixer_outputs : Cert.Pre_mixer_outputs.Facts) (hPre_mixer_outputs_last : Cert.Pre_mixer_outputs_last.Facts),
    quiescent_Kernel (hKernel := hKernel)
    ∧ quiescent_KernelIdeal (hKernelIdeal := hKernelIdeal)
    ∧ quiescent_KernelIdeal_pre_attention_inputs (hKernelIdeal := hKernelIdeal) (hPre_attention_inputs := hPre_attention_inputs)
    ∧ quiescent_ReferenceIdeal (hReferenceIdeal := hReferenceIdeal)
    ∧ quiescent_ReferenceIdeal_pre_attention_inputs (hReferenceIdeal := hReferenceIdeal) (hPre_attention_inputs := hPre_attention_inputs)
    ∧ quiescent_Kernel2 (hKernel2 := hKernel2)
    ∧ quiescent_Kernel2Ideal (hKernel2Ideal := hKernel2Ideal)
    ∧ quiescent_Kernel2Ideal_pre_attention_inputs (hKernel2Ideal := hKernel2Ideal) (hPre_attention_inputs := hPre_attention_inputs)
    ∧ quiescent_Reference2Ideal (hReference2Ideal := hReference2Ideal)
    ∧ quiescent_Reference2Ideal_pre_attention_inputs (hReference2Ideal := hReference2Ideal) (hPre_attention_inputs := hPre_attention_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_mixer_outputs (hKernel6Ideal := hKernel6Ideal) (hPre_mixer_outputs := hPre_mixer_outputs)
    ∧ quiescent_Reference6Ideal (hReference6Ideal := hReference6Ideal)
    ∧ quiescent_Reference6Ideal_pre_mixer_outputs (hReference6Ideal := hReference6Ideal) (hPre_mixer_outputs := hPre_mixer_outputs)
    ∧ quiescent_Kernel7 (hKernel7 := hKernel7)
    ∧ quiescent_Kernel7Ideal (hKernel7Ideal := hKernel7Ideal)
    ∧ quiescent_Kernel7Ideal_pre_mixer_outputs_last (hKernel7Ideal := hKernel7Ideal) (hPre_mixer_outputs_last := hPre_mixer_outputs_last)
    ∧ quiescent_Reference7Ideal (hReference7Ideal := hReference7Ideal)
    ∧ quiescent_Reference7Ideal_pre_mixer_outputs_last (hReference7Ideal := hReference7Ideal) (hPre_mixer_outputs_last := hPre_mixer_outputs_last)
    ∧ preserves_Kernel_KernelIdeal
    ∧ algebraic_KernelIdeal_ReferenceIdeal_pre_attention_inputs (hKernelIdeal := hKernelIdeal) (hReferenceIdeal := hReferenceIdeal) (hPre_attention_inputs := hPre_attention_inputs)
    ∧ preserves_Kernel2_Kernel2Ideal
    ∧ algebraic_Kernel2Ideal_Reference2Ideal_pre_attention_inputs (hKernel2Ideal := hKernel2Ideal) (hReference2Ideal := hReference2Ideal) (hPre_attention_inputs := hPre_attention_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_mixer_outputs (hKernel6Ideal := hKernel6Ideal) (hReference6Ideal := hReference6Ideal) (hPre_mixer_outputs := hPre_mixer_outputs)
    ∧ preserves_Kernel7_Kernel7Ideal
    ∧ algebraic_Kernel7Ideal_Reference7Ideal_pre_mixer_outputs_last (hKernel7Ideal := hKernel7Ideal) (hReference7Ideal := hReference7Ideal) (hPre_mixer_outputs_last := hPre_mixer_outputs_last)
-- ==== Pre_attention_inputs.lean ====
abbrev S17408x512 : Shape := ⟨2, ![17408, 512]⟩
abbrev S4x320x4352 : Shape := ⟨3, ![4, 320, 4352]⟩
abbrev S4x4x80x4352 : Shape := ⟨4, ![4, 4, 80, 4352]⟩
abbrev S4x4x1x4352 : Shape := ⟨4, ![4, 4, 1, 4352]⟩
abbrev S4x4x4352 : Shape := ⟨3, ![4, 4, 4352]⟩
abbrev S_ : Shape := ⟨0, ![]⟩

class Facts : Prop where
  bitsLt_bf16_f32 : FTy.bits .bf16 < FTy.bits .f32
  shapeCasts_S4x320x4352_S4x4x80x4352 : S4x320x4352.ShapeCasts S4x4x80x4352
  slices_S4x4x80x4352_S4x4x1x4352_0_0_64_0 : S4x4x80x4352.Slices ![0, 0, 64, 0] S4x4x1x4352
  shapeCasts_S4x4x1x4352_S4x4x4352 : S4x4x1x4352.ShapeCasts S4x4x4352
  bcast_S_S4x4x4352 : S_.BroadcastsInDim S4x4x4352 (![] : Fin 0 → Fin S4x4x4352.rank)
  bcast_S_S17408x512 : S_.BroadcastsInDim S17408x512 (![] : Fin 0 → Fin S17408x512.rank)

variable [Facts]

def fn {F : FTy → Type} [FloatOps F] (main_arg0 : FVec F S17408x512 .bf16) (main_arg1 : FVec F S17408x512 .bf16) (main_arg2 : FVec F S4x320x4352 .bf16) : IVec S17408x512 1 × IVec S17408x512 1 × IVec S4x4x4352 1 :=
  let main_v0 : FVec F S4x320x4352 .f32 := (extf .f32 · bitsLt_bf16_f32) main_arg2
  let main_v1 : FVec F S4x4x80x4352 .f32 := shapeCast S4x4x80x4352 main_v0 shapeCasts_S4x320x4352_S4x4x80x4352
  let main_v2 : FVec F S4x4x1x4352 .f32 := (extractStridedSlice S4x4x1x4352 ![0, 0, 64, 0] · slices_S4x4x80x4352_S4x4x1x4352_0_0_64_0) main_v1
  let main_v3 : FVec F S4x4x4352 .f32 := shapeCast S4x4x4352 main_v2 shapeCasts_S4x4x1x4352_S4x4x4352
  let main_cst : FVec F S_ .f32 := constant S_ .f32 0x3F800000#32
  let main_v4 : FVec F S4x4x4352 .f32 := broadcastInDim S4x4x4352 ![] bcast_S_S4x4x4352 main_cst
  let main_v5 : IVec S4x4x4352 1 := cmpf .oeq main_v3 main_v4
  let main_v6 : FVec F S17408x512 .f32 := (extf .f32 · bitsLt_bf16_f32) main_arg0
  let main_v7 : FVec F S17408x512 .f32 := Host.absf main_v6
  let main_cst_0 : FVec F S_ .f32 := constant S_ .f32 0x7F800000#32
  let main_v8 : FVec F S17408x512 .f32 := broadcastInDim S17408x512 ![] bcast_S_S17408x512 main_cst_0
  let main_v9 : IVec S17408x512 1 := cmpf .olt main_v7 main_v8
  let main_v10 : FVec F S17408x512 .f32 := (extf .f32 · bitsLt_bf16_f32) main_arg1
  let main_v11 : FVec F S17408x512 .f32 := Host.absf main_v10
  let main_cst_1 : FVec F S_ .f32 := constant S_ .f32 0x7F800000#32
  let main_v12 : FVec F S17408x512 .f32 := broadcastInDim S17408x512 ![] bcast_S_S17408x512 main_cst_1
  let main_v13 : IVec S17408x512 1 := cmpf .olt main_v11 main_v12
  (main_v9, main_v13, main_v5)
-- ==== Pre_mixer_outputs.lean ====
abbrev S17408x256 : Shape := ⟨2, ![17408, 256]⟩
abbrev S17408x1280 : Shape := ⟨2, ![17408, 1280]⟩
abbrev S17408x896 : Shape := ⟨2, ![17408, 896]⟩
abbrev S68x256x256 : Shape := ⟨3, ![68, 256, 256]⟩
abbrev S17408x1024 : Shape := ⟨2, ![17408, 1024]⟩
abbrev S8x6144 : Shape := ⟨2, ![8, 6144]⟩
abbrev S1x256 : Shape := ⟨2, ![1, 256]⟩
abbrev S1x1024 : Shape := ⟨2, ![1, 1024]⟩
abbrev S1024x1024 : Shape := ⟨2, ![1024, 1024]⟩
abbrev S_ : Shape := ⟨0, ![]⟩

class Facts : Prop where
  bcast_S_S17408x256 : S_.BroadcastsInDim S17408x256 (![] : Fin 0 → Fin S17408x256.rank)

variable [Facts]

def fn {F : FTy → Type} [FloatOps F] (main_arg0 : FVec F S17408x256 .f32) (main_arg1 : FVec F S17408x256 .f32) (main_arg2 : FVec F S17408x1280 .f32) (main_arg3 : FVec F S17408x256 .bf16) (main_arg4 : FVec F S17408x256 .f32) (main_arg5 : FVec F S17408x256 .f32) (main_arg6 : FVec F S17408x896 .f32) (main_arg7 : FVec F S68x256x256 .bf16) (main_arg8 : FVec F S17408x1024 .f32) (main_arg9 : FVec F S8x6144 .f32) (main_arg10 : FVec F S1x256 .f32) (main_arg11 : FVec F S1x256 .f32) (main_arg12 : FVec F S1x1024 .f32) (main_arg13 : FVec F S1024x1024 .f32) : IVec S17408x256 1 × IVec S17408x256 1 × IVec S17408x256 1 × IVec S17408x256 1 :=
  let main_v0 : FVec F S17408x256 .f32 := Host.absf main_arg0
  let main_cst : FVec F S_ .f32 := constant S_ .f32 0x7F800000#32
  let main_v1 : FVec F S17408x256 .f32 := broadcastInDim S17408x256 ![] bcast_S_S17408x256 main_cst
  let main_v2 : IVec S17408x256 1 := cmpf .olt main_v0 main_v1
  let main_v3 : FVec F S17408x256 .f32 := Host.absf main_arg1
  let main_cst_0 : FVec F S_ .f32 := constant S_ .f32 0x7F800000#32
  let main_v4 : FVec F S17408x256 .f32 := broadcastInDim S17408x256 ![] bcast_S_S17408x256 main_cst_0
  let main_v5 : IVec S17408x256 1 := cmpf .olt main_v3 main_v4
  let main_v6 : FVec F S17408x256 .f32 := Host.absf main_arg4
  let main_cst_1 : FVec F S_ .f32 := constant S_ .f32 0x7F800000#32
  let main_v7 : FVec F S17408x256 .f32 := broadcastInDim S17408x256 ![] bcast_S_S17408x256 main_cst_1
  let main_v8 : IVec S17408x256 1 := cmpf .olt main_v6 main_v7
  let main_v9 : FVec F S17408x256 .f32 := Host.absf main_arg5
  let main_cst_2 : FVec F S_ .f32 := constant S_ .f32 0x7F800000#32
  let main_v10 : FVec F S17408x256 .f32 := broadcastInDim S17408x256 ![] bcast_S_S17408x256 main_cst_2
  let main_v11 : IVec S17408x256 1 := cmpf .olt main_v9 main_v10
  (main_v2, main_v5, main_v8, main_v11)
-- ==== Pre_mixer_outputs_last.lean ====
abbrev S17408x256 : Shape := ⟨2, ![17408, 256]⟩
abbrev S17408x1280 : Shape := ⟨2, ![17408, 1280]⟩
abbrev S16384x256 : Shape := ⟨2, ![16384, 256]⟩
abbrev S17408x896 : Shape := ⟨2, ![17408, 896]⟩
abbrev S64x256x256 : Shape := ⟨3, ![64, 256, 256]⟩
abbrev S17408x1024 : Shape := ⟨2, ![17408, 1024]⟩
abbrev S8x6144 : Shape := ⟨2, ![8, 6144]⟩
abbrev S1x256 : Shape := ⟨2, ![1, 256]⟩
abbrev S1x1024 : Shape := ⟨2, ![1, 1024]⟩
abbrev S1024x1024 : Shape := ⟨2, ![1024, 1024]⟩
abbrev S_ : Shape := ⟨0, ![]⟩

class Facts : Prop where
  bcast_S_S17408x256 : S_.BroadcastsInDim S17408x256 (![] : Fin 0 → Fin S17408x256.rank)

variable [Facts]

def fn {F : FTy → Type} [FloatOps F] (main_arg0 : FVec F S17408x256 .f32) (main_arg1 : FVec F S17408x256 .f32) (main_arg2 : FVec F S17408x1280 .f32) (main_arg3 : FVec F S16384x256 .bf16) (main_arg4 : FVec F S17408x256 .f32) (main_arg5 : FVec F S17408x256 .f32) (main_arg6 : FVec F S17408x896 .f32) (main_arg7 : FVec F S64x256x256 .bf16) (main_arg8 : FVec F S17408x1024 .f32) (main_arg9 : FVec F S8x6144 .f32) (main_arg10 : FVec F S1x256 .f32) (main_arg11 : FVec F S1x256 .f32) (main_arg12 : FVec F S1x1024 .f32) (main_arg13 : FVec F S1024x1024 .f32) : IVec S17408x256 1 × IVec S17408x256 1 × IVec S17408x256 1 × IVec S17408x256 1 :=
  let main_v0 : FVec F S17408x256 .f32 := Host.absf main_arg0
  let main_cst : FVec F S_ .f32 := constant S_ .f32 0x7F800000#32
  let main_v1 : FVec F S17408x256 .f32 := broadcastInDim S17408x256 ![] bcast_S_S17408x256 main_cst
  let main_v2 : IVec S17408x256 1 := cmpf .olt main_v0 main_v1
  let main_v3 : FVec F S17408x256 .f32 := Host.absf main_arg1
  let main_cst_0 : FVec F S_ .f32 := constant S_ .f32 0x7F800000#32
  let main_v4 : FVec F S17408x256 .f32 := broadcastInDim S17408x256 ![] bcast_S_S17408x256 main_cst_0
  let main_v5 : IVec S17408x256 1 := cmpf .olt main_v3 main_v4
  let main_v6 : FVec F S17408x256 .f32 := Host.absf main_arg4
  let main_cst_1 : FVec F S_ .f32 := constant S_ .f32 0x7F800000#32
  let main_v7 : FVec F S17408x256 .f32 := broadcastInDim S17408x256 ![] bcast_S_S17408x256 main_cst_1
  let main_v8 : IVec S17408x256 1 := cmpf .olt main_v6 main_v7
  let main_v9 : FVec F S17408x256 .f32 := Host.absf main_arg5
  let main_cst_2 : FVec F S_ .f32 := constant S_ .f32 0x7F800000#32
  let main_v10 : FVec F S17408x256 .f32 := broadcastInDim S17408x256 ![] bcast_S_S17408x256 main_cst_2
  let main_v11 : IVec S17408x256 1 := cmpf .olt main_v9 main_v10
  (main_v2, main_v5, main_v8, main_v11)
-- ==== Kernel.lean ====
abbrev S17408x512 : Shape := ⟨2, ![17408, 512]⟩
abbrev S4x320x4352 : Shape := ⟨3, ![4, 320, 4352]⟩
abbrev S68x256x256 : Shape := ⟨3, ![68, 256, 256]⟩
abbrev S256x512 : Shape := ⟨2, ![256, 512]⟩
abbrev S4352x512 : Shape := ⟨2, ![4352, 512]⟩
abbrev S1x320x4352 : Shape := ⟨3, ![1, 320, 4352]⟩
abbrev S1x256x256 : Shape := ⟨3, ![1, 256, 256]⟩
abbrev S4x4352x256 : Shape := ⟨3, ![4, 4352, 256]⟩
abbrev S256x128 : Shape := ⟨2, ![256, 128]⟩
abbrev S1x256 : Shape := ⟨2, ![1, 256]⟩
abbrev S256x256 : Shape := ⟨2, ![256, 256]⟩
abbrev S256 : Shape := ⟨1, ![256]⟩
abbrev S80x256 : Shape := ⟨2, ![80, 256]⟩
abbrev S1x80x256 : Shape := ⟨3, ![1, 80, 256]⟩
abbrev S64x256 : Shape := ⟨2, ![64, 256]⟩
abbrev S1x64x256 : Shape := ⟨3, ![1, 64, 256]⟩

abbrev nBuf : Space → Nat
  | .hbm => 4
  | .vmem => 9
  | .smem => 0
  | _ => 0

abbrev bufTy : (tb : Table) → Fin (tcTables nBuf tb) → BufTy
  | .hbm, ⟨0, _⟩ => ⟨S17408x512, .bf16⟩
  | .hbm, ⟨1, _⟩ => ⟨S17408x512, .bf16⟩
  | .hbm, ⟨2, _⟩ => ⟨S4x320x4352, .bf16⟩
  | .hbm, ⟨3, _⟩ => ⟨S68x256x256, .bf16⟩
  | .local _ .vmem, ⟨0, _⟩ => ⟨S256x512, .bf16⟩
  | .local _ .vmem, ⟨1, _⟩ => ⟨S256x512, .bf16⟩
  | .local _ .vmem, ⟨2, _⟩ => ⟨S4352x512, .bf16⟩
  | .local _ .vmem, ⟨3, _⟩ => ⟨S4352x512, .bf16⟩
  | .local _ .vmem, ⟨4, _⟩ => ⟨S1x320x4352, .bf16⟩
  | .local _ .vmem, ⟨5, _⟩ => ⟨S1x320x4352, .bf16⟩
  | .local _ .vmem, ⟨6, _⟩ => ⟨S1x256x256, .bf16⟩
  | .local _ .vmem, ⟨7, _⟩ => ⟨S1x256x256, .bf16⟩
  | .local _ .vmem, ⟨8, _⟩ => ⟨S4x4352x256, .f32⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 17], ![false, false, false]⟩

def k0_cond1 (i : grid0.Coords) : BitVec 1 :=
  let arg2 : BitVec 32 := BitVec.ofNat 32 (i 2).val
  let c0_i32 : BitVec 32 := 0#32
  let v0 : BitVec 32 := Scalar.addi arg2 c0_i32
  let c0_i32_0 : BitVec 32 := 0#32
  let v1 : BitVec 1 := Scalar.cmpi .eq v0 c0_i32_0
  let v2 : BitVec 32 := Scalar.extui v1
  let c0_i32_1 : BitVec 32 := 0#32
  let v3 : BitVec 1 := Scalar.cmpi .ne v2 c0_i32_1
  v3

def k0_cond2 (i : grid0.Coords) : BitVec 1 :=
  let arg2 : BitVec 32 := BitVec.ofNat 32 (i 2).val
  let c0_i32 : BitVec 32 := 0#32
  let v0 : BitVec 32 := Scalar.addi arg2 c0_i32
  let c0_i32_2 : BitVec 32 := 0#32
  let v4 : BitVec 1 := Scalar.cmpi .sgt v0 c0_i32_2
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let v2 : BitVec 32 := Scalar.addi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x320x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S17408x512 : Shape := ⟨2, ![17408, 512]⟩
abbrev S4x320x4352 : Shape := ⟨3, ![4, 320, 4352]⟩
abbrev S4x4352x4x128 : Shape := ⟨4, ![4, 4352, 4, 128]⟩
abbrev S4x4x80x4352 : Shape := ⟨4, ![4, 4, 80, 4352]⟩
abbrev S4x4x64x4352 : Shape := ⟨4, ![4, 4, 64, 4352]⟩
abbrev S4x256x4x128 : Shape := ⟨4, ![4, 256, 4, 128]⟩
abbrev S4x4x64x256 : Shape := ⟨4, ![4, 4, 64, 256]⟩
abbrev S4x4x256x256 : Shape := ⟨4, ![4, 4, 256, 256]⟩
abbrev S_ : Shape := ⟨0, ![]⟩
abbrev S4x4x256 : Shape := ⟨3, ![4, 4, 256]⟩
abbrev S4x4x256x1 : Shape := ⟨4, ![4, 4, 256, 1]⟩
abbrev S4x4096x4x128 : Shape := ⟨4, ![4, 4096, 4, 128]⟩
abbrev S4x4x4096x4352 : Shape := ⟨4, ![4, 4, 4096, 4352]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x256x17x256 : Shape := ⟨4, ![4, 256, 17, 256]⟩
abbrev S4x17x256x256 : Shape := ⟨4, ![4, 17, 256, 256]⟩
abbrev S68x256x256 : Shape := ⟨3, ![68, 256, 256]⟩

abbrev nBuf : Space → Nat
  | .hbm => 51
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S17408x512, .bf16⟩
  | .hbm, ⟨2, _⟩ => ⟨S4x320x4352, .bf16⟩
  | .hbm, ⟨3, _⟩ => ⟨S17408x512, .f32⟩
  | .hbm, ⟨4, _⟩ => ⟨S4x4352x4x128, .f32⟩
  | .hbm, ⟨5, _⟩ => ⟨S17408x512, .f32⟩
  | .hbm, ⟨6, _⟩ => ⟨S4x4352x4x128, .f32⟩
  | .hbm, ⟨7, _⟩ => ⟨S4x320x4352, .f32⟩
  | .hbm, ⟨8, _⟩ => ⟨S4x4x80x4352, .f32⟩
  | .hbm, ⟨9, _⟩ => ⟨S4x4x64x4352, .f32⟩
  | .hbm, ⟨10, _⟩ => ⟨S4x256x4x128, .f32⟩
  | .hbm, ⟨11, _⟩ => ⟨S4x256x4x128, .f32⟩
  | .hbm, ⟨12, _⟩ => ⟨S4x4x64x256, .f32⟩
  | .hbm, ⟨13, _⟩ => ⟨S4x4x256x256, .f32⟩
  | .hbm, ⟨14, _⟩ => ⟨S_, .f32⟩
  | .hbm, ⟨15, _⟩ => ⟨S4x4x256, .f32⟩
  | .hbm, ⟨16, _⟩ => ⟨S_, .f32⟩
  | .hbm, ⟨17, _⟩ => ⟨S4x4x256, .f32⟩
  | .hbm, ⟨18, _⟩ => ⟨S4x4x256, .f32⟩
  | .hbm, ⟨19, _⟩ => ⟨S4x4x256x1, .f32⟩
  | .hbm, ⟨20, _⟩ => ⟨S4x4x256x256, .f32⟩
  | .hbm, ⟨21, _⟩ => ⟨S4x4x256x256, .f32⟩
  | .hbm, ⟨22, _⟩ => ⟨S4x4x256x256, .f32⟩
  | .hbm, ⟨23, _⟩ => ⟨S_, .f32⟩
  | .hbm, ⟨24, _⟩ => ⟨S4x4x256, .f32⟩
  | .hbm, ⟨25, _⟩ => ⟨S4x4x256x1, .f32⟩
  | .hbm, ⟨26, _⟩ => ⟨S4x4x256x256, .f32⟩
  | .hbm, ⟨27, _⟩ => ⟨S4x4x256x256, .f32⟩
  | .hbm, ⟨28, _⟩ => ⟨S4x4x64x256, .f32⟩
  | .hbm, ⟨29, _⟩ => ⟨S4x4096x4x128, .f32⟩
  | .hbm, ⟨30, _⟩ => ⟨S4x4x4096x4352, .f32⟩
  | .hbm, ⟨31, _⟩ => ⟨S_, .f32⟩
  | .hbm, ⟨32, _⟩ => ⟨S4x4x4096, .f32⟩
  | .hbm, ⟨33, _⟩ => ⟨S_, .f32⟩
  | .hbm, ⟨34, _⟩ => ⟨S4x4x4096, .f32⟩
  | .hbm, ⟨35, _⟩ => ⟨S4x4x4096, .f32⟩
  | .hbm, ⟨36, _⟩ => ⟨S4x4x4096x1, .f32⟩
  | .hbm, ⟨37, _⟩ => ⟨S4x4x4096x4352, .f32⟩
  | .hbm, ⟨38, _⟩ => ⟨S4x4x4096x4352, .f32⟩
  | .hbm, ⟨39, _⟩ => ⟨S4x4x4096x4352, .f32⟩
  | .hbm, ⟨40, _⟩ => ⟨S_, .f32⟩
  | .hbm, ⟨41, _⟩ => ⟨S4x4x4096, .f32⟩
  | .hbm, ⟨42, _⟩ => ⟨S4x4x4096x1, .f32⟩
  | .hbm, ⟨43, _⟩ => ⟨S4x4x4096x4352, .f32⟩
  | .hbm, ⟨44, _⟩ => ⟨S4x4x4096x4352, .f32⟩
  | .hbm, ⟨45, _⟩ => ⟨S4x4x64x4096, .f32⟩
  | .hbm, ⟨46, _⟩ => ⟨S4x4x64x4352, .f32⟩
  | .hbm, ⟨47, _⟩ => ⟨S4x256x17x256, .f32⟩
  | .hbm, ⟨48, _⟩ => ⟨S4x17x256x256, .f32⟩
  | .hbm, ⟨49, _⟩ => ⟨S68x256x256, .f32⟩
  | .hbm, ⟨50, _⟩ => ⟨S68x256x256, .bf16⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel2.lean ====
abbrev S17408x512 : Shape := ⟨2, ![17408, 512]⟩
abbrev S4x320x4352 : Shape := ⟨3, ![4, 320, 4352]⟩
abbrev S64x256x256 : Shape := ⟨3, ![64, 256, 256]⟩
abbrev S256x512 : Shape := ⟨2, ![256, 512]⟩
abbrev S4352x512 : Shape := ⟨2, ![4352, 512]⟩
abbrev S1x320x4352 : Shape := ⟨3, ![1, 320, 4352]⟩
abbrev S1x256x256 : Shape := ⟨3, ![1, 256, 256]⟩
abbrev S4x4352x256 : Shape := ⟨3, ![4, 4352, 256]⟩
abbrev S256x128 : Shape := ⟨2, ![256, 128]⟩
abbrev S1x256 : Shape := ⟨2, ![1, 256]⟩
abbrev S256x256 : Shape := ⟨2, ![256, 256]⟩
abbrev S256 : Shape := ⟨1, ![256]⟩
abbrev S80x256 : Shape := ⟨2, ![80, 256]⟩
abbrev S1x80x256 : Shape := ⟨3, ![1, 80, 256]⟩
abbrev S64x256 : Shape := ⟨2, ![64, 256]⟩
abbrev S1x64x256 : Shape := ⟨3, ![1, 64, 256]⟩

abbrev nBuf : Space → Nat
  | .hbm => 4
  | .vmem => 9
  | .smem => 0
  | _ => 0

abbrev bufTy : (tb : Table) → Fin (tcTables nBuf tb) → BufTy
  | .hbm, ⟨0, _⟩ => ⟨S17408x512, .bf16⟩
  | .hbm, ⟨1, _⟩ => ⟨S17408x512, .bf16⟩
  | .hbm, ⟨2, _⟩ => ⟨S4x320x4352, .bf16⟩
  | .hbm, ⟨3, _⟩ => ⟨S64x256x256, .bf16⟩
  | .local _ .vmem, ⟨0, _⟩ => ⟨S256x512, .bf16⟩
  | .local _ .vmem, ⟨1, _⟩ => ⟨S256x512, .bf16⟩
  | .local _ .vmem, ⟨2, _⟩ => ⟨S4352x512, .bf16⟩
  | .local _ .vmem, ⟨3, _⟩ => ⟨S4352x512, .bf16⟩
  | .local _ .vmem, ⟨4, _⟩ => ⟨S1x320x4352, .bf16⟩
  | .local _ .vmem, ⟨5, _⟩ => ⟨S1x320x4352, .bf16⟩
  | .local _ .vmem, ⟨6, _⟩ => ⟨S1x256x256, .bf16⟩
  | .local _ .vmem, ⟨7, _⟩ => ⟨S1x256x256, .bf16⟩
  | .local _ .vmem, ⟨8, _⟩ => ⟨S4x4352x256, .f32⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 16], ![false, false, false]⟩

def k0_cond1 (i : grid0.Coords) : BitVec 1 :=
  let arg2 : BitVec 32 := BitVec.ofNat 32 (i 2).val
  let c1_i32 : BitVec 32 := 1#32
  let v0 : BitVec 32 := Scalar.addi arg2 c1_i32
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg2 : BitVec 32 := BitVec.ofNat 32 (i 2).val
  let c1_i32 : BitVec 32 := 1#32
  let v0 : BitVec 32 := Scalar.addi arg2 c1_i32
  let c0_i32_1 : BitVec 32 := 0#32
  let v4 : BitVec 1 := Scalar.cmpi .sgt v0 c0_i32_1
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c1_i32 : BitVec 32 := 1#32
  let v2 : BitVec 32 := Scalar.addi v1 c1_i32
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x320x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S17408x512 : Shape := ⟨2, ![17408, 512]⟩
abbrev S4x320x4352 : Shape := ⟨3, ![4, 320, 4352]⟩
abbrev S4x4352x4x128 : Shape := ⟨4, ![4, 4352, 4, 128]⟩
abbrev S4x4096x4x128 : Shape := ⟨4, ![4, 4096, 4, 128]⟩
abbrev S4x4x80x4352 : Shape := ⟨4, ![4, 4, 80, 4352]⟩
abbrev S4x4x64x4352 : Shape := ⟨4, ![4, 4, 64, 4352]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x256x16x256 : Shape := ⟨4, ![4, 256, 16, 256]⟩
abbrev S4x16x256x256 : Shape := ⟨4, ![4, 16, 256, 256]⟩
abbrev S64x256x256 : Shape := ⟨3, ![64, 256, 256]⟩

abbrev nBuf : Space → Nat
  | .hbm => 31
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S17408x512, .bf16⟩
  | .hbm, ⟨2, _⟩ => ⟨S4x320x4352, .bf16⟩
  | .hbm, ⟨3, _⟩ => ⟨S17408x512, .f32⟩
  | .hbm, ⟨4, _⟩ => ⟨S4x4352x4x128, .f32⟩
  | .hbm, ⟨5, _⟩ => ⟨S4x4096x4x128, .f32⟩
  | .hbm, ⟨6, _⟩ => ⟨S17408x512, .f32⟩
  | .hbm, ⟨7, _⟩ => ⟨S4x4352x4x128, .f32⟩
  | .hbm, ⟨8, _⟩ => ⟨S4x320x4352, .f32⟩
  | .hbm, ⟨9, _⟩ => ⟨S4x4x80x4352, .f32⟩
  | .hbm, ⟨10, _⟩ => ⟨S4x4x64x4352, .f32⟩
  | .hbm, ⟨11, _⟩ => ⟨S4x4x4096x4352, .f32⟩
  | .hbm, ⟨12, _⟩ => ⟨S_, .f32⟩
  | .hbm, ⟨13, _⟩ => ⟨S4x4x4096, .f32⟩
  | .hbm, ⟨14, _⟩ => ⟨S_, .f32⟩
  | .hbm, ⟨15, _⟩ => ⟨S4x4x4096, .f32⟩
  | .hbm, ⟨16, _⟩ => ⟨S4x4x4096, .f32⟩
  | .hbm, ⟨17, _⟩ => ⟨S4x4x4096x1, .f32⟩
  | .hbm, ⟨18, _⟩ => ⟨S4x4x4096x4352, .f32⟩
  | .hbm, ⟨19, _⟩ => ⟨S4x4x4096x4352, .f32⟩
  | .hbm, ⟨20, _⟩ => ⟨S4x4x4096x4352, .f32⟩
  | .hbm, ⟨21, _⟩ => ⟨S_, .f32⟩
  | .hbm, ⟨22, _⟩ => ⟨S4x4x4096, .f32⟩
  | .hbm, ⟨23, _⟩ => ⟨S4x4x4096x1, .f32⟩
  | .hbm, ⟨24, _⟩ => ⟨S4x4x4096x4352, .f32⟩
  | .hbm, ⟨25, _⟩ => ⟨S4x4x4096x4352, .f32⟩
  | .hbm, ⟨26, _⟩ => ⟨S4x4x64x4096, .f32⟩
  | .hbm, ⟨27, _⟩ => ⟨S4x256x16x256, .f32⟩
  | .hbm, ⟨28, _⟩ => ⟨S4x16x256x256, .f32⟩
  | .hbm, ⟨29, _⟩ => ⟨S64x256x256, .f32⟩
  | .hbm, ⟨30, _⟩ => ⟨S64x256x256, .bf16⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel3.lean ====
abbrev S4x256x1024 : Shape := ⟨3, ![4, 256, 1024]⟩
abbrev S4x4096x1024 : Shape := ⟨3, ![4, 4096, 1024]⟩
abbrev S8x6144 : Shape := ⟨2, ![8, 6144]⟩
abbrev S1x1024 : Shape := ⟨2, ![1, 1024]⟩
abbrev S1024x3456 : Shape := ⟨2, ![1024, 3456]⟩
abbrev S17408x1024 : Shape := ⟨2, ![17408, 1024]⟩
abbrev S17408x1280 : Shape := ⟨2, ![17408, 1280]⟩
abbrev S17408x768 : Shape := ⟨2, ![17408, 768]⟩
abbrev S17408x896 : Shape := ⟨2, ![17408, 896]⟩
abbrev S17408x512 : Shape := ⟨2, ![17408, 512]⟩
abbrev S1x256x1024 : Shape := ⟨3, ![1, 256, 1024]⟩
abbrev S256x1024 : Shape := ⟨2, ![256, 1024]⟩
abbrev S256x1280 : Shape := ⟨2, ![256, 1280]⟩
abbrev S256x768 : Shape := ⟨2, ![256, 768]⟩
abbrev S256x896 : Shape := ⟨2, ![256, 896]⟩
abbrev S256x512 : Shape := ⟨2, ![256, 512]⟩
abbrev S1x6144 : Shape := ⟨2, ![1, 6144]⟩
abbrev S256 : Shape := ⟨1, ![256]⟩
abbrev S256x1 : Shape := ⟨2, ![256, 1]⟩
abbrev S256x3456 : Shape := ⟨2, ![256, 3456]⟩

abbrev nBuf : Space → Nat
  | .hbm => 10
  | .vmem => 17
  | .smem => 0
  | _ => 0

abbrev bufTy : (tb : Table) → Fin (tcTables nBuf tb) → BufTy
  | .hbm, ⟨0, _⟩ => ⟨S4x256x1024, .f32⟩
  | .hbm, ⟨1, _⟩ => ⟨S4x4096x1024, .f32⟩
  | .hbm, ⟨2, _⟩ => ⟨S8x6144, .f32⟩
  | .hbm, ⟨3, _⟩ => ⟨S1x1024, .f32⟩
  | .hbm, ⟨4, _⟩ => ⟨S1024x3456, .bf16⟩
  | .hbm, ⟨5, _⟩ => ⟨S17408x1024, .f32⟩
  | .hbm, ⟨6, _⟩ => ⟨S17408x1280, .f32⟩
  | .hbm, ⟨7, _⟩ => ⟨S17408x768, .bf16⟩
  | .hbm, ⟨8, _⟩ => ⟨S17408x896, .f32⟩
  | .hbm, ⟨9, _⟩ => ⟨S17408x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S8x6144, .f32⟩
  | .local _ .vmem, ⟨5, _⟩ => ⟨S1x1024, .f32⟩
  | .local _ .vmem, ⟨6, _⟩ => ⟨S1024x3456, .bf16⟩
  | .local _ .vmem, ⟨7, _⟩ => ⟨S256x1024, .f32⟩
  | .local _ .vmem, ⟨8, _⟩ => ⟨S256x1024, .f32⟩
  | .local _ .vmem, ⟨9, _⟩ => ⟨S256x1280, .f32⟩
  | .local _ .vmem, ⟨10, _⟩ => ⟨S256x1280, .f32⟩
  | .local _ .vmem, ⟨11, _⟩ => ⟨S256x768, .bf16⟩
  | .local _ .vmem, ⟨12, _⟩ => ⟨S256x768, .bf16⟩
  | .local _ .vmem, ⟨13, _⟩ => ⟨S256x896, .f32⟩
  | .local _ .vmem, ⟨14, _⟩ => ⟨S256x896, .f32⟩
  | .local _ .vmem, ⟨15, _⟩ => ⟨S256x512, .f32⟩
  | .local _ .vmem, ⟨16, _⟩ => ⟨S256x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![68], ![false]⟩

def k0_off1 (i : grid0.Coords) : Fin 2 → Nat :=
  let arg0 : BitVec 32 := BitVec.ofNat 32 (i 0).val
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .eq v26 c0_i32_10
  let c4_i32 : BitVec 32 := 4#32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c17_i32 : BitVec 32 := 17#32
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let v0 : BitVec 32 := Scalar.divsi arg0 c17_i32
  let c1_i32 : BitVec 32 := 1#32
  let v15 : BitVec 32 := Scalar.subi v0 c1_i32
  let v16 : BitVec 32 := Scalar.select v14 v15 v0
  let v28 : BitVec 32 := Scalar.select v27 c4_i32 v16
  let v35 : Index := Scalar.indexCast v28
  let c0_18 : Index := 0#32
  ![v35.toNat, 0]
def cc0_transform_0 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi v26 c1_i32_10
  let c0_i32_11 : BitVec 32 := 0#32
  let v28 : BitVec 32 := Scalar.maxsi v27 c0_i32_11
  let c0_i32_12 : BitVec 32 := 0#32
  let c0_i32_13 : BitVec 32 := 0#32
  ![v16.toNat, v28.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x256x1024 : Shape := ⟨3, ![4, 256, 1024]⟩
abbrev S4x4096x1024 : Shape := ⟨3, ![4, 4096, 1024]⟩
abbrev S8x6144 : Shape := ⟨2, ![8, 6144]⟩
abbrev S1x1024 : Shape := ⟨2, ![1, 1024]⟩
abbrev S1024x3456 : Shape := ⟨2, ![1024, 3456]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x1024 : Shape := ⟨2, ![4, 1024]⟩
abbrev S4x1x1024 : Shape := ⟨3, ![4, 1, 1024]⟩
abbrev S4x4096 : Shape := ⟨2, ![4, 4096]⟩
abbrev S4x4096x1 : Shape := ⟨3, ![4, 4096, 1]⟩
abbrev S4x4352x1024 : Shape := ⟨3, ![4, 4352, 1024]⟩
abbrev S17408x1024 : Shape := ⟨2, ![17408, 1024]⟩
abbrev S17408x3456 : Shape := ⟨2, ![17408, 3456]⟩
abbrev S17408x1280 : Shape := ⟨2, ![17408, 1280]⟩
abbrev S17408x768 : Shape := ⟨2, ![17408, 768]⟩
abbrev S17408x896 : Shape := ⟨2, ![17408, 896]⟩
abbrev S17408x512 : Shape := ⟨2, ![17408, 512]⟩

abbrev nBuf : Space → Nat
  | .hbm => 72
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x4096x1024, .f32⟩
  | .hbm, ⟨2, _⟩ => ⟨S8x6144, .f32⟩
  | .hbm, ⟨3, _⟩ => ⟨S1x1024, .f32⟩
  | .hbm, ⟨4, _⟩ => ⟨S1024x3456, .bf16⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S4x256x1024, .f32⟩
  | .hbm, ⟨10, _⟩ => ⟨S_, .f32⟩
  | .hbm, ⟨11, _⟩ => ⟨S4x256, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S4x256x1, .f32⟩
  | .hbm, ⟨20, _⟩ => ⟨S4x256x1024, .f32⟩
  | .hbm, ⟨21, _⟩ => ⟨S4x256x1024, .f32⟩
  | .hbm, ⟨22, _⟩ => ⟨S1x1x1024, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1x1024, .f32⟩
  | .hbm, ⟨29, _⟩ => ⟨S4x256x1024, .f32⟩
  | .hbm, ⟨30, _⟩ => ⟨S4x256x1024, .f32⟩
  | .hbm, ⟨31, _⟩ => ⟨S1x1x1024, .f32⟩
  | .hbm, ⟨32, _⟩ => ⟨S4x256x1024, .f32⟩
  | .hbm, ⟨33, _⟩ => ⟨S4x256x1024, .f32⟩
  | .hbm, ⟨34, _⟩ => ⟨S4x1024, .f32⟩
  | .hbm, ⟨35, _⟩ => ⟨S4x1x1024, .f32⟩
  | .hbm, ⟨36, _⟩ => ⟨S4x1024, .f32⟩
  | .hbm, ⟨37, _⟩ => ⟨S4x1x1024, .f32⟩
  | .hbm, ⟨38, _⟩ => ⟨S4x4096x1024, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x1024, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x1x1024, .f32⟩
  | .hbm, ⟨56, _⟩ => ⟨S4x1x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4352x1024, .f32⟩
  | .hbm, ⟨62, _⟩ => ⟨S17408x1024, .f32⟩
  | .hbm, ⟨63, _⟩ => ⟨S4x4352x1024, .f32⟩
  | .hbm, ⟨64, _⟩ => ⟨S17408x1024, .f32⟩
  | .hbm, ⟨65, _⟩ => ⟨S1024x3456, .f32⟩
  | .hbm, ⟨66, _⟩ => ⟨S17408x3456, .f32⟩
  | .hbm, ⟨67, _⟩ => ⟨S17408x1280, .f32⟩
  | .hbm, ⟨68, _⟩ => ⟨S17408x768, .f32⟩
  | .hbm, ⟨69, _⟩ => ⟨S17408x768, .bf16⟩
  | .hbm, ⟨70, _⟩ => ⟨S17408x896, .f32⟩
  | .hbm, ⟨71, _⟩ => ⟨S17408x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel4.lean ====
abbrev S17408x1024 : Shape := ⟨2, ![17408, 1024]⟩
abbrev S139264x128 : Shape := ⟨2, ![139264, 128]⟩
abbrev S8x6144 : Shape := ⟨2, ![8, 6144]⟩
abbrev S1x1024 : Shape := ⟨2, ![1, 1024]⟩
abbrev S1024x3456 : Shape := ⟨2, ![1024, 3456]⟩
abbrev S17408x1280 : Shape := ⟨2, ![17408, 1280]⟩
abbrev S17408x768 : Shape := ⟨2, ![17408, 768]⟩
abbrev S17408x896 : Shape := ⟨2, ![17408, 896]⟩
abbrev S17408x512 : Shape := ⟨2, ![17408, 512]⟩
abbrev S256x1024 : Shape := ⟨2, ![256, 1024]⟩
abbrev S2048x128 : Shape := ⟨2, ![2048, 128]⟩
abbrev S256x1280 : Shape := ⟨2, ![256, 1280]⟩
abbrev S256x768 : Shape := ⟨2, ![256, 768]⟩
abbrev S256x896 : Shape := ⟨2, ![256, 896]⟩
abbrev S256x512 : Shape := ⟨2, ![256, 512]⟩
abbrev S1x6144 : Shape := ⟨2, ![1, 6144]⟩
abbrev S256x128 : Shape := ⟨2, ![256, 128]⟩
abbrev S256 : Shape := ⟨1, ![256]⟩
abbrev S256x1 : Shape := ⟨2, ![256, 1]⟩
abbrev S256x3456 : Shape := ⟨2, ![256, 3456]⟩

abbrev nBuf : Space → Nat
  | .hbm => 11
  | .vmem => 18
  | .smem => 0
  | _ => 0

abbrev bufTy : (tb : Table) → Fin (tcTables nBuf tb) → BufTy
  | .hbm, ⟨0, _⟩ => ⟨S17408x1024, .f32⟩
  | .hbm, ⟨1, _⟩ => ⟨S139264x128, .f32⟩
  | .hbm, ⟨2, _⟩ => ⟨S8x6144, .f32⟩
  | .hbm, ⟨3, _⟩ => ⟨S8x6144, .f32⟩
  | .hbm, ⟨4, _⟩ => ⟨S1x1024, .f32⟩
  | .hbm, ⟨5, _⟩ => ⟨S1024x3456, .bf16⟩
  | .hbm, ⟨6, _⟩ => ⟨S17408x1024, .f32⟩
  | .hbm, ⟨7, _⟩ => ⟨S17408x1280, .f32⟩
  | .hbm, ⟨8, _⟩ => ⟨S17408x768, .bf16⟩
  | .hbm, ⟨9, _⟩ => ⟨S17408x896, .f32⟩
  | .hbm, ⟨10, _⟩ => ⟨S17408x512, .f32⟩
  | .local _ .vmem, ⟨0, _⟩ => ⟨S256x1024, .f32⟩
  | .local _ .vmem, ⟨1, _⟩ => ⟨S256x1024, .f32⟩
  | .local _ .vmem, ⟨2, _⟩ => ⟨S2048x128, .f32⟩
  | .local _ .vmem, ⟨3, _⟩ => ⟨S2048x128, .f32⟩
  | .local _ .vmem, ⟨4, _⟩ => ⟨S8x6144, .f32⟩
  | .local _ .vmem, ⟨5, _⟩ => ⟨S8x6144, .f32⟩
  | .local _ .vmem, ⟨6, _⟩ => ⟨S1x1024, .f32⟩
  | .local _ .vmem, ⟨7, _⟩ => ⟨S1024x3456, .bf16⟩
  | .local _ .vmem, ⟨8, _⟩ => ⟨S256x1024, .f32⟩
  | .local _ .vmem, ⟨9, _⟩ => ⟨S256x1024, .f32⟩
  | .local _ .vmem, ⟨10, _⟩ => ⟨S256x1280, .f32⟩
  | .local _ .vmem, ⟨11, _⟩ => ⟨S256x1280, .f32⟩
  | .local _ .vmem, ⟨12, _⟩ => ⟨S256x768, .bf16⟩
  | .local _ .vmem, ⟨13, _⟩ => ⟨S256x768, .bf16⟩
  | .local _ .vmem, ⟨14, _⟩ => ⟨S256x896, .f32⟩
  | .local _ .vmem, ⟨15, _⟩ => ⟨S256x896, .f32⟩
  | .local _ .vmem, ⟨16, _⟩ => ⟨S256x512, .f32⟩
  | .local _ .vmem, ⟨17, _⟩ => ⟨S256x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![68], ![false]⟩

def k0_off1 (i : grid0.Coords) : Fin 2 → Nat :=
  let arg0 : BitVec 32 := BitVec.ofNat 32 (i 0).val
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .eq v26 c0_i32_10
  let c4_i32 : BitVec 32 := 4#32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c17_i32 : BitVec 32 := 17#32
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let v0 : BitVec 32 := Scalar.divsi arg0 c17_i32
  let c1_i32 : BitVec 32 := 1#32
  let v15 : BitVec 32 := Scalar.subi v0 c1_i32
  let v16 : BitVec 32 := Scalar.select v14 v15 v0
  let v28 : BitVec 32 := Scalar.select v27 c4_i32 v16
  let v29 : Index := Scalar.indexCast v28
  let c0 : Index := 0#32
  ![v29.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3456 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S17408x1024 : Shape := ⟨2, ![17408, 1024]⟩
abbrev S139264x128 : Shape := ⟨2, ![139264, 128]⟩
abbrev S8x6144 : Shape := ⟨2, ![8, 6144]⟩
abbrev S1x1024 : Shape := ⟨2, ![1, 1024]⟩
abbrev S1024x3456 : Shape := ⟨2, ![1024, 3456]⟩
abbrev S4x4352x1024 : Shape := ⟨3, ![4, 4352, 1024]⟩
abbrev S4x256x1024 : Shape := ⟨3, ![4, 256, 1024]⟩
abbrev S1024 : Shape := ⟨1, ![1024]⟩
abbrev S1x1x1024 : Shape := ⟨3, ![1, 1, 1024]⟩
abbrev S4x4096x1024 : Shape := ⟨3, ![4, 4096, 1024]⟩
abbrev S4x1024 : Shape := ⟨2, ![4, 1024]⟩
abbrev S4x1x1024 : Shape := ⟨3, ![4, 1, 1024]⟩
abbrev S_ : Shape := ⟨0, ![]⟩
abbrev S4x256 : Shape := ⟨2, ![4, 256]⟩
abbrev S4x256x1 : Shape := ⟨3, ![4, 256, 1]⟩
abbrev S4x4096 : Shape := ⟨2, ![4, 4096]⟩
abbrev S4x4096x1 : Shape := ⟨3, ![4, 4096, 1]⟩
abbrev S17408x3456 : Shape := ⟨2, ![17408, 3456]⟩
abbrev S17408x1280 : Shape := ⟨2, ![17408, 1280]⟩
abbrev S17408x768 : Shape := ⟨2, ![17408, 768]⟩
abbrev S17408x896 : Shape := ⟨2, ![17408, 896]⟩
abbrev S17408x512 : Shape := ⟨2, ![17408, 512]⟩

abbrev nBuf : Space → Nat
  | .hbm => 90
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S139264x128, .f32⟩
  | .hbm, ⟨2, _⟩ => ⟨S8x6144, .f32⟩
  | .hbm, ⟨3, _⟩ => ⟨S8x6144, .f32⟩
  | .hbm, ⟨4, _⟩ => ⟨S1x1024, .f32⟩
  | .hbm, ⟨5, _⟩ => ⟨S1024x3456, .bf16⟩
  | .hbm, ⟨6, _⟩ => ⟨S4x4352x1024, .f32⟩
  | .hbm, ⟨7, _⟩ => ⟨S4x4352x1024, .f32⟩
  | .hbm, ⟨8, _⟩ => ⟨S4x256x1024, .f32⟩
  | .hbm, ⟨9, _⟩ => ⟨S1x1024, .f32⟩
  | .hbm, ⟨10, _⟩ => ⟨S1024, .f32⟩
  | .hbm, ⟨11, _⟩ => ⟨S4x256x1024, .f32⟩
  | .hbm, ⟨12, _⟩ => ⟨S1x1x1024, .f32⟩
  | .hbm, ⟨13, _⟩ => ⟨S4x256x1024, .f32⟩
  | .hbm, ⟨14, _⟩ => ⟨S4x256x1024, .f32⟩
  | .hbm, ⟨15, _⟩ => ⟨S4x256x1024, .f32⟩
  | .hbm, ⟨16, _⟩ => ⟨S4x4096x1024, .f32⟩
  | .hbm, ⟨17, _⟩ => ⟨S4x1024, .f32⟩
  | .hbm, ⟨18, _⟩ => ⟨S4x1x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S4x256x1024, .f32⟩
  | .hbm, ⟨28, _⟩ => ⟨S_, .f32⟩
  | .hbm, ⟨29, _⟩ => ⟨S4x256, .f32⟩
  | .hbm, ⟨30, _⟩ => ⟨S4x256x1, .f32⟩
  | .hbm, ⟨31, _⟩ => ⟨S_, .f32⟩
  | .hbm, ⟨32, _⟩ => ⟨S4x256x1, .f32⟩
  | .hbm, ⟨33, _⟩ => ⟨S4x256x1, .f32⟩
  | .hbm, ⟨34, _⟩ => ⟨S_, .f32⟩
  | .hbm, ⟨35, _⟩ => ⟨S4x256x1, .f32⟩
  | .hbm, ⟨36, _⟩ => ⟨S4x256x1, .f32⟩
  | .hbm, ⟨37, _⟩ => ⟨S4x256x1, .f32⟩
  | .hbm, ⟨38, _⟩ => ⟨S4x256x1024, .f32⟩
  | .hbm, ⟨39, _⟩ => ⟨S4x256x1024, .f32⟩
  | .hbm, ⟨40, _⟩ => ⟨S1x1x1024, .f32⟩
  | .hbm, ⟨41, _⟩ => ⟨S4x256x1024, .f32⟩
  | .hbm, ⟨42, _⟩ => ⟨S4x256x1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1x1x1024, .f32⟩
  | .hbm, ⟨47, _⟩ => ⟨S4x256x1024, .f32⟩
  | .hbm, ⟨48, _⟩ => ⟨S4x256x1024, .f32⟩
  | .hbm, ⟨49, _⟩ => ⟨S1x1x1024, .f32⟩
  | .hbm, ⟨50, _⟩ => ⟨S4x256x1024, .f32⟩
  | .hbm, ⟨51, _⟩ => ⟨S4x256x1024, .f32⟩
  | .hbm, ⟨52, _⟩ => ⟨S4x1024, .f32⟩
  | .hbm, ⟨53, _⟩ => ⟨S4x1x1024, .f32⟩
  | .hbm, ⟨54, _⟩ => ⟨S4x1024, .f32⟩
  | .hbm, ⟨55, _⟩ => ⟨S4x1x1024, .f32⟩
  | .hbm, ⟨56, _⟩ => ⟨S4x4096x1024, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x1, .f32⟩
  | .hbm, ⟨67, _⟩ => ⟨S4x4096x1024, .f32⟩
  | .hbm, ⟨68, _⟩ => ⟨S4x4096x1024, .f32⟩
  | .hbm, ⟨69, _⟩ => ⟨S1x1x1024, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x1x1024, .f32⟩
  | .hbm, ⟨74, _⟩ => ⟨S4x1x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S4x4096x1024, .f32⟩
  | .hbm, ⟨79, _⟩ => ⟨S4x4352x1024, .f32⟩
  | .hbm, ⟨80, _⟩ => ⟨S17408x1024, .f32⟩
  | .hbm, ⟨81, _⟩ => ⟨S4x4352x1024, .f32⟩
  | .hbm, ⟨82, _⟩ => ⟨S17408x1024, .f32⟩
  | .hbm, ⟨83, _⟩ => ⟨S1024x3456, .f32⟩
  | .hbm, ⟨84, _⟩ => ⟨S17408x3456, .f32⟩
  | .hbm, ⟨85, _⟩ => ⟨S17408x1280, .f32⟩
  | .hbm, ⟨86, _⟩ => ⟨S17408x768, .f32⟩
  | .hbm, ⟨87, _⟩ => ⟨S17408x768, .bf16⟩
  | .hbm, ⟨88, _⟩ => ⟨S17408x896, .f32⟩
  | .hbm, ⟨89, _⟩ => ⟨S17408x512, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩

abbrev nD : Nat := 1
abbrev τ : Topo := Topo.v7x

variable {F : FTy → Type} [FloatOps F]
-- ==== Kernel5.lean ====
abbrev S16384x1024 : Shape := ⟨2, ![16384, 1024]⟩
abbrev S131072x128 : Shape := ⟨2, ![131072, 128]⟩
abbrev S8x6144 : Shape := ⟨2, ![8, 6144]⟩
abbrev S1x1024 : Shape := ⟨2, ![1, 1024]⟩
abbrev S256x1024 : Shape := ⟨2, ![256, 1024]⟩
abbrev S2048x128 : Shape := ⟨2, ![2048, 128]⟩
abbrev S1x6144 : Shape := ⟨2, ![1, 6144]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S131072x128, .f32⟩
  | .hbm, ⟨2, _⟩ => ⟨S8x6144, .f32⟩
  | .hbm, ⟨3, _⟩ => ⟨S1x1024, .f32⟩
  | .hbm, ⟨4, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S2048x128, .f32⟩
  | .local _ .vmem, ⟨3, _⟩ => ⟨S2048x128, .f32⟩
  | .local _ .vmem, ⟨4, _⟩ => ⟨S8x6144, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : Index := Scalar.indexCast v16
  let c0 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x1024 : Shape := ⟨2, ![16384, 1024]⟩
abbrev S131072x128 : Shape := ⟨2, ![131072, 128]⟩
abbrev S8x6144 : Shape := ⟨2, ![8, 6144]⟩
abbrev S1x1024 : Shape := ⟨2, ![1, 1024]⟩
abbrev S4x4096x1024 : Shape := ⟨3, ![4, 4096, 1024]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S131072x128, .f32⟩
  | .hbm, ⟨2, _⟩ => ⟨S8x6144, .f32⟩
  | .hbm, ⟨3, _⟩ => ⟨S1x1024, .f32⟩
  | .hbm, ⟨4, _⟩ => ⟨S4x4096x1024, .f32⟩
  | .hbm, ⟨5, _⟩ => ⟨S4x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S17408x256 : Shape := ⟨2, ![17408, 256]⟩
abbrev S17408x1280 : Shape := ⟨2, ![17408, 1280]⟩
abbrev S17408x896 : Shape := ⟨2, ![17408, 896]⟩
abbrev S68x256x256 : Shape := ⟨3, ![68, 256, 256]⟩
abbrev S17408x1024 : Shape := ⟨2, ![17408, 1024]⟩
abbrev S8x6144 : Shape := ⟨2, ![8, 6144]⟩
abbrev S1x256 : Shape := ⟨2, ![1, 256]⟩
abbrev S1x1024 : Shape := ⟨2, ![1, 1024]⟩
abbrev S1024x1024 : Shape := ⟨2, ![1024, 1024]⟩
abbrev S256x256 : Shape := ⟨2, ![256, 256]⟩
abbrev S256x1024 : Shape := ⟨2, ![256, 1024]⟩
abbrev S139264x128 : Shape := ⟨2, ![139264, 128]⟩
abbrev S1x256x256 : Shape := ⟨3, ![1, 256, 256]⟩
abbrev S2048x128 : Shape := ⟨2, ![2048, 128]⟩
abbrev S1x6144 : Shape := ⟨2, ![1, 6144]⟩
abbrev S256 : Shape := ⟨1, ![256]⟩
abbrev S256x1 : Shape := ⟨2, ![256, 1]⟩
abbrev S256x128 : Shape := ⟨2, ![256, 128]⟩

abbrev nBuf : Space → Nat
  | .hbm => 25
  | .vmem => 31
  | .smem => 0
  | _ => 0

abbrev bufTy : (tb : Table) → Fin (tcTables nBuf tb) → BufTy
  | .hbm, ⟨0, _⟩ => ⟨S17408x256, .f32⟩
  | .hbm, ⟨1, _⟩ => ⟨S17408x256, .f32⟩
  | .hbm, ⟨2, _⟩ => ⟨S17408x1280, .f32⟩
  | .hbm, ⟨3, _⟩ => ⟨S17408x256, .bf16⟩
  | .hbm, ⟨4, _⟩ => ⟨S17408x256, .f32⟩
  | .hbm, ⟨5, _⟩ => ⟨S17408x256, .f32⟩
  | .hbm, ⟨6, _⟩ => ⟨S17408x896, .f32⟩
  | .hbm, ⟨7, _⟩ => ⟨S68x256x256, .bf16⟩
  | .hbm, ⟨8, _⟩ => ⟨S17408x1024, .f32⟩
  | .hbm, ⟨9, _⟩ => ⟨S8x6144, .f32⟩
  | .hbm, ⟨10, _⟩ => ⟨S1x256, .f32⟩
  | .hbm, ⟨11, _⟩ => ⟨S1x256, .f32⟩
  | .hbm, ⟨12, _⟩ => ⟨S1x1024, .f32⟩
  | .hbm, ⟨13, _⟩ => ⟨S1024x1024, .f32⟩
  | .hbm, ⟨14, _⟩ => ⟨S256x256, .bf16⟩
  | .hbm, ⟨15, _⟩ => ⟨S256x1024, .f32⟩
  | .hbm, ⟨16, _⟩ => ⟨S256x1024, .bf16⟩
  | .hbm, ⟨17, _⟩ => ⟨S256x1024, .f32⟩
  | .hbm, ⟨18, _⟩ => ⟨S256x1024, .bf16⟩
  | .hbm, ⟨19, _⟩ => ⟨S256x1024, .f32⟩
  | .hbm, ⟨20, _⟩ => ⟨S256x1024, .bf16⟩
  | .hbm, ⟨21, _⟩ => ⟨S256x1024, .f32⟩
  | .hbm, ⟨22, _⟩ => ⟨S256x1024, .bf16⟩
  | .hbm, ⟨23, _⟩ => ⟨S17408x1024, .f32⟩
  | .hbm, ⟨24, _⟩ => ⟨S139264x128, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S1x256x256, .bf16⟩
  | .local _ .vmem, ⟨15, _⟩ => ⟨S1x256x256, .bf16⟩
  | .local _ .vmem, ⟨16, _⟩ => ⟨S256x1024, .f32⟩
  | .local _ .vmem, ⟨17, _⟩ => ⟨S256x1024, .f32⟩
  | .local _ .vmem, ⟨18, _⟩ => ⟨S8x6144, .f32⟩
  | .local _ .vmem, ⟨19, _⟩ => ⟨S1x256, .f32⟩
  | .local _ .vmem, ⟨20, _⟩ => ⟨S1x256, .f32⟩
  | .local _ .vmem, ⟨21, _⟩ => ⟨S1x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x256, .bf16⟩
  | .local _ .vmem, ⟨27, _⟩ => ⟨S256x1024, .f32⟩
  | .local _ .vmem, ⟨28, _⟩ => ⟨S256x1024, .f32⟩
  | .local _ .vmem, ⟨29, _⟩ => ⟨S2048x128, .f32⟩
  | .local _ .vmem, ⟨30, _⟩ => ⟨S2048x128, .f32⟩
  | _, _ => ⟨S17408x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![68], ![false]⟩

def k0_off1 (i : grid0.Coords) : Fin 2 → Nat :=
  let arg0 : BitVec 32 := BitVec.ofNat 32 (i 0).val
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi v26 c0_i32_10
  let c0_i32_11 : BitVec 32 := 0#32
  let v28 : BitVec 1 := Scalar.cmpi .eq v27 c0_i32_11
  let c4_i32 : BitVec 32 := 4#32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c17_i32 : BitVec 32 := 17#32
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let v0 : BitVec 32 := Scalar.divsi arg0 c17_i32
  let c1_i32 : BitVec 32 := 1#32
  let v15 : BitVec 32 := Scalar.subi v0 c1_i32
  let v16 : BitVec 32 := Scalar.select v14 v15 v0
  let v29 : BitVec 32 := Scalar.select v28 c4_i32 v16
  let v121 : Index := Scalar.indexCast v29
  let c0_61 : Index := 0#32
  ![v121.toNat, 0]
def cc0_transform_0 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.muli v16 c17_i32_4
  let c17_i32_5 : BitVec 32 := 17#32
  let c0_i32_6 : BitVec 32 := 0#32
  let v18 : BitVec 1 := Scalar.cmpi .eq c17_i32_5 c0_i32_6
  let c1_i32_7 : BitVec 32 := 1#32
  let v19 : BitVec 32 := Scalar.select v18 c1_i32_7 c17_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let v29 : BitVec 32 := Scalar.addi v28 c0_i32_11
  let c0_i32_12 : BitVec 32 := 0#32
  let c0_i32_13 : BitVec 32 := 0#32
  ![v29.toNat, c0_i32_12.toNat]

def cc0_transform_1 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.muli v16 c17_i32_4
  let c17_i32_5 : BitVec 32 := 17#32
  let c0_i32_6 : BitVec 32 := 0#32
  let v18 : BitVec 1 := Scalar.cmpi .eq c17_i32_5 c0_i32_6
  let c1_i32_7 : BitVec 32 := 1#32
  let v19 : BitVec 32 := Scalar.select v18 c1_i32_7 c17_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let v29 : BitVec 32 := Scalar.addi v28 c0_i32_11
  let c0_i32_12 : BitVec 32 := 0#32
  let c0_i32_13 : BitVec 32 := 0#32
  ![v29.toNat, c0_i32_12.toNat]

def cc0_transform_2 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.muli v16 c17_i32_4
  let c17_i32_5 : BitVec 32 := 17#32
  let c0_i32_6 : BitVec 32 := 0#32
  let v18 : BitVec 1 := Scalar.cmpi .eq c17_i32_5 c0_i32_6
  let c1_i32_7 : BitVec 32 := 1#32
  let v19 : BitVec 32 := Scalar.select v18 c1_i32_7 c17_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let v29 : BitVec 32 := Scalar.addi v28 c0_i32_11
  let c4_i32 : BitVec 32 := 4#32
  let c0_i32_12 : BitVec 32 := 0#32
  ![v29.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.muli v16 c17_i32_4
  let c17_i32_5 : BitVec 32 := 17#32
  let c0_i32_6 : BitVec 32 := 0#32
  let v18 : BitVec 1 := Scalar.cmpi .eq c17_i32_5 c0_i32_6
  let c1_i32_7 : BitVec 32 := 1#32
  let v19 : BitVec 32 := Scalar.select v18 c1_i32_7 c17_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let v29 : BitVec 32 := Scalar.addi v28 c0_i32_11
  let c0_i32_12 : BitVec 32 := 0#32
  let c0_i32_13 : BitVec 32 := 0#32
  ![v29.toNat, c0_i32_12.toNat]

def cc0_transform_5 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.muli v16 c17_i32_4
  let c17_i32_5 : BitVec 32 := 17#32
  let c0_i32_6 : BitVec 32 := 0#32
  let v18 : BitVec 1 := Scalar.cmpi .eq c17_i32_5 c0_i32_6
  let c1_i32_7 : BitVec 32 := 1#32
  let v19 : BitVec 32 := Scalar.select v18 c1_i32_7 c17_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let v29 : BitVec 32 := Scalar.addi v28 c0_i32_11
  let c0_i32_12 : BitVec 32 := 0#32
  let c0_i32_13 : BitVec 32 := 0#32
  ![v29.toNat, c0_i32_12.toNat]

def cc0_transform_6 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.muli v16 c17_i32_4
  let c17_i32_5 : BitVec 32 := 17#32
  let c0_i32_6 : BitVec 32 := 0#32
  let v18 : BitVec 1 := Scalar.cmpi .eq c17_i32_5 c0_i32_6
  let c1_i32_7 : BitVec 32 := 1#32
  let v19 : BitVec 32 := Scalar.select v18 c1_i32_7 c17_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let v29 : BitVec 32 := Scalar.addi v28 c0_i32_11
  let c2_i32 : BitVec 32 := 2#32
  let c0_i32_12 : BitVec 32 := 0#32
  ![v29.toNat, c2_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.muli v16 c17_i32_4
  let c17_i32_5 : BitVec 32 := 17#32
  let c0_i32_6 : BitVec 32 := 0#32
  let v18 : BitVec 1 := Scalar.cmpi .eq c17_i32_5 c0_i32_6
  let c1_i32_7 : BitVec 32 := 1#32
  let v19 : BitVec 32 := Scalar.select v18 c1_i32_7 c17_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let v29 : BitVec 32 := Scalar.addi v28 c0_i32_11
  let c0_i32_12 : BitVec 32 := 0#32
  let c0_i32_13 : BitVec 32 := 0#32
  ![v29.toNat, c0_i32_12.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S17408x256 : Shape := ⟨2, ![17408, 256]⟩
abbrev S17408x1280 : Shape := ⟨2, ![17408, 1280]⟩
abbrev S17408x896 : Shape := ⟨2, ![17408, 896]⟩
abbrev S68x256x256 : Shape := ⟨3, ![68, 256, 256]⟩
abbrev S17408x1024 : Shape := ⟨2, ![17408, 1024]⟩
abbrev S8x6144 : Shape := ⟨2, ![8, 6144]⟩
abbrev S1x256 : Shape := ⟨2, ![1, 256]⟩
abbrev S1x1024 : Shape := ⟨2, ![1, 1024]⟩
abbrev S1024x1024 : Shape := ⟨2, ![1024, 1024]⟩
abbrev S1024 : Shape := ⟨1, ![1024]⟩
abbrev S4x256x1024 : Shape := ⟨3, ![4, 256, 1024]⟩
abbrev S4x1024 : Shape := ⟨2, ![4, 1024]⟩
abbrev S4x1x1024 : Shape := ⟨3, ![4, 1, 1024]⟩
abbrev S4x4096x1024 : Shape := ⟨3, ![4, 4096, 1024]⟩
abbrev S4x4352x1024 : Shape := ⟨3, ![4, 4352, 1024]⟩
abbrev S17408x4x64 : Shape := ⟨3, ![17408, 4, 64]⟩
abbrev S_ : Shape := ⟨0, ![]⟩
abbrev S17408x4 : Shape := ⟨2, ![17408, 4]⟩
abbrev S17408x4x1 : Shape := ⟨3, ![17408, 4, 1]⟩
abbrev S4x64 : Shape := ⟨2, ![4, 64]⟩
abbrev S1x4x64 : Shape := ⟨3, ![1, 4, 64]⟩
abbrev S17408 : Shape := ⟨1, ![17408]⟩
abbrev S17408x1 : Shape := ⟨2, ![17408, 1]⟩
abbrev S139264x128 : Shape := ⟨2, ![139264, 128]⟩

abbrev nBuf : Space → Nat
  | .hbm => 129
  | .vmem => 0
  | .smem => 0
  | _ => 0

abbrev hbmTy0_0 (i : Nat) : BufTy := match i % 128 with
  | 0 => ⟨S17408x256, .f32⟩
  | 1 => ⟨S17408x256, .f32⟩
  | 2 => ⟨S17408x1280, .f32⟩
  | 3 => ⟨S17408x256, .bf16⟩
  | 4 => ⟨S17408x256, .f32⟩
  | 5 => ⟨S17408x256, .f32⟩
  | 6 => ⟨S17408x896, .f32⟩
  | 7 => ⟨S68x256x256, .bf16⟩
  | 8 => ⟨S17408x1024, .f32⟩
  | 9 => ⟨S8x6144, .f32⟩
  | 10 => ⟨S1x256, .f32⟩
  | 11 => ⟨S1x256, .f32⟩
  | 12 => ⟨S1x1024, .f32⟩
  | 13 => ⟨S1024x1024, .f32⟩
  | 14 => ⟨S17408x256, .f32⟩
  | 15 => ⟨S17408x256, .f32⟩
  | 16 => ⟨S17408x256, .f32⟩
  | 17 => ⟨S17408x256, .f32⟩
  | 18 => ⟨S1x1024, .f32⟩
  | 19 => ⟨S1024, .f32⟩
  | 20 => ⟨S4x256x1024, .f32⟩
  | 21 => ⟨S4x1024, .f32⟩
  | 22 => ⟨S4x1x1024, .f32⟩
  | 23 => ⟨S4x4096x1024, .f32⟩
  | 24 => ⟨S4x4352x1024, .f32⟩
  | 25 => ⟨S17408x1024, .f32⟩
  | 26 => ⟨S1x1024, .f32⟩
  | 27 => ⟨S1024, .f32⟩
  | 28 => ⟨S4x256x1024, .f32⟩
  | 29 => ⟨S4x1024, .f32⟩
  | 30 => ⟨S4x1x1024, .f32⟩
  | 31 => ⟨S4x4096x1024, .f32⟩
  | 32 => ⟨S4x4352x1024, .f32⟩
  | 33 => ⟨S17408x1024, .f32⟩
  | 34 => ⟨S1x1024, .f32⟩
  | 35 => ⟨S1024, .f32⟩
  | 36 => ⟨S4x256x1024, .f32⟩
  | 37 => ⟨S4x1024, .f32⟩
  | 38 => ⟨S4x1x1024, .f32⟩
  | 39 => ⟨S4x4096x1024, .f32⟩
  | 40 => ⟨S4x4352x1024, .f32⟩
  | 41 => ⟨S17408x1024, .f32⟩
  | 42 => ⟨S68x256x256, .f32⟩
  | 43 => ⟨S68x256x256, .f32⟩
  | 44 => ⟨S17408x256, .f32⟩
  | 45 => ⟨S17408x4x64, .f32⟩
  | 46 => ⟨S17408x4x64, .f32⟩
  | 47 => ⟨S_, .f32⟩
  | 48 => ⟨S17408x4, .f32⟩
  | 49 => ⟨S17408x4x1, .f32⟩
  | 50 => ⟨S_, .f32⟩
  | 51 => ⟨S17408x4x1, .f32⟩
  | 52 => ⟨S17408x4x1, .f32⟩
  | 53 => ⟨S_, .f32⟩
  | 54 => ⟨S17408x4x1, .f32⟩
  | 55 => ⟨S17408x4x1, .f32⟩
  | 56 => ⟨S17408x4x1, .f32⟩
  | 57 => ⟨S17408x4x64, .f32⟩
  | 58 => ⟨S17408x4x64, .f32⟩
  | 59 => ⟨S4x64, .f32⟩
  | 60 => ⟨S1x4x64, .f32⟩
  | 61 => ⟨S17408x4x64, .f32⟩
  | 62 => ⟨S17408x4x64, .f32⟩
  | 63 => ⟨S17408x256, .f32⟩
  | 64 => ⟨S17408x256, .f32⟩
  | 65 => ⟨S17408x256, .f32⟩
  | 66 => ⟨S_, .f32⟩
  | 67 => ⟨S17408x256, .f32⟩
  | 68 => ⟨S17408x256, .f32⟩
  | 69 => ⟨S_, .f32⟩
  | 70 => ⟨S17408x256, .f32⟩
  | 71 => ⟨S17408x256, .f32⟩
  | 72 => ⟨S17408x256, .f32⟩
  | 73 => ⟨S17408x256, .f32⟩
  | 74 => ⟨S17408x256, .f32⟩
  | 75 => ⟨S17408x4x64, .f32⟩
  | 76 => ⟨S17408x4x64, .f32⟩
  | 77 => ⟨S_, .f32⟩
  | 78 => ⟨S17408x4, .f32⟩
  | 79 => ⟨S17408x4x1, .f32⟩
  | 80 => ⟨S_, .f32⟩
  | 81 => ⟨S17408x4x1, .f32⟩
  | 82 => ⟨S17408x4x1, .f32⟩
  | 83 => ⟨S_, .f32⟩
  | 84 => ⟨S17408x4x1, .f32⟩
  | 85 => ⟨S17408x4x1, .f32⟩
  | 86 => ⟨S17408x4x1, .f32⟩
  | 87 => ⟨S17408x4x64, .f32⟩
  | 88 => ⟨S17408x4x64, .f32⟩
  | 89 => ⟨S4x64, .f32⟩
  | 90 => ⟨S1x4x64, .f32⟩
  | 91 => ⟨S17408x4x64, .f32⟩
  | 92 => ⟨S17408x4x64, .f32⟩
  | 93 => ⟨S17408x256, .f32⟩
  | 94 => ⟨S17408x256, .f32⟩
  | 95 => ⟨S17408x256, .f32⟩
  | 96 => ⟨S_, .f32⟩
  | 97 => ⟨S17408x256, .f32⟩
  | 98 => ⟨S17408x256, .f32⟩
  | 99 => ⟨S_, .f32⟩
  | 100 => ⟨S17408x256, .f32⟩
  | 101 => ⟨S17408x256, .f32⟩
  | 102 => ⟨S17408x256, .f32⟩
  | 103 => ⟨S17408x256, .f32⟩
  | 104 => ⟨S17408x1024, .f32⟩
  | 105 => ⟨S17408x1024, .f32⟩
  | 106 => ⟨S17408x1024, .f32⟩
  | 107 => ⟨S17408x1024, .f32⟩
  | 108 => ⟨S17408x1024, .f32⟩
  | 109 => ⟨S_, .f32⟩
  | 110 => ⟨S17408, .f32⟩
  | 111 => ⟨S17408x1, .f32⟩
  | 112 => ⟨S_, .f32⟩
  | 113 => ⟨S17408x1, .f32⟩
  | 114 => ⟨S17408x1, .f32⟩
  | 115 => ⟨S_, .f32⟩
  | 116 => ⟨S17408x1, .f32⟩
  | 117 => ⟨S17408x1, .f32⟩
  | 118 => ⟨S17408x1, .f32⟩
  | 119 => ⟨S17408x1024, .f32⟩
  | 120 => ⟨S17408x1024, .f32⟩
  | 121 => ⟨S17408x1024, .f32⟩
  | 122 => ⟨S17408x1024, .f32⟩
  | 123 => ⟨S_, .f32⟩
  | 124 => ⟨S17408x1024, .f32⟩
  | 125 => ⟨S17408x1024, .f32⟩
  | 126 => ⟨S17408x1024, .f32⟩
  | 127 => ⟨S17408x1024, .f32⟩
  | _ => ⟨S17408x256, .f32⟩

abbrev hbmTy0_1 (i : Nat) : BufTy := match i % 128 with
  | 0 => ⟨S139264x128, .f32⟩
  | _ => ⟨S17408x256, .f32⟩

abbrev hbmTy (i : Nat) : BufTy := match i / 128 with
  | 0 => hbmTy0_0 i
  | 1 => hbmTy0_1 i
  | _ => ⟨S17408x256, .f32⟩

abbrev bufTy : (tb : Table) → Fin (tcTables nBuf tb) → BufTy
  | .hbm, ⟨i, _⟩ => hbmTy i
  | _, _ => ⟨S17408x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩
abbrev main_cst_0 : Ref sig .tc := ⟨.hbm, 50, rfl⟩
abbrev main_v35 : Ref sig .tc := ⟨.hbm, 51, rfl⟩
abbrev main_v36 : Ref sig .tc := ⟨.hbm, 52, rfl⟩
abbrev main_cst_1 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_2 : Ref sig .tc := ⟨.hbm, 66, rfl⟩
abbrev main_v49 : Ref sig .tc := ⟨.hbm, 67, rfl⟩
abbrev main_v50 : Ref sig .tc := ⟨.hbm, 68, rfl⟩
abbrev main_cst_3 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_4 : Ref sig .tc := ⟨.hbm, 77, rfl⟩
abbrev main_v58 : Ref sig .tc := ⟨.hbm, 78, rfl⟩
abbrev main_v59 : Ref sig .tc := ⟨.hbm, 79, rfl⟩
abbrev main_cst_5 : Ref sig .tc := ⟨.hbm, 80, rfl⟩
abbrev main_v60 : Ref sig .tc := ⟨.hbm, 81, rfl⟩
abbrev main_v61 : Ref sig .tc := ⟨.hbm, 82, rfl⟩
abbrev main_cst_6 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_cst_8 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_9 : Ref sig .tc := ⟨.hbm, 109, rfl⟩
abbrev main_v85 : Ref sig .tc := ⟨.hbm, 110, rfl⟩
abbrev main_v86 : Ref sig .tc := ⟨.hbm, 111, rfl⟩
abbrev main_cst_10 : Ref sig .tc := ⟨.hbm, 112, rfl⟩
abbrev main_v87 : Ref sig .tc := ⟨.hbm, 113, rfl⟩
abbrev main_v88 : Ref sig .tc := ⟨.hbm, 114, rfl⟩
abbrev main_cst_11 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_12 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]
-- ==== Kernel7.lean ====
abbrev S17408x256 : Shape := ⟨2, ![17408, 256]⟩
abbrev S17408x1280 : Shape := ⟨2, ![17408, 1280]⟩
abbrev S16384x256 : Shape := ⟨2, ![16384, 256]⟩
abbrev S17408x896 : Shape := ⟨2, ![17408, 896]⟩
abbrev S64x256x256 : Shape := ⟨3, ![64, 256, 256]⟩
abbrev S17408x1024 : Shape := ⟨2, ![17408, 1024]⟩
abbrev S8x6144 : Shape := ⟨2, ![8, 6144]⟩
abbrev S1x256 : Shape := ⟨2, ![1, 256]⟩
abbrev S1x1024 : Shape := ⟨2, ![1, 1024]⟩
abbrev S1024x1024 : Shape := ⟨2, ![1024, 1024]⟩
abbrev S256x256 : Shape := ⟨2, ![256, 256]⟩
abbrev S256x1024 : Shape := ⟨2, ![256, 1024]⟩
abbrev S16384x1024 : Shape := ⟨2, ![16384, 1024]⟩
abbrev S131072x128 : Shape := ⟨2, ![131072, 128]⟩
abbrev S1x256x256 : Shape := ⟨3, ![1, 256, 256]⟩
abbrev S2048x128 : Shape := ⟨2, ![2048, 128]⟩
abbrev S1x6144 : Shape := ⟨2, ![1, 6144]⟩
abbrev S256 : Shape := ⟨1, ![256]⟩
abbrev S256x1 : Shape := ⟨2, ![256, 1]⟩
abbrev S256x128 : Shape := ⟨2, ![256, 128]⟩

abbrev nBuf : Space → Nat
  | .hbm => 25
  | .vmem => 31
  | .smem => 0
  | _ => 0

abbrev bufTy : (tb : Table) → Fin (tcTables nBuf tb) → BufTy
  | .hbm, ⟨0, _⟩ => ⟨S17408x256, .f32⟩
  | .hbm, ⟨1, _⟩ => ⟨S17408x256, .f32⟩
  | .hbm, ⟨2, _⟩ => ⟨S17408x1280, .f32⟩
  | .hbm, ⟨3, _⟩ => ⟨S16384x256, .bf16⟩
  | .hbm, ⟨4, _⟩ => ⟨S17408x256, .f32⟩
  | .hbm, ⟨5, _⟩ => ⟨S17408x256, .f32⟩
  | .hbm, ⟨6, _⟩ => ⟨S17408x896, .f32⟩
  | .hbm, ⟨7, _⟩ => ⟨S64x256x256, .bf16⟩
  | .hbm, ⟨8, _⟩ => ⟨S17408x1024, .f32⟩
  | .hbm, ⟨9, _⟩ => ⟨S8x6144, .f32⟩
  | .hbm, ⟨10, _⟩ => ⟨S1x256, .f32⟩
  | .hbm, ⟨11, _⟩ => ⟨S1x256, .f32⟩
  | .hbm, ⟨12, _⟩ => ⟨S1x1024, .f32⟩
  | .hbm, ⟨13, _⟩ => ⟨S1024x1024, .f32⟩
  | .hbm, ⟨14, _⟩ => ⟨S256x256, .bf16⟩
  | .hbm, ⟨15, _⟩ => ⟨S256x1024, .f32⟩
  | .hbm, ⟨16, _⟩ => ⟨S256x1024, .bf16⟩
  | .hbm, ⟨17, _⟩ => ⟨S256x1024, .f32⟩
  | .hbm, ⟨18, _⟩ => ⟨S256x1024, .bf16⟩
  | .hbm, ⟨19, _⟩ => ⟨S256x1024, .f32⟩
  | .hbm, ⟨20, _⟩ => ⟨S256x1024, .bf16⟩
  | .hbm, ⟨21, _⟩ => ⟨S256x1024, .f32⟩
  | .hbm, ⟨22, _⟩ => ⟨S256x1024, .bf16⟩
  | .hbm, ⟨23, _⟩ => ⟨S16384x1024, .f32⟩
  | .hbm, ⟨24, _⟩ => ⟨S131072x128, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S1x256x256, .bf16⟩
  | .local _ .vmem, ⟨15, _⟩ => ⟨S1x256x256, .bf16⟩
  | .local _ .vmem, ⟨16, _⟩ => ⟨S256x1024, .f32⟩
  | .local _ .vmem, ⟨17, _⟩ => ⟨S256x1024, .f32⟩
  | .local _ .vmem, ⟨18, _⟩ => ⟨S8x6144, .f32⟩
  | .local _ .vmem, ⟨19, _⟩ => ⟨S1x256, .f32⟩
  | .local _ .vmem, ⟨20, _⟩ => ⟨S1x256, .f32⟩
  | .local _ .vmem, ⟨21, _⟩ => ⟨S1x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x256, .bf16⟩
  | .local _ .vmem, ⟨27, _⟩ => ⟨S256x1024, .f32⟩
  | .local _ .vmem, ⟨28, _⟩ => ⟨S256x1024, .f32⟩
  | .local _ .vmem, ⟨29, _⟩ => ⟨S2048x128, .f32⟩
  | .local _ .vmem, ⟨30, _⟩ => ⟨S2048x128, .f32⟩
  | _, _ => ⟨S17408x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c0_i32_11 : BitVec 32 := 0#32
  let v28 : BitVec 1 := Scalar.cmpi .eq v27 c0_i32_11
  let c4_i32 : BitVec 32 := 4#32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v29 : BitVec 32 := Scalar.select v28 c4_i32 v16
  let v121 : Index := Scalar.indexCast v29
  let c0_61 : Index := 0#32
  ![v121.toNat, 0]
def cc0_transform_0 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c1_i32_10 : BitVec 32 := 1#32
  let v29 : BitVec 32 := Scalar.addi v28 c1_i32_10
  let c0_i32_11 : BitVec 32 := 0#32
  let c0_i32_12 : BitVec 32 := 0#32
  ![v29.toNat, c0_i32_11.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c1_i32_10 : BitVec 32 := 1#32
  let v29 : BitVec 32 := Scalar.addi v28 c1_i32_10
  let c0_i32_11 : BitVec 32 := 0#32
  let c0_i32_12 : BitVec 32 := 0#32
  ![v29.toNat, c0_i32_11.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c1_i32_10 : BitVec 32 := 1#32
  let v29 : BitVec 32 := Scalar.addi v28 c1_i32_10
  let c4_i32 : BitVec 32 := 4#32
  let c0_i32_11 : BitVec 32 := 0#32
  ![v29.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c1_i32_10 : BitVec 32 := 1#32
  let v29 : BitVec 32 := Scalar.addi v28 c1_i32_10
  let c0_i32_11 : BitVec 32 := 0#32
  let c0_i32_12 : BitVec 32 := 0#32
  ![v29.toNat, c0_i32_11.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c1_i32_10 : BitVec 32 := 1#32
  let v29 : BitVec 32 := Scalar.addi v28 c1_i32_10
  let c0_i32_11 : BitVec 32 := 0#32
  let c0_i32_12 : BitVec 32 := 0#32
  ![v29.toNat, c0_i32_11.toNat]

def cc0_transform_6 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c1_i32_10 : BitVec 32 := 1#32
  let v29 : BitVec 32 := Scalar.addi v28 c1_i32_10
  let c2_i32 : BitVec 32 := 2#32
  let c0_i32_11 : BitVec 32 := 0#32
  ![v29.toNat, c2_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c1_i32_10 : BitVec 32 := 1#32
  let v29 : BitVec 32 := Scalar.addi v28 c1_i32_10
  let c0_i32_11 : BitVec 32 := 0#32
  let c0_i32_12 : BitVec 32 := 0#32
  ![v29.toNat, c0_i32_11.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference7Ideal.lean ====
abbrev S17408x256 : Shape := ⟨2, ![17408, 256]⟩
abbrev S17408x1280 : Shape := ⟨2, ![17408, 1280]⟩
abbrev S16384x256 : Shape := ⟨2, ![16384, 256]⟩
abbrev S17408x896 : Shape := ⟨2, ![17408, 896]⟩
abbrev S64x256x256 : Shape := ⟨3, ![64, 256, 256]⟩
abbrev S17408x1024 : Shape := ⟨2, ![17408, 1024]⟩
abbrev S8x6144 : Shape := ⟨2, ![8, 6144]⟩
abbrev S1x256 : Shape := ⟨2, ![1, 256]⟩
abbrev S1x1024 : Shape := ⟨2, ![1, 1024]⟩
abbrev S1024x1024 : Shape := ⟨2, ![1024, 1024]⟩
abbrev S4x4352x256 : Shape := ⟨3, ![4, 4352, 256]⟩
abbrev S4x4096x256 : Shape := ⟨3, ![4, 4096, 256]⟩
abbrev S4x4352x1024 : Shape := ⟨3, ![4, 4352, 1024]⟩
abbrev S4x4096x1024 : Shape := ⟨3, ![4, 4096, 1024]⟩
abbrev S16384x1024 : Shape := ⟨2, ![16384, 1024]⟩
abbrev S4x1024 : Shape := ⟨2, ![4, 1024]⟩
abbrev S4x1x1024 : Shape := ⟨3, ![4, 1, 1024]⟩
abbrev S16384x4x64 : Shape := ⟨3, ![16384, 4, 64]⟩
abbrev S_ : Shape := ⟨0, ![]⟩
abbrev S16384x4 : Shape := ⟨2, ![16384, 4]⟩
abbrev S16384x4x1 : Shape := ⟨3, ![16384, 4, 1]⟩
abbrev S4x64 : Shape := ⟨2, ![4, 64]⟩
abbrev S1x4x64 : Shape := ⟨3, ![1, 4, 64]⟩
abbrev S16384 : Shape := ⟨1, ![16384]⟩
abbrev S16384x1 : Shape := ⟨2, ![16384, 1]⟩
abbrev S131072x128 : Shape := ⟨2, ![131072, 128]⟩

abbrev nBuf : Space → Nat
  | .hbm => 132
  | .vmem => 0
  | .smem => 0
  | _ => 0

abbrev hbmTy0_0 (i : Nat) : BufTy := match i % 128 with
  | 0 => ⟨S17408x256, .f32⟩
  | 1 => ⟨S17408x256, .f32⟩
  | 2 => ⟨S17408x1280, .f32⟩
  | 3 => ⟨S16384x256, .bf16⟩
  | 4 => ⟨S17408x256, .f32⟩
  | 5 => ⟨S17408x256, .f32⟩
  | 6 => ⟨S17408x896, .f32⟩
  | 7 => ⟨S64x256x256, .bf16⟩
  | 8 => ⟨S17408x1024, .f32⟩
  | 9 => ⟨S8x6144, .f32⟩
  | 10 => ⟨S1x256, .f32⟩
  | 11 => ⟨S1x256, .f32⟩
  | 12 => ⟨S1x1024, .f32⟩
  | 13 => ⟨S1024x1024, .f32⟩
  | 14 => ⟨S17408x256, .f32⟩
  | 15 => ⟨S4x4352x256, .f32⟩
  | 16 => ⟨S4x4096x256, .f32⟩
  | 17 => ⟨S16384x256, .f32⟩
  | 18 => ⟨S17408x256, .f32⟩
  | 19 => ⟨S4x4352x256, .f32⟩
  | 20 => ⟨S4x4096x256, .f32⟩
  | 21 => ⟨S16384x256, .f32⟩
  | 22 => ⟨S17408x256, .f32⟩
  | 23 => ⟨S4x4352x256, .f32⟩
  | 24 => ⟨S4x4096x256, .f32⟩
  | 25 => ⟨S16384x256, .f32⟩
  | 26 => ⟨S17408x256, .f32⟩
  | 27 => ⟨S4x4352x256, .f32⟩
  | 28 => ⟨S4x4096x256, .f32⟩
  | 29 => ⟨S16384x256, .f32⟩
  | 30 => ⟨S4x4352x1024, .f32⟩
  | 31 => ⟨S4x4096x1024, .f32⟩
  | 32 => ⟨S16384x1024, .f32⟩
  | 33 => ⟨S4x1024, .f32⟩
  | 34 => ⟨S4x1x1024, .f32⟩
  | 35 => ⟨S4x4096x1024, .f32⟩
  | 36 => ⟨S16384x1024, .f32⟩
  | 37 => ⟨S4x1024, .f32⟩
  | 38 => ⟨S4x1x1024, .f32⟩
  | 39 => ⟨S4x4096x1024, .f32⟩
  | 40 => ⟨S16384x1024, .f32⟩
  | 41 => ⟨S4x1024, .f32⟩
  | 42 => ⟨S4x1x1024, .f32⟩
  | 43 => ⟨S4x4096x1024, .f32⟩
  | 44 => ⟨S16384x1024, .f32⟩
  | 45 => ⟨S64x256x256, .f32⟩
  | 46 => ⟨S64x256x256, .f32⟩
  | 47 => ⟨S16384x256, .f32⟩
  | 48 => ⟨S16384x4x64, .f32⟩
  | 49 => ⟨S16384x4x64, .f32⟩
  | 50 => ⟨S_, .f32⟩
  | 51 => ⟨S16384x4, .f32⟩
  | 52 => ⟨S16384x4x1, .f32⟩
  | 53 => ⟨S_, .f32⟩
  | 54 => ⟨S16384x4x1, .f32⟩
  | 55 => ⟨S16384x4x1, .f32⟩
  | 56 => ⟨S_, .f32⟩
  | 57 => ⟨S16384x4x1, .f32⟩
  | 58 => ⟨S16384x4x1, .f32⟩
  | 59 => ⟨S16384x4x1, .f32⟩
  | 60 => ⟨S16384x4x64, .f32⟩
  | 61 => ⟨S16384x4x64, .f32⟩
  | 62 => ⟨S4x64, .f32⟩
  | 63 => ⟨S1x4x64, .f32⟩
  | 64 => ⟨S16384x4x64, .f32⟩
  | 65 => ⟨S16384x4x64, .f32⟩
  | 66 => ⟨S16384x256, .f32⟩
  | 67 => ⟨S16384x256, .f32⟩
  | 68 => ⟨S16384x256, .f32⟩
  | 69 => ⟨S_, .f32⟩
  | 70 => ⟨S16384x256, .f32⟩
  | 71 => ⟨S16384x256, .f32⟩
  | 72 => ⟨S_, .f32⟩
  | 73 => ⟨S16384x256, .f32⟩
  | 74 => ⟨S16384x256, .f32⟩
  | 75 => ⟨S16384x256, .f32⟩
  | 76 => ⟨S16384x256, .f32⟩
  | 77 => ⟨S16384x256, .f32⟩
  | 78 => ⟨S16384x4x64, .f32⟩
  | 79 => ⟨S16384x4x64, .f32⟩
  | 80 => ⟨S_, .f32⟩
  | 81 => ⟨S16384x4, .f32⟩
  | 82 => ⟨S16384x4x1, .f32⟩
  | 83 => ⟨S_, .f32⟩
  | 84 => ⟨S16384x4x1, .f32⟩
  | 85 => ⟨S16384x4x1, .f32⟩
  | 86 => ⟨S_, .f32⟩
  | 87 => ⟨S16384x4x1, .f32⟩
  | 88 => ⟨S16384x4x1, .f32⟩
  | 89 => ⟨S16384x4x1, .f32⟩
  | 90 => ⟨S16384x4x64, .f32⟩
  | 91 => ⟨S16384x4x64, .f32⟩
  | 92 => ⟨S4x64, .f32⟩
  | 93 => ⟨S1x4x64, .f32⟩
  | 94 => ⟨S16384x4x64, .f32⟩
  | 95 => ⟨S16384x4x64, .f32⟩
  | 96 => ⟨S16384x256, .f32⟩
  | 97 => ⟨S16384x256, .f32⟩
  | 98 => ⟨S16384x256, .f32⟩
  | 99 => ⟨S_, .f32⟩
  | 100 => ⟨S16384x256, .f32⟩
  | 101 => ⟨S16384x256, .f32⟩
  | 102 => ⟨S_, .f32⟩
  | 103 => ⟨S16384x256, .f32⟩
  | 104 => ⟨S16384x256, .f32⟩
  | 105 => ⟨S16384x256, .f32⟩
  | 106 => ⟨S16384x256, .f32⟩
  | 107 => ⟨S16384x1024, .f32⟩
  | 108 => ⟨S16384x1024, .f32⟩
  | 109 => ⟨S16384x1024, .f32⟩
  | 110 => ⟨S16384x1024, .f32⟩
  | 111 => ⟨S16384x1024, .f32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S_, .f32⟩
  | 119 => ⟨S16384x1, .f32⟩
  | 120 => ⟨S16384x1, .f32⟩
  | 121 => ⟨S16384x1, .f32⟩
  | 122 => ⟨S16384x1024, .f32⟩
  | 123 => ⟨S16384x1024, .f32⟩
  | 124 => ⟨S16384x1024, .f32⟩
  | 125 => ⟨S16384x1024, .f32⟩
  | 126 => ⟨S_, .f32⟩
  | 127 => ⟨S16384x1024, .f32⟩
  | _ => ⟨S17408x256, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S131072x128, .f32⟩
  | _ => ⟨S17408x256, .f32⟩

abbrev hbmTy (i : Nat) : BufTy := match i / 128 with
  | 0 => hbmTy0_0 i
  | 1 => hbmTy0_1 i
  | _ => ⟨S17408x256, .f32⟩

abbrev bufTy : (tb : Table) → Fin (tcTables nBuf tb) → BufTy
  | .hbm, ⟨i, _⟩ => hbmTy i
  | _, _ => ⟨S17408x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_v36 : Ref sig .tc := ⟨.hbm, 51, rfl⟩
abbrev main_v37 : Ref sig .tc := ⟨.hbm, 52, rfl⟩
abbrev main_cst_0 : Ref sig .tc := ⟨.hbm, 53, rfl⟩
abbrev main_v38 : Ref sig .tc := ⟨.hbm, 54, rfl⟩
abbrev main_v39 : Ref sig .tc := ⟨.hbm, 55, rfl⟩
abbrev main_cst_1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_2 : Ref sig .tc := ⟨.hbm, 69, rfl⟩
abbrev main_v52 : Ref sig .tc := ⟨.hbm, 70, rfl⟩
abbrev main_v53 : Ref sig .tc := ⟨.hbm, 71, rfl⟩
abbrev main_cst_3 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_4 : Ref sig .tc := ⟨.hbm, 80, rfl⟩
abbrev main_v61 : Ref sig .tc := ⟨.hbm, 81, rfl⟩
abbrev main_v62 : Ref sig .tc := ⟨.hbm, 82, rfl⟩
abbrev main_cst_5 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_7 : Ref sig .tc := ⟨.hbm, 99, rfl⟩
abbrev main_v77 : Ref sig .tc := ⟨.hbm, 100, rfl⟩
abbrev main_v78 : Ref sig .tc := ⟨.hbm, 101, rfl⟩
abbrev main_cst_8 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_9 : Ref sig .tc := ⟨.hbm, 112, rfl⟩
abbrev main_v88 : Ref sig .tc := ⟨.hbm, 113, rfl⟩
abbrev main_v89 : Ref sig .tc := ⟨.hbm, 114, rfl⟩
abbrev main_cst_10 : Ref sig .tc := ⟨.hbm, 115, rfl⟩
abbrev main_v90 : Ref sig .tc := ⟨.hbm, 116, rfl⟩
abbrev main_v91 : Ref sig .tc := ⟨.hbm, 117, rfl⟩
abbrev main_cst_11 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_12 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩

abbrev nD : Nat := 1
abbrev τ : Topo := Topo.v7x

variable {F : FTy → Type} [FloatOps F]
-- ==== Proof.AttnMath.lean ====
/- The softmax-weighted sum over the extended reals: the numerator times the inverse of the denominator is the
   sum of the normalised weights, wherever the scores are real. -/
module

public import Idealize.ShloMosaic.PureOps.Ideal.Laws
public import Idealize.ShloMosaic.Lib.Pointwise
public import Mathlib.Data.EReal.Operations
public import Mathlib.Data.EReal.Inv
public import Mathlib.Logic.Equiv.Fin.Basic
public import Mathlib.Algebra.BigOperators.Fin

@[expose] public section

set_option backward.proofsInPublic true

noncomputable section

namespace Cert.Math

open Idealize.ShloMosaic

/-- An extended real that is a real number. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.zero : IsReal 0 := ⟨0, rfl⟩

theorem IsReal.sum {ι : Type} (S : Finset ι) (f : ι → EReal) (h : ∀ i ∈ S, IsReal (f i)) : IsReal (∑ i ∈ S, f i) := by
  classical
  induction S using Finset.induction_on with
  | empty => exact ⟨0, by simp⟩
  | insert a s ha ih =>
    rw [Finset.sum_insert ha]
    exact (h a (Finset.mem_insert_self a s)).add (ih fun i hi => h i (Finset.mem_insert_of_mem hi))

/-- An extended real whose absolute value lies below infinity is a real number. -/
theorem IsReal.of_abs_lt {x : EReal} (h : max x (-x) < ⊤) : IsReal x := by
  induction x with
  | bot => simp at h
  | top => simp at h
  | coe r => exact ⟨r, rfl⟩

/-- A sum times a non-negative real is the sum of the products. -/
theorem sum_mul_real {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a s ha ih =>
    rw [Finset.sum_insert ha, Finset.sum_insert ha, EReal.right_distrib_of_nonneg_of_ne_top (EReal.coe_nonneg.mpr hc) (EReal.coe_ne_top c), ih]

/-- The weight of key `k` before normalisation. -/
def weight {N : ℕ} (s : Fin N → EReal) (k : Fin N) : EReal := Ideal.exp (s k - Finset.univ.sup s)

/-- Softmax attention of one query: values `v` weighted by the softmax of the scores `s`. -/
def attend {N : ℕ} (s v : Fin N → EReal) : EReal :=
  ∑ k, v k * Ideal.div (weight s k) (∑ k', weight s k')

/-- At real scores every weight is a positive real. -/
theorem weight_pos {N : ℕ} (s : Fin N → EReal) (hN : 0 < N) (hs : ∀ k, IsReal (s k)) (k : Fin N) :
    ∃ r : ℝ, 0 < r ∧ weight s k = (r : EReal) := by
  have hne : (Finset.univ : Finset (Fin N)).Nonempty := ⟨⟨0, hN⟩, Finset.mem_univ _⟩
  obtain ⟨k0, -, hk0⟩ := Finset.exists_mem_eq_sup Finset.univ hne s
  obtain ⟨a, ha⟩ := hs k
  obtain ⟨b, hb⟩ := hs k0
  refine ⟨Real.exp (a - b), Real.exp_pos _, ?_⟩
  rw [weight, hk0, ha, hb, ← EReal.coe_sub, Ideal.exp_coe]

theorem sum_pos_real {N : ℕ} (w : Fin N → EReal) (hN : 0 < N) (hw : ∀ k, ∃ r : ℝ, 0 < r ∧ w k = (r : EReal)) :
    ∃ r : ℝ, 0 < r ∧ ∑ k, w k = (r : EReal) := by
  choose f hf using hw
  refine ⟨∑ k, f k, Finset.sum_pos (fun k _ => (hf k).1) ⟨⟨0, hN⟩, Finset.mem_univ _⟩, ?_⟩
  have : w = fun k => (f k : EReal) := funext fun k => (hf k).2
  rw [this]
  have key : ∀ S : Finset (Fin N), (∑ k ∈ S, (f k : EReal)) = ((∑ k ∈ S, f k : ℝ) : EReal) := by
    classical
    intro S
    induction S using Finset.induction_on with
    | empty => simp
    | insert a s ha ih => rw [Finset.sum_insert ha, Finset.sum_insert ha, ih, EReal.coe_add]
  exact key _

/-- The unnormalised sum times the inverse of the sum of the weights is the attention. -/
theorem attend_eq {N : ℕ} (s v : Fin N → EReal) (hN : 0 < N) (hs : ∀ k, IsReal (s k)) :
    (∑ k, v k * weight s k) * Ideal.div 1 (∑ k, weight s k) = attend s v := by
  obtain ⟨r, hr, hsum⟩ := sum_pos_real (weight s) hN (weight_pos s hN hs)
  rw [attend, hsum, Ideal.div_coe hr.ne', one_mul, sum_mul_real _ _ _ (by positivity)]
  refine Finset.sum_congr rfl fun k _ => ?_
  rw [Ideal.div_coe hr.ne', mul_assoc]

/-- A sum over 17 blocks of 256 is the sum over all 4352. -/
theorem sum_blocks {M : Type} [AddCommMonoid M] (f : Fin 4352 → M) :
    (∑ c : Fin 17, ∑ k : Fin 256, f ⟨256 * c.val + k.val, by omega⟩) = ∑ k, f k := by
  rw [← Fintype.sum_prod_type']
  refine Fintype.sum_equiv (finProdFinEquiv (m := 17) (n := 256)) _ _ fun p => ?_
  exact congrArg f (Fin.ext (by simp [finProdFinEquiv]; omega))

/-- The greatest of 17 blocks' greatest is the greatest of all 4352. -/
theorem sup_blocks (f : Fin 4352 → EReal) :
    (Finset.univ.sup fun c : Fin 17 => Finset.univ.sup fun k : Fin 256 => f ⟨256 * c.val + k.val, by omega⟩) = Finset.univ.sup f := by
  refine eq_of_forall_ge_iff fun b => ?_
  simp only [Finset.sup_le_iff, Finset.mem_univ, true_implies]
  constructor
  · intro h k
    have := h ⟨k.val / 256, by omega⟩ ⟨k.val % 256, by omega⟩
    convert this using 2
    exact Fin.ext (by simp only; omega)
  · intro h c k
    exact h _

/-- A weight, from the largest score under another name. -/
theorem weight_of {n : ℕ} (s : Fin n → EReal) (k : Fin n) (a M w : EReal) (ha : s k = a) (hM : M = Finset.univ.sup s)
    (hw : w = Ideal.exp (a - max ⊥ M)) : w = weight s k := by
  subst ha hM; rw [hw, max_eq_right bot_le]; rfl

/-! ## Attention of the arrays -/

/-- The score of key `k` against query `T` of batch `b` and head `h`. -/
def gscore (Q K : (⟨2, ![17408, 512]⟩ : Shape).Idx → EReal) (b h : Fin 4) (T k : Fin 4352) : EReal :=
  ∑ l : Fin 128, K (ix2 ⟨4352 * b.val + k.val, by omega⟩ ⟨128 * h.val + l.val, by omega⟩) * Q (ix2 ⟨4352 * b.val + T.val, by omega⟩ ⟨128 * h.val + l.val, by omega⟩)

/-- Attention at query `256 j + r` of batch `b`, head `h`, feature `d`: the context queries (`j = 0`) see the 256 context keys, the
    others every key. -/
def attnAt (Q K : (⟨2, ![17408, 512]⟩ : Shape).Idx → EReal) (V : (⟨3, ![4, 320, 4352]⟩ : Shape).Idx → EReal)
    (b : Fin 4) (j : Fin 17) (h : Fin 4) (d : Fin 64) (r : Fin 256) : EReal :=
  if j.val = 0 then
    attend (fun k : Fin 256 => gscore Q K b h ⟨256 * j.val + r.val, by omega⟩ ⟨k.val, by omega⟩)
      fun k => V (ix3 b ⟨80 * h.val + d.val, by omega⟩ ⟨k.val, by omega⟩)
  else
    attend (gscore Q K b h ⟨256 * j.val + r.val, by omega⟩) fun k => V (ix3 b ⟨80 * h.val + d.val, by omega⟩ k)

/-- The whole attention output: row `17 b + j` is block `j` of batch `b`, `64 h + d` its head and feature. -/
def attnOut (Q K : (⟨2, ![17408, 512]⟩ : Shape).Idx → EReal) (V : (⟨3, ![4, 320, 4352]⟩ : Shape).Idx → EReal)
    (t : Fin 68) (e r : Fin 256) : EReal :=
  attnAt Q K V ⟨t.val / 17, by omega⟩ ⟨t.val % 17, by omega⟩ ⟨e.val / 64, by omega⟩ ⟨e.val % 64, by omega⟩ r

/-- The attention of the layer that drops the context queries: row `16 b + j` is block `j + 1` of batch `b`, its queries see every key. -/
def latentOut (Q K : (⟨2, ![17408, 512]⟩ : Shape).Idx → EReal) (V : (⟨3, ![4, 320, 4352]⟩ : Shape).Idx → EReal)
    (t : Fin 64) (e r : Fin 256) : EReal :=
  attend (gscore Q K ⟨t.val / 16, by omega⟩ ⟨e.val / 64, by omega⟩ ⟨256 * (t.val % 16 + 1) + r.val, by omega⟩)
    fun k => V (ix3 ⟨t.val / 16, by omega⟩ ⟨80 * (e.val / 64) + e.val % 64, by omega⟩ k)

theorem gscore_real {Q K : (⟨2, ![17408, 512]⟩ : Shape).Idx → EReal} (hQ : ∀ i, IsReal (Q i)) (hK : ∀ i, IsReal (K i))
    (b h : Fin 4) (T k : Fin 4352) : IsReal (gscore Q K b h T k) :=
  IsReal.sum _ _ fun _ _ => (hK _).mul (hQ _)

end Cert.Math

end
-- ==== Proof.AttnBlocks.lean ====
/- The attention kernel's body as functions of its blocks: per head the running maximum over the key blocks, the
   accumulator over them, and the quotient stored; each read at an index. -/
module

public import proofs.«01_k».proof.Proof.Gen.KernelIdeal.Value
public import proofs.«01_k».proof.Proof.AttnMath
public import Idealize.ShloMosaic.Lib.Pipeline.ValueKit
public import Idealize.ShloMosaic.Lib.Pipeline.ReadBack
public import Idealize.ShloMosaic.Lib.Pointwise

@[expose] public section

set_option backward.proofsInPublic true
set_option maxRecDepth 16384

noncomputable section

namespace Cert.KernelIdeal.Attn

open Cert.KernelIdeal Cert.KernelIdeal.Gen Cert.KernelIdeal.Facts Idealize.ShloMosaic Idealize.ShloMosaic.TcCoe Idealize.SL.Sem Cert.Math
open Idealize.ShloMosaic.Pipeline (Dat)

/-- The scores of one block of 256 keys against one block of 256 queries: keys down, queries across. -/
def scores (k q : Vec Ideal S256x128 .bf16) : FVec Ideal S256x256 .f32 :=
  matmul (φ₁ := .bf16) (φ₂ := .bf16) dot_S256x128_S256x128_S256x256_1_1_0_0_n_n none k q (constant S256x256 .f32 0x00000000#32)

/-- The running maximum over the keys, before the first key block: minus infinity for every query. -/
def max0 : FVec Ideal S1x256 .f32 := broadcast S1x256 (Scalar.ofBits .f32 0xFF800000#32)

/-- The running maximum after one more key block. -/
def maxStep (m : FVec Ideal S1x256 .f32) (s : FVec Ideal S256x256 .f32) : FVec Ideal S1x256 .f32 :=
  maximumf m (shapeCast S1x256 (multiReduction .maximumf [0] S256 s 0xFF800000#32 reduces_S256x256_S256 (.inl rfl) rfl) shapeCasts_S256_S1x256)

/-- The accumulator before the first key block. -/
def acc0 : FVec Ideal S80x256 .f32 := broadcast S80x256 (Scalar.ofBits .f32 0x00000000#32)

/-- The accumulator after one more key block, its scores `s` read back from the scratch, `m` the queries' maxima. -/
def accStep (m : FVec Ideal S1x256 .f32) (a : FVec Ideal S80x256 .f32) (s : FVec Ideal S256x256 .f32) (v : Vec Ideal S1x80x256 .bf16) :
    FVec Ideal S80x256 .f32 :=
  addf a (matmul (φ₁ := .bf16) (φ₂ := .bf16) dot_S80x256_S256x256_S80x256_1_0_0_1_n_n none (shapeCast (α := Ideal .bf16) S80x256 v shapeCasts_S1x80x256_S80x256)
    (truncf .bf16 (exp (subf (shapeCast S256x256 (shapeCast S1x256x256 s shapeCasts_S256x256_S1x256x256) shapeCasts_S1x256x256_S256x256)
      (broadcastTo S256x256 m broadcasts_S1x256_S256x256))) bitsLt_bf16_f32)
    (constant S80x256 .f32 0x00000000#32))

/-- The head's result from its accumulator: the 64 value rows over the row of denominators. -/
def quotient (a : FVec Ideal S80x256 .f32) : FVec Ideal S1x64x256 .bf16 :=
  shapeCast S1x64x256 (truncf .bf16 (mulf (extractStridedSlice S64x256 ![0, 0] a slices_S80x256_o0_0_S64x256)
    (broadcastTo S64x256 (divf (broadcast S1x256 (Scalar.ofBits .f32 0x3F800000#32)) (extractStridedSlice S1x256 ![64, 0] a slices_S80x256_o64_0_S1x256))
      broadcasts_S1x256_S64x256)) bitsLt_bf16_f32) shapeCasts_S64x256_S1x64x256

/-- The maxima over a list of key blocks. -/
def maxOf (q : Vec Ideal S256x128 .bf16) (L : List (Vec Ideal S256x128 .bf16 × Vec Ideal S1x80x256 .bf16)) : FVec Ideal S1x256 .f32 :=
  L.foldl (fun m kv => maxStep m (scores kv.1 q)) max0

/-- The accumulator over a list of key blocks, at maxima `m`. -/
def accOf (q : Vec Ideal S256x128 .bf16) (m : FVec Ideal S1x256 .f32) (L : List (Vec Ideal S256x128 .bf16 × Vec Ideal S1x80x256 .bf16)) : FVec Ideal S80x256 .f32 :=
  L.foldl (fun a kv => accStep m a (scores kv.1 q) kv.2) acc0

/-- One head's result over a list of key blocks. -/
def head (q : Vec Ideal S256x128 .bf16) (L : List (Vec Ideal S256x128 .bf16 × Vec Ideal S1x80x256 .bf16)) : FVec Ideal S1x64x256 .bf16 :=
  quotient (accOf q (maxOf q L) L)

/-- Head `h`'s queries. -/
def qBlk (x0 : Vec Ideal S256x512 .bf16) (h : Fin 4) : Vec Ideal S256x128 .bf16 :=
  View.ld x0 (Rect.unit ![0, 128 * h.val] ![256, 128] (by intro a; have := h.2; fin_cases a <;> simp <;> omega))

/-- Key block `c` of head `h`. -/
def kBlk (x1 : Vec Ideal S4352x512 .bf16) (h : Fin 4) (c : Fin 17) : Vec Ideal S256x128 .bf16 :=
  View.ld x1 (Rect.unit ![256 * c.val, 128 * h.val] ![256, 128] (by intro a; have := h.2; have := c.2; fin_cases a <;> simp <;> omega))

/-- The values of key block `c` of head `h`, its row of ones among them. -/
def vBlk (x2 : Vec Ideal S1x320x4352 .bf16) (h : Fin 4) (c : Fin 17) : Vec Ideal S1x80x256 .bf16 :=
  View.ld x2 (Rect.unit ![0, 80 * h.val, 256 * c.val] ![1, 80, 256] (by intro a; have := h.2; have := c.2; fin_cases a <;> simp <;> omega))

/-- The first `n` key blocks of head `h`. -/
def kvs (x1 : Vec Ideal S4352x512 .bf16) (x2 : Vec Ideal S1x320x4352 .bf16) (n : ℕ) (hn : n ≤ 17) (h : Fin 4) :
    List (Vec Ideal S256x128 .bf16 × Vec Ideal S1x80x256 .bf16) :=
  List.ofFn fun c : Fin n => (kBlk x1 h (c.castLE hn), vBlk x2 h (c.castLE hn))

theorem piece_inb (h : Fin 4) : ∀ a, (![0, 64 * h.val, 0] : Fin 3 → ℕ) a + (![1, 64, 256] : Fin 3 → ℕ) a ≤ S1x256x256.size a := by
  intro a; have := h.2; fin_cases a <;> simp <;> omega

/-- The piece of the output block that head `h` stores. -/
def piece (x0 : Vec Ideal S256x512 .bf16) (x1 : Vec Ideal S4352x512 .bf16) (x2 : Vec Ideal S1x320x4352 .bf16) (n : ℕ) (hn : n ≤ 17) (h : Fin 4) :
    View.Piece (Elt Ideal) S1x256x256 .bf16 :=
  ⟨Rect.unit ![0, 64 * h.val, 0] ![1, 64, 256] (piece_inb h), head (qBlk x0 h) (kvs x1 x2 n hn h)⟩

/-! ## Read at an index -/

theorem scores_apply (k q : Vec Ideal S256x128 .bf16) (i r : Fin 256) :
    scores k q (ix2 i r) = ∑ l : Fin 128, k (ix2 i l) * q (ix2 r l) := by
  pointwise [scores]

/-- The word of minus infinity. -/
theorem ofBits_neg_inf : Ideal.ofBits FTy.f32 4286578688#32 = ⊥ := by simp [Ideal.ofBits, Ideal.ieee]

theorem max0_apply (r : Fin 256) : max0 (ix2 0 r) = ⊥ := by
  pointwise [max0]
  exact ofBits_neg_inf

theorem maxStep_apply (m : FVec Ideal S1x256 .f32) (s : FVec Ideal S256x256 .f32) (r : Fin 256) :
    maxStep m s (ix2 0 r) = max (m (ix2 0 r)) (Finset.univ.sup fun i : Fin 256 => s (ix2 i r)) := by
  pointwise [maxStep]
  rw [ofBits_neg_inf]
  rfl

theorem acc0_apply (d : Fin 80) (r : Fin 256) : acc0 (ix2 d r) = 0 := by
  pointwise [acc0]

theorem accStep_apply (m : FVec Ideal S1x256 .f32) (a : FVec Ideal S80x256 .f32) (s : FVec Ideal S256x256 .f32) (v : Vec Ideal S1x80x256 .bf16)
    (d : Fin 80) (r : Fin 256) :
    accStep m a s v (ix2 d r) = a (ix2 d r) + ∑ i : Fin 256, v (ix3 0 d i) * Ideal.exp (s (ix2 i r) - m (ix2 0 r)) := by
  pointwise [accStep]

theorem quotient_apply (a : FVec Ideal S80x256 .f32) (d : Fin 64) (r : Fin 256) :
    quotient a (ix3 0 d r) = a (ix2 ⟨d.val, by omega⟩ r) * Ideal.div 1 (a (ix2 64 r)) := by
  pointwise [quotient]

theorem qBlk_apply (x0 : Vec Ideal S256x512 .bf16) (h : Fin 4) (r : Fin 256) (l : Fin 128) :
    qBlk x0 h (ix2 r l) = x0 (ix2 r ⟨128 * h.val + l.val, by omega⟩) := by
  refine View.ld_unit_apply_of _ _ _ _ _ _ fun a => ?_
  fin_cases a <;> simp

theorem kBlk_apply (x1 : Vec Ideal S4352x512 .bf16) (h : Fin 4) (c : Fin 17) (i : Fin 256) (l : Fin 128) :
    kBlk x1 h c (ix2 i l) = x1 (ix2 ⟨256 * c.val + i.val, by omega⟩ ⟨128 * h.val + l.val, by omega⟩) := by
  refine View.ld_unit_apply_of _ _ _ _ _ _ fun a => ?_
  fin_cases a <;> simp

theorem vBlk_apply (x2 : Vec Ideal S1x320x4352 .bf16) (h : Fin 4) (c : Fin 17) (d : Fin 80) (i : Fin 256) :
    vBlk x2 h c (ix3 0 d i) = x2 (ix3 0 ⟨80 * h.val + d.val, by omega⟩ ⟨256 * c.val + i.val, by omega⟩) := by
  refine View.ld_unit_apply_of _ _ _ _ _ _ fun a => ?_
  fin_cases a <;> simp

/-- The maxima over a list of key blocks are bounded by `b` exactly where every score is. -/
theorem maxOf_le (q : Vec Ideal S256x128 .bf16) (L : List (Vec Ideal S256x128 .bf16 × Vec Ideal S1x80x256 .bf16)) (r : Fin 256) (b : EReal) :
    maxOf q L (ix2 0 r) ≤ b ↔ ∀ kv ∈ L, ∀ i : Fin 256, scores kv.1 q (ix2 i r) ≤ b := by
  have key : ∀ (L : List (Vec Ideal S256x128 .bf16 × Vec Ideal S1x80x256 .bf16)) (m : FVec Ideal S1x256 .f32),
      (L.foldl (fun m kv => maxStep m (scores kv.1 q)) m) (ix2 0 r) ≤ b
        ↔ m (ix2 0 r) ≤ b ∧ ∀ kv ∈ L, ∀ i : Fin 256, scores kv.1 q (ix2 i r) ≤ b := by
    intro L
    induction L with
    | nil => intro m; simp
    | cons kv L ih =>
      intro m
      rw [List.foldl_cons, ih, maxStep_apply, max_le_iff, Finset.sup_le_iff]
      simp only [Finset.mem_univ, true_implies, List.mem_cons, forall_eq_or_imp, and_assoc]
  rw [maxOf, key, max0_apply]
  simp

/-- The accumulator over a list of key blocks, read at an index. -/
theorem accOf_apply (q : Vec Ideal S256x128 .bf16) (m : FVec Ideal S1x256 .f32) (L : List (Vec Ideal S256x128 .bf16 × Vec Ideal S1x80x256 .bf16))
    (d : Fin 80) (r : Fin 256) :
    accOf q m L (ix2 d r)
      = (L.map fun kv => ∑ i : Fin 256, kv.2 (ix3 0 d i) * Ideal.exp (scores kv.1 q (ix2 i r) - m (ix2 0 r))).sum := by
  have key : ∀ (L : List (Vec Ideal S256x128 .bf16 × Vec Ideal S1x80x256 .bf16)) (a : FVec Ideal S80x256 .f32),
      (L.foldl (fun a kv => accStep m a (scores kv.1 q) kv.2) a) (ix2 d r)
        = a (ix2 d r) + (L.map fun kv => ∑ i : Fin 256, kv.2 (ix3 0 d i) * Ideal.exp (scores kv.1 q (ix2 i r) - m (ix2 0 r))).sum := by
    intro L
    induction L with
    | nil => intro a; simp
    | cons kv L ih =>
      intro a
      rw [List.foldl_cons, ih, accStep_apply, List.map_cons, List.sum_cons, add_assoc]
  rw [accOf, key, acc0_apply, zero_add]

/-- The score of the block's key `k` against its query `r` in head `h`. -/
def score (x0 : Vec Ideal S256x512 .bf16) (x1 : Vec Ideal S4352x512 .bf16) (h : Fin 4) (r : Fin 256) (k : Fin 4352) : EReal :=
  ∑ l : Fin 128, x1 (ix2 k ⟨128 * h.val + l.val, by omega⟩) * x0 (ix2 r ⟨128 * h.val + l.val, by omega⟩)

theorem scores_blk (x0 : Vec Ideal S256x512 .bf16) (x1 : Vec Ideal S4352x512 .bf16) (h : Fin 4) (c : Fin 17) (i r : Fin 256) :
    scores (kBlk x1 h c) (qBlk x0 h) (ix2 i r) = score x0 x1 h r ⟨256 * c.val + i.val, by omega⟩ := by
  rw [scores_apply]
  simp only [kBlk_apply, qBlk_apply]
  rfl

variable (x0 : Vec Ideal S256x512 .bf16) (x1 : Vec Ideal S4352x512 .bf16) (x2 : Vec Ideal S1x320x4352 .bf16)

/-- The maxima over all 17 key blocks are the greatest scores. -/
theorem maxOf_all (h : Fin 4) (r : Fin 256) :
    maxOf (qBlk x0 h) (kvs x1 x2 17 (by decide) h) (ix2 0 r) = Finset.univ.sup (score x0 x1 h r) := by
  rw [← sup_blocks]
  refine eq_of_forall_ge_iff fun b => ?_
  rw [maxOf_le, kvs, List.forall_mem_ofFn_iff]
  simp only [scores_blk, Finset.sup_le_iff, Finset.mem_univ, true_implies, Fin.castLE_rfl, id]

/-- The maxima over the first key block alone. -/
theorem maxOf_one (h : Fin 4) (r : Fin 256) :
    maxOf (qBlk x0 h) (kvs x1 x2 1 (by decide) h) (ix2 0 r) = Finset.univ.sup fun k : Fin 256 => score x0 x1 h r ⟨k.val, by omega⟩ := by
  refine eq_of_forall_ge_iff fun b => ?_
  rw [maxOf_le, kvs, List.forall_mem_ofFn_iff]
  simp only [scores_blk, Finset.sup_le_iff, Finset.mem_univ, true_implies]
  simp

/-- One head over all the keys, at real scores and with ones below its values: softmax attention. -/
theorem head_all (h : Fin 4) (d : Fin 64) (r : Fin 256)
    (hs : ∀ k, IsReal (score x0 x1 h r k)) (h1 : ∀ k : Fin 4352, x2 (ix3 0 ⟨80 * h.val + 64, by omega⟩ k) = 1) :
    head (qBlk x0 h) (kvs x1 x2 17 (by decide) h) (ix3 0 d r)
      = attend (score x0 x1 h r) fun k => x2 (ix3 0 ⟨80 * h.val + d.val, by omega⟩ k) := by
  have hacc : ∀ e : Fin 80, accOf (qBlk x0 h) (maxOf (qBlk x0 h) (kvs x1 x2 17 (by decide) h)) (kvs x1 x2 17 (by decide) h) (ix2 e r)
      = ∑ k, x2 (ix3 0 ⟨80 * h.val + e.val, by omega⟩ k) * weight (score x0 x1 h r) k := by
    intro e
    rw [accOf_apply, maxOf_all, kvs, List.map_ofFn, List.sum_ofFn, ← sum_blocks]
    simp only [Function.comp_def, scores_blk, vBlk_apply, Fin.castLE_rfl, id]
    rfl
  rw [head, quotient_apply, hacc, hacc, ← attend_eq _ _ (by decide) hs]
  congr 2
  refine Finset.sum_congr rfl fun k _ => ?_
  exact (congrArg (· * _) (h1 k)).trans (one_mul _)

/-- One head over the first key block, likewise. -/
theorem head_one (h : Fin 4) (d : Fin 64) (r : Fin 256)
    (hs : ∀ k, IsReal (score x0 x1 h r k)) (h1 : ∀ k : Fin 4352, x2 (ix3 0 ⟨80 * h.val + 64, by omega⟩ k) = 1) :
    head (qBlk x0 h) (kvs x1 x2 1 (by decide) h) (ix3 0 d r)
      = attend (fun k : Fin 256 => score x0 x1 h r ⟨k.val, by omega⟩) fun k => x2 (ix3 0 ⟨80 * h.val + d.val, by omega⟩ ⟨k.val, by omega⟩) := by
  have hacc : ∀ e : Fin 80, accOf (qBlk x0 h) (maxOf (qBlk x0 h) (kvs x1 x2 1 (by decide) h)) (kvs x1 x2 1 (by decide) h) (ix2 e r)
      = ∑ k : Fin 256, x2 (ix3 0 ⟨80 * h.val + e.val, by omega⟩ ⟨k.val, by omega⟩) * weight (fun k : Fin 256 => score x0 x1 h r ⟨k.val, by omega⟩) k := by
    intro e
    rw [accOf_apply, maxOf_one, kvs, List.map_ofFn, List.sum_ofFn, Fin.sum_univ_one]
    simp only [Function.comp_def, scores_blk, vBlk_apply]
    refine Finset.sum_congr rfl fun k _ => ?_
    simp [weight]
  rw [head, quotient_apply, hacc, hacc, ← attend_eq _ _ (by decide) fun k => hs _]
  congr 2
  refine Finset.sum_congr rfl fun k _ => ?_
  exact (congrArg (· * _) (h1 _)).trans (one_mul _)

end Cert.KernelIdeal.Attn

end
-- ==== Proof.AttnKernel.lean ====
/- The attention kernel's result array: at every index softmax attention of the arrays it was called with. -/
module

public import proofs.«01_k».proof.Proof.AttnBlocks

@[expose] public section

set_option backward.proofsInPublic true
set_option maxRecDepth 16384

noncomputable section

namespace Cert.KernelIdeal.Attn

open Cert.KernelIdeal Cert.KernelIdeal.Gen Cert.KernelIdeal.Facts Idealize.ShloMosaic Idealize.ShloMosaic.TcCoe Idealize.SL.Sem Cert.Math
open Idealize.ShloMosaic.Pipeline (Dat)

section Cases

variable (c : Dev nD) (i : grid0.Coords) (arg3 : Memref sig .tc .vmem S256x512 .bf16) (harg3 : arg3.IsWhole) (arg4 : Memref sig .tc .vmem S4352x512 .bf16)
  (harg4 : arg4.IsWhole) (arg5 : Memref sig .tc .vmem S1x320x4352 .bf16) (harg5 : arg5.IsWhole) (arg6 : Memref sig .tc .vmem S1x256x256 .bf16)
  (harg6 : arg6.IsWhole) (arg7 : Memref sig .tc .vmem S4x4352x256 .f32) (harg7 : arg7.IsWhole)
  (x0 : Vec Ideal S256x512 .bf16) (x1 : Vec Ideal S4352x512 .bf16) (x2 : Vec Ideal S1x320x4352 .bf16)

/-- At a point of the context rows the body leaves the four heads over the first key block. -/
theorem outA (hc0) (hc1) : out0_A_3 c i arg3 harg3 arg4 harg4 arg5 harg5 arg6 harg6 arg7 harg7 hc0 hc1 x0 x1 x2
    = View.canon [piece x0 x1 x2 1 (by decide) 3, piece x0 x1 x2 1 (by decide) 2, piece x0 x1 x2 1 (by decide) 1, piece x0 x1 x2 1 (by decide) 0] := by
  frame_open
  simp (disch := decide) only [↓ View.readCov_skip, ↓ View.readCov_cons_toLoadRect, ↓ View.readCov_fill]
  frame_out
  rfl

set_option maxHeartbeats 4000000 in
/-- At every other point, the four heads over all 17 key blocks. -/
theorem outB (hc0) (hc1) : out0_B_3 c i arg3 harg3 arg4 harg4 arg5 harg5 arg6 harg6 arg7 harg7 hc0 hc1 x0 x1 x2
    = View.canon [piece x0 x1 x2 17 (by decide) 3, piece x0 x1 x2 17 (by decide) 2, piece x0 x1 x2 17 (by decide) 1, piece x0 x1 x2 17 (by decide) 0] := by
  frame_open
  simp (disch := decide) only [↓ View.readCov_skip, ↓ View.readCov_cons_toLoadRect, ↓ View.readCov_fill]
  frame_out
  rfl

end Cases

/-- The block a point stores, as one function of the index: the row's head, at the row's place in it. -/
def blockAt (x0 : Vec Ideal S256x512 .bf16) (x1 : Vec Ideal S4352x512 .bf16) (x2 : Vec Ideal S1x320x4352 .bf16) (n : ℕ) (hn : n ≤ 17)
    (i : S1x256x256.Idx) : Elt Ideal .bf16 :=
  head (qBlk x0 ⟨(i 1).val / 64, by have : (i 1).val < 256 := (i 1).isLt; omega⟩)
    (kvs x1 x2 n hn ⟨(i 1).val / 64, by have : (i 1).val < 256 := (i 1).isLt; omega⟩) (ix3 0 ⟨(i 1).val % 64, by omega⟩ (i 2))

/-- The stored block read at an index: the row's head, at the row's place in it. -/
theorem canon_apply (x0 : Vec Ideal S256x512 .bf16) (x1 : Vec Ideal S4352x512 .bf16) (x2 : Vec Ideal S1x320x4352 .bf16) (n : ℕ) (hn : n ≤ 17)
    (u : Fin 1) (e r : Fin 256) :
    View.canon (Val := Elt Ideal) (e := .bf16) [piece x0 x1 x2 n hn 3, piece x0 x1 x2 n hn 2, piece x0 x1 x2 n hn 1, piece x0 x1 x2 n hn 0] (ix3 u e r)
      = head (qBlk x0 ⟨e.val / 64, by omega⟩) (kvs x1 x2 n hn ⟨e.val / 64, by omega⟩) (ix3 0 ⟨e.val % 64, by omega⟩ r) := by
  refine View.canon_apply_of_pieces (blockAt x0 x1 x2 n hn) _ ?_ _ ?_
  · have key : ∀ (h : Fin 4) (x : (piece x0 x1 x2 n hn h).1.shape.Idx), (piece x0 x1 x2 n hn h).2 x
        = (blockAt x0 x1 x2 n hn) ((piece x0 x1 x2 n hn h).1.emb x) := by
      intro h x
      have h1 : (((piece x0 x1 x2 n hn h).1.emb x) 1).val = 64 * h.val + (x 1).val := Rect.idx_unit_val _ _ (piece_inb h) x 1
      have h2 : (((piece x0 x1 x2 n hn h).1.emb x) 2).val = 0 + (x 2).val := Rect.idx_unit_val _ _ (piece_inb h) x 2
      have hx1 : (x 1).val < 64 := (x 1).isLt
      have e1 : (⟨(((piece x0 x1 x2 n hn h).1.emb x) 1).val / 64, by omega⟩ : Fin 4) = h := Fin.ext (by simp only [h1]; omega)
      show head (qBlk x0 h) (kvs x1 x2 n hn h) x = _
      unfold blockAt
      rw [e1]
      congr 1
      funext a
      have hx0 : (x 0).val < 1 := (x 0).isLt
      match a with
      | ⟨0, _⟩ => exact Fin.ext (by show (x 0).val = 0; omega)
      | ⟨1, _⟩ => exact Fin.ext (by show (x 1).val = _ % 64; rw [h1]; omega)
      | ⟨2, _⟩ => exact Fin.ext (by show (x 2).val = (((piece x0 x1 x2 n hn h).1.emb x) 2).val; rw [h2]; omega)
    intro p hp
    simp only [List.mem_cons, List.not_mem_nil, or_false] at hp
    rcases hp with rfl | rfl | rfl | rfl <;> exact key _
  · have he : e.val < 64 ∨ (64 ≤ e.val ∧ e.val < 128) ∨ (128 ≤ e.val ∧ e.val < 192) ∨ 192 ≤ e.val := by omega
    have mem : ∀ h : Fin 4, 64 * h.val ≤ e.val → e.val < 64 * h.val + 64 → (ix3 u e r : S1x256x256.Idx) ∈ (piece x0 x1 x2 n hn h).1.set := by
      intro h hl hu
      refine (Rect.mem_set_unit (inb := piece_inb h)).mpr fun a => ?_
      match a with
      | ⟨0, _⟩ => exact ⟨Nat.zero_le _, by show u.val < 0 + 1; omega⟩
      | ⟨1, _⟩ => exact ⟨hl, hu⟩
      | ⟨2, _⟩ => exact ⟨Nat.zero_le _, by show r.val < 0 + 256; omega⟩
    have hr := e.isLt
    rcases he with h | ⟨h, h'⟩ | ⟨h, h'⟩ | h
    · exact ⟨_, by simp, mem 0 (by simp) (by simpa using h)⟩
    · exact ⟨_, by simp, mem 1 (by simpa using h) (by simpa using h')⟩
    · exact ⟨_, by simp, mem 2 (by simpa using h) (by simpa using h')⟩
    · exact ⟨_, by simp, mem 3 (by simpa using h) (by simpa using hr)⟩

end Cert.KernelIdeal.Attn

end
-- ==== Proof.AttnArray.lean ====
/- The attention kernel's result array: at every index softmax attention of the arrays it was called with. -/
module

public import proofs.«01_k».proof.Proof.AttnKernel

@[expose] public section

set_option backward.proofsInPublic true
set_option maxRecDepth 16384

noncomputable section

namespace Cert.KernelIdeal.Attn

open Cert.KernelIdeal Cert.KernelIdeal.Gen Cert.KernelIdeal.Facts Idealize.ShloMosaic Idealize.ShloMosaic.TcCoe Idealize.SL.Sem Cert.Math
open Idealize.ShloMosaic.Pipeline (Dat)

/-- The block each point reads and writes, decided over the grid. -/
theorem idx : ∀ t : Fin cfg0.N, win0_0.index t = ![t.val, 0] ∧ win0_1.index t = ![t.val / 17, 0] ∧ win0_2.index t = ![t.val / 17, 0, 0]
    ∧ win0_3.index t = ![t.val, 0, 0] :=
  (by decide +kernel : ∀ t : Fin grid0.N, win0_0.index t = ![t.val, 0] ∧ win0_1.index t = ![t.val / 17, 0] ∧ win0_2.index t = ![t.val / 17, 0, 0]
    ∧ win0_3.index t = ![t.val, 0, 0])

variable (m : (ℓ : Loc nD τ sig) → Buf (Elt Ideal) ℓ) (c : Dev nD)

/-- The arrays the kernel is called with. -/
abbrev Qm : S17408x512.Idx → EReal := m ((c : Thread nD τ).loc main_arg0)
abbrev Km : S17408x512.Idx → EReal := m ((c : Thread nD τ).loc main_arg1)
abbrev Vm : S4x320x4352.Idx → EReal := m ((c : Thread nD τ).loc main_arg2)

theorem tlt (t : Fin cfg0.N) : t.val < 68 := lt_of_lt_of_eq t.isLt (show cfg0.N = 68 from N_0)

theorem iblk0_apply (t : Fin cfg0.N) (r : Fin 256) (l : Fin 512) :
    iblk m c 0 t (ix2 r l) = Qm m c (ix2 ⟨256 * t.val + r.val, by have := tlt t; omega⟩ l) := by
  blk_ext [iblk, V, (idx t).1]

theorem iblk1_apply (t : Fin cfg0.N) (k : Fin 4352) (l : Fin 512) :
    iblk m c 1 t (ix2 k l) = Km m c (ix2 ⟨4352 * (t.val / 17) + k.val, by have := tlt t; omega⟩ l) := by
  blk_ext [iblk, V, (idx t).2.1]

theorem iblk2_apply (t : Fin cfg0.N) (e : Fin 320) (k : Fin 4352) :
    iblk m c 2 t (ix3 0 e k) = Vm m c (ix3 ⟨t.val / 17, by have := tlt t; omega⟩ e k) := by
  blk_ext [iblk, V, (idx t).2.2.1]

theorem score_blk (t : Fin cfg0.N) (h : Fin 4) (r : Fin 256) (k : Fin 4352) :
    score (iblk m c 0 t) (iblk m c 1 t) h r k
      = gscore (Qm m c) (Km m c) ⟨t.val / 17, by have := tlt t; omega⟩ h ⟨256 * (t.val % 17) + r.val, by omega⟩ k := by
  unfold score gscore
  refine Finset.sum_congr rfl fun l _ => ?_
  rw [iblk0_apply, iblk1_apply]
  have e : (⟨256 * t.val + r.val, by have := tlt t; omega⟩ : Fin 17408)
      = ⟨4352 * (t.val / 17) + (256 * (t.val % 17) + r.val), by have := tlt t; omega⟩ := Fin.ext (by simp only; omega)
  rw [e]

section Point

variable (hQ : ∀ i, IsReal (Qm m c i)) (hK : ∀ i, IsReal (Km m c i))
  (h1 : ∀ (b h : Fin 4) (k : Fin 4352), Vm m c (ix3 b ⟨80 * h.val + 64, by omega⟩ k) = 1)
include hQ hK h1

/-- What a point stores, at an index of its block: attention at that row. -/
theorem point (t : Fin cfg0.N) (u : Fin 1) (e r : Fin 256) :
    outsAt0 m c t.val t.isLt (ix3 u e r) = attnOut (Qm m c) (Km m c) (Vm m c) ⟨t.val, tlt t⟩ e r := by
  have hs : ∀ k, IsReal (score (iblk m c 0 t) (iblk m c 1 t) ⟨e.val / 64, by omega⟩ r k) := fun k => by
    rw [score_blk]; exact gscore_real hQ hK _ _ _ _
  have ho : ∀ k : Fin 4352, iblk m c 2 t (ix3 0 ⟨80 * (⟨e.val / 64, by omega⟩ : Fin 4).val + 64, by simp only; omega⟩ k) = (1 : EReal) := fun k => by
    rw [iblk2_apply]; exact h1 _ _ _
  unfold attnOut attnAt
  by_cases h0 : t.val % 17 = 0
  · rw [outsAt0_A m c t h0 (by omega), outA, canon_apply, head_one _ _ _ _ _ _ hs ho, if_pos h0]
    refine congrArg₂ attend (funext fun k => ?_) (funext fun k => ?_)
    · exact score_blk m c t _ r _
    · exact iblk2_apply m c t _ _
  · rw [outsAt0_B m c t h0 (by omega), outB, canon_apply, head_all _ _ _ _ _ _ hs ho, if_neg h0]
    refine congrArg₂ attend (funext fun k => ?_) (funext fun k => ?_)
    · exact score_blk m c t _ r _
    · exact iblk2_apply m c t _ _

/-- The kernel's whole result. -/
theorem final :
    (dats m 0 c).arrAt 3 cfg0.N = fun i : S68x256x256.Idx => attnOut (Qm m c) (Km m c) (Vm m c) (i 0) (i 1) (i 2) := by
  refine (dats m 0 c).arrAt_eq_of_covers 3 _ (by decide +kernel) fun t hf y => ?_
  blk_simp
  have e0 : ((win0_3.blk t).view.emb y 0).val = t.val + (y 0).val := by blk_simp [(idx t).2.2.2]
  have e1 : ((win0_3.blk t).view.emb y 1).val = (y 1).val := by blk_simp [(idx t).2.2.2]
  have e2 : ((win0_3.blk t).view.emb y 2).val = (y 2).val := by blk_simp [(idx t).2.2.2]
  have y0 : (y 0).val < 1 := (y 0).isLt
  have hy : y = (ix3 (n0 := 1) (n1 := 256) (n2 := 256) (y 0) (y 1) (y 2) : S1x256x256.Idx) := eq_ix3 y
  have key := point m c hQ hK h1 t (y 0) (y 1) (y 2)
  rw [after0_3]
  refine (congrArg (outsAt0 m c t.val t.isLt) hy).trans (key.trans ?_)
  have f0 : (⟨t.val, tlt t⟩ : Fin 68) = (win0_3.blk t).view.emb y 0 := Fin.ext (by rw [e0]; simp only; omega)
  have f1 : (y 1 : Fin 256) = (win0_3.blk t).view.emb y 1 := Fin.ext e1.symm
  have f2 : (y 2 : Fin 256) = (win0_3.blk t).view.emb y 2 := Fin.ext e2.symm
  rw [f0, f1, f2]

end Point

end Cert.KernelIdeal.Attn

end
-- ==== Proof.AttnRefScores.lean ====
/- The reference's scores and their largest. -/
module

public import proofs.«01_k».proof.Proof.AttnMath
public import proofs.«01_k».proof.Proof.Gen.ReferenceIdeal.Read

@[expose] public section

set_option backward.proofsInPublic true
set_option maxRecDepth 16384

noncomputable section

namespace Cert.ReferenceIdeal.Attn

open Cert.ReferenceIdeal Cert.ReferenceIdeal.Gen Cert.ReferenceIdeal.Facts Cert.ReferenceIdeal.Read Idealize.ShloMosaic Idealize.ShloMosaic.TcCoe Idealize.SL.Sem Cert.Math

variable (Q K : S17408x512.Idx → EReal) (V : S4x320x4352.Idx → EReal)

theorem scores1 (b h : Fin 4) (T : Fin 4096) (k : Fin 4352) :
    val_main_v24 (F := Ideal) Q K (ix4 b h T k) = gscore Q K b h ⟨256 + T.val, by omega⟩ k := by
  unfold gscore
  pointwise [val_main_v24, val_main_v23, val_main_v1, val_main_v3, val_main_v0, val_main_v2]
  refine Finset.sum_congr rfl fun l _ => ?_
  simp only [Nat.mul_comm b.val, Nat.mul_comm h.val]
  exact mul_comm _ _

theorem scores0 (b h : Fin 4) (T k : Fin 256) :
    val_main_v10 (F := Ideal) Q K (ix4 b h T k) = gscore Q K b h ⟨T.val, by omega⟩ ⟨k.val, by omega⟩ := by
  unfold gscore
  pointwise [val_main_v10, val_main_v7, val_main_v8, val_main_v1, val_main_v3, val_main_v0, val_main_v2]
  refine Finset.sum_congr rfl fun l _ => ?_
  simp only [Nat.mul_comm b.val, Nat.mul_comm h.val]
  exact mul_comm _ _

theorem neg_inf : Ideal.ofBits FTy.f32 4286578688#32 = ⊥ := by simp [Ideal.ofBits, Ideal.ieee]

theorem fold_sup {n : ℕ} (f : Fin n → EReal) (x : EReal) (hx : x = ⊥) : Finset.fold max x f Finset.univ = Finset.univ.sup f := by
  subst hx; rfl

theorem max1 (b h : Fin 4) (T : Fin 4096) :
    val_main_v25 (F := Ideal) Q K (ix3 b h T) = Finset.univ.sup fun k => val_main_v24 (F := Ideal) Q K (ix4 b h T k) := by
  unfold val_main_v25
  pointwise
  exact fold_sup _ _ neg_inf

theorem max0 (b h : Fin 4) (T : Fin 256) :
    val_main_v11 (F := Ideal) Q K (ix3 b h T) = Finset.univ.sup fun k => val_main_v10 (F := Ideal) Q K (ix4 b h T k) := by
  unfold val_main_v11
  pointwise
  exact fold_sup _ _ neg_inf

end Cert.ReferenceIdeal.Attn

end
-- ==== Proof.AttnRefWeight.lean ====
/- The reference's weights. -/
module

public import proofs.«01_k».proof.Proof.AttnRefScores
public import proofs.«01_k».proof.Proof.Gen.ReferenceIdeal.Read

@[expose] public section

set_option backward.proofsInPublic true
set_option maxRecDepth 16384

noncomputable section

namespace Cert.ReferenceIdeal.Attn

open Cert.ReferenceIdeal Cert.ReferenceIdeal.Gen Cert.ReferenceIdeal.Facts Cert.ReferenceIdeal.Read Idealize.ShloMosaic Idealize.ShloMosaic.TcCoe Idealize.SL.Sem Cert.Math

variable (Q K : S17408x512.Idx → EReal) (V : S4x320x4352.Idx → EReal)

theorem weight1 (b h : Fin 4) (T : Fin 4096) (k : Fin 4352) :
    val_main_v31 (F := Ideal) Q K (ix4 b h T k) = weight (fun k => val_main_v24 (F := Ideal) Q K (ix4 b h T k)) k := by
  have e : idx_main_v28 (idx_main_v29 (ix4 b h T k)) = ix3 b h T := funext fun a => match a with | ⟨0, _⟩ => rfl | ⟨1, _⟩ => rfl | ⟨2, _⟩ => rfl
  have z : val_main_v26 (F := Ideal) (ix3 b h T) = ⊥ := by rw [val_main_v26_apply]; exact neg_inf
  refine weight_of _ k _ _ _ rfl (max1 Q K b h T) ?_
  rw [val_main_v31_apply, val_main_v30_apply, val_main_v29_apply, val_main_v28_apply, e, val_main_v27_apply, z]
  generalize val_main_v25 (F := Ideal) Q K (ix3 b h T) = a
  generalize val_main_v24 (F := Ideal) Q K (ix4 b h T k) = a'
  rfl

theorem weight0 (b h : Fin 4) (T k : Fin 256) :
    val_main_v17 (F := Ideal) Q K (ix4 b h T k) = weight (fun k => val_main_v10 (F := Ideal) Q K (ix4 b h T k)) k := by
  have e : idx_main_v14 (idx_main_v15 (ix4 b h T k)) = ix3 b h T := funext fun a => match a with | ⟨0, _⟩ => rfl | ⟨1, _⟩ => rfl | ⟨2, _⟩ => rfl
  have z : val_main_v12 (F := Ideal) (ix3 b h T) = ⊥ := by rw [val_main_v12_apply]; exact neg_inf
  refine weight_of _ k _ _ _ rfl (max0 Q K b h T) ?_
  rw [val_main_v17_apply, val_main_v16_apply, val_main_v15_apply, val_main_v14_apply, e, val_main_v13_apply, z]
  generalize val_main_v11 (F := Ideal) Q K (ix3 b h T) = a
  generalize val_main_v10 (F := Ideal) Q K (ix4 b h T k) = a'
  rfl

end Cert.ReferenceIdeal.Attn

end
-- ==== Proof.AttnRef.lean ====
/- The reference's result: at every index softmax attention of the arrays it was called with. -/
module

public import proofs.«01_k».proof.Proof.AttnRefWeight
public import proofs.«01_k».proof.Proof.Gen.ReferenceIdeal.Read

@[expose] public section

set_option backward.proofsInPublic true
set_option maxRecDepth 16384

noncomputable section

namespace Cert.ReferenceIdeal.Attn

open Cert.ReferenceIdeal Cert.ReferenceIdeal.Gen Cert.ReferenceIdeal.Facts Cert.ReferenceIdeal.Read Idealize.ShloMosaic Idealize.ShloMosaic.TcCoe Idealize.SL.Sem Cert.Math

variable (Q K : S17408x512.Idx → EReal) (V : S4x320x4352.Idx → EReal)

theorem out1 (b h : Fin 4) (T : Fin 4096) (d : Fin 64) :
    val_main_v36 (F := Ideal) Q K V (ix4 b h d T) = attend (fun k => val_main_v24 (F := Ideal) Q K (ix4 b h T k)) fun k => V (ix3 b ⟨80 * h.val + d.val, by omega⟩ k) := by
  unfold attend
  simp only [← weight1]
  pointwise [val_main_v36, val_main_v35, val_main_v34, val_main_v33, val_main_v32, val_main_cst_4,val_main_v6, val_main_v5, val_main_v4]
  simp only [Nat.mul_comm h.val]

theorem out0 (b h : Fin 4) (T : Fin 256) (d : Fin 64) :
    val_main_v22 (F := Ideal) Q K V (ix4 b h d T)
      = attend (fun k : Fin 256 => val_main_v10 (F := Ideal) Q K (ix4 b h T k)) fun k => V (ix3 b ⟨80 * h.val + d.val, by omega⟩ ⟨k.val, by omega⟩) := by
  unfold attend
  simp only [← weight0]
  pointwise [val_main_v22, val_main_v21, val_main_v20, val_main_v19, val_main_v18, val_main_cst_1, val_main_v9, val_main_v6, val_main_v5, val_main_v4]
  simp only [Nat.mul_comm h.val]

theorem idx40 (t : Fin 68) (e r : Fin 256) : idx_main_v40 (ix3 t e r) = ix4 ⟨t.val / 17, by omega⟩ ⟨t.val % 17, by omega⟩ e r :=
  funext fun a => Fin.ext (by
    have ht := t.isLt; have he := e.isLt; have hr := r.isLt
    match a with
    | ⟨0, _⟩ => show ((t.val * 256 + e.val) * 256 + r.val) / 1114112 = t.val / 17; omega
    | ⟨1, _⟩ => show ((t.val * 256 + e.val) * 256 + r.val) / 65536 % 17 = t.val % 17; omega
    | ⟨2, _⟩ => show ((t.val * 256 + e.val) * 256 + r.val) / 256 % 256 = e.val; omega
    | ⟨3, _⟩ => show ((t.val * 256 + e.val) * 256 + r.val) % 256 = r.val; omega)

theorem idx39 (b : Fin 4) (j : Fin 17) (e r : Fin 256) : idx_main_v39 (ix4 b j e r) = ix4 b e j r :=
  funext fun a => match a with | ⟨0, _⟩ => rfl | ⟨1, _⟩ => rfl | ⟨2, _⟩ => rfl | ⟨3, _⟩ => rfl

theorem idx38 (b : Fin 4) (j : Fin 17) (e r : Fin 256) :
    idx_main_v38 (ix4 b e j r) = ix4 b ⟨e.val / 64, by omega⟩ ⟨e.val % 64, by omega⟩ ⟨256 * j.val + r.val, by omega⟩ :=
  funext fun a => Fin.ext (by
    have hb := b.isLt; have hj := j.isLt; have he := e.isLt; have hr := r.isLt
    match a with
    | ⟨0, _⟩ => show (((b.val * 256 + e.val) * 17 + j.val) * 256 + r.val) / 1114112 = b.val; omega
    | ⟨1, _⟩ => show (((b.val * 256 + e.val) * 17 + j.val) * 256 + r.val) / 278528 % 4 = e.val / 64; omega
    | ⟨2, _⟩ => show (((b.val * 256 + e.val) * 17 + j.val) * 256 + r.val) / 4352 % 64 = e.val % 64; omega
    | ⟨3, _⟩ => show (((b.val * 256 + e.val) * 17 + j.val) * 256 + r.val) % 4352 = 256 * j.val + r.val; omega)

/-- The result's blocks are the head-major outputs, rearranged. -/
theorem arranged (t : Fin 68) (e r : Fin 256) :
    val_main_v41 (F := Ideal) Q K V (ix3 t e r) = (val_main_v37 (F := Ideal) Q K V
      (ix4 ⟨t.val / 17, by omega⟩ ⟨e.val / 64, by omega⟩ ⟨e.val % 64, by omega⟩ ⟨256 * (t.val % 17) + r.val, by omega⟩) : EReal) := by
  rw [val_main_v41_apply, val_main_v40_apply, idx40, val_main_v39_apply, idx39, val_main_v38_apply, idx38]
  rfl

/-- The head-major outputs: the context queries', then the others'. -/
theorem joined (b h : Fin 4) (d : Fin 64) (T : Fin 4352) :
    val_main_v37 (F := Ideal) Q K V (ix4 b h d T)
      = ((if h_1 : T.val < 256 then val_main_v22 (F := Ideal) Q K V (ix4 b h d ⟨T.val, h_1⟩)
          else val_main_v36 (F := Ideal) Q K V (ix4 b h d ⟨T.val - 256, by omega⟩)) : EReal) := by
  unfold val_main_v37
  generalize val_main_v22 (F := Ideal) Q K V = A
  generalize val_main_v36 (F := Ideal) Q K V = B
  pointwise

theorem pick0 (t : Fin 68) (e r : Fin 256) (h0 : t.val % 17 = 0) :
    val_main_v41 (F := Ideal) Q K V (ix3 t e r)
      = (val_main_v22 (F := Ideal) Q K V (ix4 ⟨t.val / 17, by omega⟩ ⟨e.val / 64, by omega⟩ ⟨e.val % 64, by omega⟩ r) : EReal) := by
  rw [arranged, joined]
  generalize val_main_v22 (F := Ideal) Q K V = A
  generalize val_main_v36 (F := Ideal) Q K V = B
  rw [dif_pos (by simp only; omega)]
  exact congrArg (fun T => A (ix4 _ _ _ T)) (Fin.ext (by simp only; omega))

theorem pick1 (t : Fin 68) (e r : Fin 256) (h0 : ¬t.val % 17 = 0) :
    val_main_v41 (F := Ideal) Q K V (ix3 t e r) = (val_main_v36 (F := Ideal) Q K V
      (ix4 ⟨t.val / 17, by omega⟩ ⟨e.val / 64, by omega⟩ ⟨e.val % 64, by omega⟩ ⟨256 * (t.val % 17) + r.val - 256, by omega⟩) : EReal) := by
  rw [arranged, joined]
  generalize val_main_v22 (F := Ideal) Q K V = A
  generalize val_main_v36 (F := Ideal) Q K V = B
  rw [dif_neg (by simp only; omega)]

theorem all0 (t : Fin 68) (e r : Fin 256) (h0 : t.val % 17 = 0) :
    val_main_v41 (F := Ideal) Q K V (ix3 t e r) = attnOut Q K V t e r := by
  rw [pick0 Q K V t e r h0, out0, attnOut, attnAt, if_pos h0]
  have e : r.val = 256 * (t.val % 17) + r.val := by omega
  refine congrArg (attend · _) (funext fun k => ?_)
  rw [scores0]
  exact congrArg (gscore Q K _ _ · _) (Fin.ext e)

theorem all1 (t : Fin 68) (e r : Fin 256) (h0 : ¬t.val % 17 = 0) :
    val_main_v41 (F := Ideal) Q K V (ix3 t e r) = attnOut Q K V t e r := by
  rw [pick1 Q K V t e r h0, out1, attnOut, attnAt, if_neg h0]
  have e : 256 + (256 * (t.val % 17) + r.val - 256) = 256 * (t.val % 17) + r.val := by omega
  refine congrArg (attend · _) (funext fun k => ?_)
  rw [scores1]
  exact congrArg (gscore Q K _ _ · _) (Fin.ext e)

/-- The reference's result, at an index. -/
theorem all (t : Fin 68) (e r : Fin 256) :
    val_main_v41 (F := Ideal) Q K V (ix3 t e r) = attnOut Q K V t e r := by
  by_cases h0 : t.val % 17 = 0
  · exact all0 Q K V t e r h0
  · exact all1 Q K V t e r h0

end Cert.ReferenceIdeal.Attn

end
-- ==== Proof.AttnPre.lean ====
/- What the attention's precondition says, read off its predicate: finite queries and keys, rows of ones under the values. -/
module

public import proofs.«01_k».proof.Pre_attention_inputs
public import proofs.«01_k».proof.Proof.AttnMath

@[expose] public section

set_option backward.proofsInPublic true
set_option maxRecDepth 16384

noncomputable section

namespace Cert.Pre_attention_inputs

open Idealize.ShloMosaic Cert.Math

/-- The predicate's side conditions. -/
theorem facts : Facts where
  bitsLt_bf16_f32 := by decide
  shapeCasts_S4x320x4352_S4x4x80x4352 := by decide
  slices_S4x4x80x4352_S4x4x1x4352_0_0_64_0 := by decide
  shapeCasts_S4x4x1x4352_S4x4x4352 := by decide
  bcast_S_S4x4x4352 := by decide
  bcast_S_S17408x512 := by decide

variable [Facts]
open Facts

theorem ofBits_inf : Ideal.ofBits FTy.f32 2139095040#32 = ⊤ := by simp [Ideal.ofBits, Ideal.ieee]

theorem ofBool_eq {p : Bool} (h : BitVec.ofBool p = 1#1) : p = true := by cases p <;> simp_all

variable (Q K : FVec Ideal S17408x512 .bf16) (V : FVec Ideal S4x320x4352 .bf16)

/-- The queries are finite. -/
theorem queries (h : (fn (F := Ideal) Q K V).1 = fun _ => 1#1) (i : S17408x512.Idx) : IsReal (Q i) := by
  have e := congrFun h i
  unfold fn at e
  dsimp only at e
  pointwise at e
  rw [ofBits_inf] at e
  exact IsReal.of_abs_lt (of_decide_eq_true (ofBool_eq e))

/-- The keys are finite. -/
theorem keys (h : (fn (F := Ideal) Q K V).2.1 = fun _ => 1#1) (i : S17408x512.Idx) : IsReal (K i) := by
  have e := congrFun h i
  unfold fn at e
  dsimp only at e
  pointwise at e
  rw [ofBits_inf] at e
  exact IsReal.of_abs_lt (of_decide_eq_true (ofBool_eq e))

/-- Row 64 of each head's values is ones. -/
theorem ones (h : (fn (F := Ideal) Q K V).2.2 = fun _ => 1#1) (b g : Fin 4) (k : Fin 4352) :
    V (ix3 b ⟨80 * g.val + 64, by omega⟩ k) = (1 : EReal) := by
  have e := congrFun h (ix3 b g k)
  unfold fn at e
  dsimp only at e
  pointwise at e
  simp only [Nat.mul_comm g.val] at e
  exact of_decide_eq_true (ofBool_eq e)

end Cert.Pre_attention_inputs

end
-- ==== Proof.AttnClaim.lean ====
/- The attention's value claim: under the precondition the kernel and the reference end with equal results. -/
module

public import proofs.«01_k».proof.Defs
public import proofs.«01_k».proof.Proof.AttnArray
public import proofs.«01_k».proof.Proof.AttnRef
public import proofs.«01_k».proof.Proof.AttnPre
public import proofs.«01_k».proof.Proof.Gen.KernelIdeal.Value
public import proofs.«01_k».proof.Proof.Gen.ReferenceIdeal.Run

@[expose] public section

set_option backward.proofsInPublic true

noncomputable section

namespace Cert.Attn

open Idealize.ShloMosaic Idealize.SL.Sem Cert.Math

/-- The kernel's result array, from the precondition. -/
theorem kernel_value [Cert.Pre_attention_inputs.Facts] (m : (ℓ : Loc KernelIdeal.nD KernelIdeal.τ KernelIdeal.sig) → Buf (Elt Ideal) ℓ)
    (hp : Pre_KernelIdeal_attention_inputs m) (c : Dev KernelIdeal.nD) :
    (KernelIdeal.Gen.dats m 0 c).arrAt 3 KernelIdeal.cfg0.N = fun i : KernelIdeal.S68x256x256.Idx =>
      attnOut (KernelIdeal.Attn.Qm m c) (KernelIdeal.Attn.Km m c) (KernelIdeal.Attn.Vm m c) (i 0) (i 1) (i 2) :=
  KernelIdeal.Attn.final m c (fun i => Pre_attention_inputs.queries _ _ _ (hp c).1 i) (fun i => Pre_attention_inputs.keys _ _ _ (hp c).2.1 i)
    fun b h k => Pre_attention_inputs.ones _ _ _ (hp c).2.2 b h k

/-- The reference's result array. -/
theorem reference_value (m : (ℓ : Loc ReferenceIdeal.nD ReferenceIdeal.τ ReferenceIdeal.sig) → Buf (Elt Ideal) ℓ) (c : Dev ReferenceIdeal.nD) :
    ReferenceIdeal.Value.res_main_v41 m c = fun i : ReferenceIdeal.S68x256x256.Idx =>
      attnOut (m ((c.tc : Thread ReferenceIdeal.nD ReferenceIdeal.τ).loc ReferenceIdeal.main_arg0))
        (m ((c.tc : Thread ReferenceIdeal.nD ReferenceIdeal.τ).loc ReferenceIdeal.main_arg1))
        (m ((c.tc : Thread ReferenceIdeal.nD ReferenceIdeal.τ).loc ReferenceIdeal.main_arg2)) (i 0) (i 1) (i 2) := by
  rw [ReferenceIdeal.Read.val_main_v41_eq]
  funext i
  have e : i = (ix3 (n0 := 68) (n1 := 256) (n2 := 256) (i 0) (i 1) (i 2) : ReferenceIdeal.S68x256x256.Idx) := eq_ix3 i
  exact (congrArg _ e).trans (ReferenceIdeal.Attn.all _ _ _ (i 0) (i 1) (i 2))

/-- The reference runs, its arguments kept, every counter at zero: it declares none. -/
theorem frame_r : quiescent_ReferenceIdeal :=
  fun m g _ => (θ_run (ReferenceIdeal.defs (F := Ideal)) _ _).mono (fun r h => ⟨fun c => (h c).2,
      sem_eq_zero_of_no_sems (by decide) r.2⟩)
    (ReferenceIdeal.Value.run (F := Ideal) m g)

/-- So it does under the precondition. -/
theorem frame_rp [Cert.Pre_attention_inputs.Facts] : quiescent_ReferenceIdeal_pre_attention_inputs :=
  fun m g _ => (θ_run (ReferenceIdeal.defs (F := Ideal)) _ _).mono (fun r h => ⟨fun c => (h c).2,
      sem_eq_zero_of_no_sems (by decide) r.2⟩)
    (ReferenceIdeal.Value.run (F := Ideal) m g)

/-- The claim: equal results from equal arguments that satisfy the precondition. -/
theorem algebraic [Cert.Pre_attention_inputs.Facts] : algebraic_KernelIdeal_ReferenceIdeal_pre_attention_inputs := by
  intro m g m' g' hp hag
  refine ⟨fun c => (KernelIdeal.Gen.dats m 0 c).arrAt 3 KernelIdeal.cfg0.N, KernelIdeal.Value.run_blocks m g, ?_⟩
  refine (θ_run _ _ _).mono (fun r h c => ⟨(h c).1.trans ?_, (h c).2⟩) (ReferenceIdeal.Value.run (F := Ideal) m' g')
  have hc := hag c
  refine (reference_value m' c).trans ?_
  rw [hc.1, hc.2.1, hc.2.2]
  exact (kernel_value m hp c).symm

end Cert.Attn

end
-- ==== Proof.RowMath.lean ====
/- The arithmetic of one row: the normalization by its root mean square, the modulation of the normalized row, and the
   projection of the modulated row. -/
module

public import Idealize.ShloMosaic.PureOps.Ideal.Laws
public import Idealize.ShloMosaic.Lib.Pointwise

@[expose] public section

noncomputable section

namespace Cert.Rows

open Idealize.ShloMosaic

/-- The row's width as the programs write it. -/
def width : EReal := Ideal.ofBits .f32 0x44800000#32

/-- The term added to the mean of the squares. -/
def eps : EReal := Ideal.ofBits .f32 0x358637BD#32

/-- The row over the root of the mean of its squares, at a place. -/
def rms (x : Fin 1024 → EReal) (d : Fin 1024) : EReal :=
  x d * Ideal.rsqrt (Ideal.div (∑ k : Fin 1024, x k * x k) width + eps)

/-- The normalized row times its gain. -/
def gained (x g : Fin 1024 → EReal) (d : Fin 1024) : EReal := rms x d * g d

/-- The normalized row times its gain, scaled and shifted by the modulation. -/
def modul (x g shift scale : Fin 1024 → EReal) (d : Fin 1024) : EReal :=
  gained x g d * (1 + scale d) + shift d

/-- Row `n` of a stream, the gated row of the layer's output added; that output is stored as eight rows of 128 per token. -/
def resid {N M : ℕ} (h : 8 * N = M) (X : (⟨2, ![N, 1024]⟩ : Shape).Idx → EReal) (Y : (⟨2, ![M, 128]⟩ : Shape).Idx → EReal)
    (gate : Fin 1024 → EReal) (n : Fin N) (k : Fin 1024) : EReal :=
  X (ix2 n k) + gate k * Y (ix2 ⟨8 * n.val + k.val / 128, by omega⟩ ⟨k.val % 128, by omega⟩)

/-- The `j`-th of the six vectors of 1024 that a row of the modulation table holds. -/
def vec (T : (⟨2, ![8, 6144]⟩ : Shape).Idx → EReal) (j : Fin 6) (b : Fin 8) (k : Fin 1024) : EReal :=
  T (ix2 b ⟨1024 * j.val + k.val, by omega⟩)

/-- The final norm's result at row `n`: the last residual row of its batch, normalized and times the gain. -/
def finalAt (X : (⟨2, ![16384, 1024]⟩ : Shape).Idx → EReal) (Y : (⟨2, ![131072, 128]⟩ : Shape).Idx → EReal)
    (T : (⟨2, ![8, 6144]⟩ : Shape).Idx → EReal) (G : (⟨2, ![1, 1024]⟩ : Shape).Idx → EReal) (n : Fin 16384) (d : Fin 1024) : EReal :=
  gained (resid (by decide) X Y (vec T 5 ⟨n.val / 4096, by omega⟩) n) (fun k => G (ix2 0 k)) d

/-- The table row that modulates row `n` of the stream: a batch's 4352 rows begin with its 256 context rows, which share row 4. -/
def tableRow (n : Fin 17408) : Fin 8 := if n.val % 4352 < 256 then 4 else ⟨n.val / 4352, by omega⟩

/-- Row `n` of the stream put together from the context and the latents. -/
def joined (C : (⟨3, ![4, 256, 1024]⟩ : Shape).Idx → EReal) (L : (⟨3, ![4, 4096, 1024]⟩ : Shape).Idx → EReal) (n : Fin 17408) (k : Fin 1024) : EReal :=
  if h : n.val % 4352 < 256 then C (ix3 ⟨n.val / 4352, by omega⟩ ⟨n.val % 4352, h⟩ k)
  else L (ix3 ⟨n.val / 4352, by omega⟩ ⟨n.val % 4352 - 256, by omega⟩ k)

/-- Row `n` of the stream with the gated output of the layer before added. -/
def updated (X : (⟨2, ![17408, 1024]⟩ : Shape).Idx → EReal) (Y : (⟨2, ![139264, 128]⟩ : Shape).Idx → EReal)
    (T : (⟨2, ![8, 6144]⟩ : Shape).Idx → EReal) (n : Fin 17408) (k : Fin 1024) : EReal :=
  resid (by decide) X Y (vec T 5 (tableRow n)) n k

/-- Row `n` of the projection at a place: the modulated row against the weight's column. -/
def projected (x : Fin 17408 → Fin 1024 → EReal) (T : (⟨2, ![8, 6144]⟩ : Shape).Idx → EReal) (G : (⟨2, ![1, 1024]⟩ : Shape).Idx → EReal)
    (W : (⟨2, ![1024, 3456]⟩ : Shape).Idx → EReal) (n : Fin 17408) (e : Fin 3456) : EReal :=
  ∑ k : Fin 1024, modul (x n) (fun k => G (ix2 0 k)) (vec T 0 (tableRow n)) (vec T 1 (tableRow n)) k * W (ix2 k e)

end Cert.Rows

end
-- ==== Proof.TokenTiles.lean ====
/- Tokens stored as eight tiles of 128 lanes each, one row of 128 per tile: the tiles side by side are the tokens' rows. -/
module

public import Idealize.ShloMosaic.Lib.Pipeline.ValueKit
public import Idealize.ShloMosaic.Lib.Pipeline.Value
public import Idealize.ShloMosaic.Lib.Pointwise
public import Idealize.ShloMosaic.Lib.WholeRead

@[expose] public section

set_option backward.proofsInPublic true
set_option maxRecDepth 16384

noncomputable section

namespace Cert.Rows

open Idealize.ShloMosaic

/-- 256 tokens as 2048 rows of 128, a tile of 256 of those rows, and the tokens' 256 rows of 1024. -/
abbrev Tiles : Shape := ⟨2, ![2048, 128]⟩
abbrev Tile : Shape := ⟨2, ![256, 128]⟩
abbrev Block : Shape := ⟨2, ![256, 1024]⟩

theorem tile_inb (k : Fin 8) : ∀ a, (![256, 128] : Fin 2 → ℕ) a = 0
    ∨ (![k.val, 0] : Fin 2 → ℕ) a + (![8, 1] : Fin 2 → ℕ) a * ((![256, 128] : Fin 2 → ℕ) a - 1) < Tiles.size a := by
  intro a; have := k.2; fin_cases a <;> simp <;> omega

/-- The `k`-th tile of every token's row: lanes `128 k` to `128 k + 127` of 256 tokens. -/
def tile (y : Vec Ideal Tiles .f32) (k : Fin 8) : Vec Ideal Tile .f32 :=
  fun x => y ((⟨![k.val, 0], ![256, 128], ![8, 1], tile_inb k⟩ : LoadRect Tiles).idx x)

/-- The load of every eighth row from row `k` on is that tile. -/
theorem tile_eq (y : Vec Ideal Tiles .f32) {sig : RefSig} (arg : Memref sig .tc .vmem Tiles .f32) (harg : arg.IsWhole) (k : Fin 8) (h) :
    View.readAt (Elt Ideal) arg.view (⟨![k.val, 0], ![256, 128], ![8, 1], h⟩ : LoadRect Tiles) (harg.unread y) = tile y k :=
  funext fun x => harg.readAt_unread y _ x

/-- The 256 tokens' rows, their tiles side by side. -/
def tokens (y : Vec Ideal Tiles .f32) : FVec Ideal Block .f32 :=
  concatenate Block 1 (List.ofFn fun k : Fin 8 => (⟨Tile, tile y k⟩ : (s : Shape) × (s.Idx → EReal)))
    (show Shape.Concatenates [Tile, Tile, Tile, Tile, Tile, Tile, Tile, Tile] Block 1 by decide)

/-- A token's row at a place: its tile there. -/
theorem tokens_apply (y : Vec Ideal Tiles .f32) (r : Fin 256) (d : Fin 1024) :
    tokens y (ix2 r d) = y (ix2 ⟨8 * r.val + d.val / 128, by omega⟩ ⟨d.val % 128, by omega⟩) := by
  unfold tokens
  refine (concatenate_ofFn_apply (t := Block) (s₁ := Tile) 1 (tile y) _ rfl 128 rfl (ix2 r d) ⟨d.val / 128, by omega⟩ rfl
    (ix2 r ⟨d.val % 128, by omega⟩) rfl (fun b hb => ?_)).trans ?_
  · match b with
    | ⟨0, _⟩ => rfl
    | ⟨1, _⟩ => exact absurd rfl hb
  · refine congrArg y (funext fun a => Fin.ext ?_)
    match a with
    | ⟨0, _⟩ => show d.val / 128 + 8 * r.val = 8 * r.val + d.val / 128; omega
    | ⟨1, _⟩ => show 0 + 1 * (d.val % 128) = d.val % 128; omega

end Cert.Rows

end
-- ==== Proof.FinalBlocks.lean ====
/- The final norm's body: each row of a block, its residual added, normalized and times the gain. -/
module

public import proofs.«01_k».proof.Proof.Gen.Kernel5Ideal.Value
public import proofs.«01_k».proof.Proof.RowMath
public import Idealize.ShloMosaic.Lib.Pipeline.ValueKit
public import Idealize.ShloMosaic.Lib.Pipeline.ReadBack
public import Idealize.ShloMosaic.Lib.Pointwise
public import proofs.«01_k».proof.Proof.TokenTiles

@[expose] public section

set_option backward.proofsInPublic true
set_option maxRecDepth 16384

noncomputable section

namespace Cert.Kernel5Ideal.Final

open Cert.Kernel5Ideal Cert.Kernel5Ideal.Gen Cert.Kernel5Ideal.Facts Idealize.ShloMosaic Idealize.ShloMosaic.TcCoe Idealize.SL.Sem Cert.Rows
open Idealize.ShloMosaic.Pipeline (Dat)

/-- The rows with their residual added, at a place. -/
theorem pay2_apply (v : Vec Ideal S1x6144 .f32) (x0 : Vec Ideal S256x1024 .f32) (y : Vec Ideal S2048x128 .f32) (r : Fin 256) (d : Fin 1024) :
    k0_pay2 v x0 (tile y 0) (tile y 1) (tile y 2) (tile y 3) (tile y 4) (tile y 5) (tile y 6) (tile y 7) (ix2 r d)
      = x0 (ix2 r d) + v (ix2 0 ⟨5120 + d.val, by omega⟩) * y (ix2 ⟨8 * r.val + d.val / 128, by omega⟩ ⟨d.val % 128, by omega⟩) := by
  rw [← tokens_apply y r d]
  have e : k0_pay2 v x0 (tile y 0) (tile y 1) (tile y 2) (tile y 3) (tile y 4) (tile y 5) (tile y 6) (tile y 7)
      = addf x0 (mulf (broadcastTo S256x1024 (extractStridedSlice S1x1024 ![0, 5120] v slices_S1x6144_o0_5120_S1x1024) broadcasts_S1x1024_S256x1024) (tokens y)) := rfl
  rw [e]
  generalize tokens y = z
  pointwise

/-- The stored row at a place: the normalized row times the gain. -/
theorem pay1_apply (v : FVec Ideal S256x1024 .f32) (g : Vec Ideal S1x1024 .f32) (r : Fin 256) (d : Fin 1024) :
    k0_pay1 v g (ix2 r d) = gained (fun k => v (ix2 r k)) (fun k => g (ix2 0 k)) d := by
  pointwise [k0_pay1, gained, rms, width, eps]

section Case

variable (c : Dev nD) (i : grid0.Coords) (arg1 : Memref sig .tc .vmem S256x1024 .f32) (harg1 : arg1.IsWhole) (arg2 : Memref sig .tc .vmem S2048x128 .f32)
  (harg2 : arg2.IsWhole) (arg3 : Memref sig .tc .vmem S8x6144 .f32) (harg3 : arg3.IsWhole) (arg4 : Memref sig .tc .vmem S1x1024 .f32)
  (harg4 : arg4.IsWhole) (arg5 : Memref sig .tc .vmem S256x1024 .f32) (harg5 : arg5.IsWhole)
  (x0 : Vec Ideal S256x1024 .f32) (x1 : Vec Ideal S2048x128 .f32) (x2 : Vec Ideal S8x6144 .f32) (x3 : Vec Ideal S1x1024 .f32)

/-- The block a point leaves. -/
theorem out : out0_A_4 c i arg1 harg1 arg2 harg2 arg3 harg3 arg4 harg4 arg5 harg5 x0 x1 x2 x3
    = k0_pay1 (k0_pay2 (View.ld x2 (Rect.unit (k0_off1 i) ![1, 6144] (k0_off1_inb i))) x0 (tile x1 0) (tile x1 1) (tile x1 2) (tile x1 3) (tile x1 4)
        (tile x1 5) (tile x1 6) (tile x1 7)) x3 := by
  rw [← tile_eq x1 arg2 harg2 0 inb_S2048x128_S256x128_0_0_s_8_1, ← tile_eq x1 arg2 harg2 1 inb_S2048x128_S256x128_1_0_s_8_1,
    ← tile_eq x1 arg2 harg2 2 inb_S2048x128_S256x128_2_0_s_8_1, ← tile_eq x1 arg2 harg2 3 inb_S2048x128_S256x128_3_0_s_8_1,
    ← tile_eq x1 arg2 harg2 4 inb_S2048x128_S256x128_4_0_s_8_1, ← tile_eq x1 arg2 harg2 5 inb_S2048x128_S256x128_5_0_s_8_1,
    ← tile_eq x1 arg2 harg2 6 inb_S2048x128_S256x128_6_0_s_8_1, ← tile_eq x1 arg2 harg2 7 inb_S2048x128_S256x128_7_0_s_8_1]
  frame_open
  simp (disch := decide) only [↓ View.readCov_skip, ↓ View.readCov_cons_toLoadRect, ↓ View.readCov_fill]
  frame_out
  rfl

end Case

end Cert.Kernel5Ideal.Final

end
-- ==== Proof.FinalArray.lean ====
/- The final norm's result array: at every row the normalized last residual. -/
module

public import proofs.«01_k».proof.Proof.FinalBlocks

@[expose] public section

set_option backward.proofsInPublic true
set_option maxRecDepth 16384

noncomputable section

namespace Cert.Kernel5Ideal.Final

open Cert.Kernel5Ideal Cert.Kernel5Ideal.Gen Cert.Kernel5Ideal.Facts Idealize.ShloMosaic Idealize.ShloMosaic.TcCoe Idealize.SL.Sem Cert.Rows
open Idealize.ShloMosaic.Pipeline (Dat)

/-- The block each point reads and writes and the row of the modulation table it loads, decided over the grid. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ k0_off1 (grid0.coords t) = ![t.val / 16, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ k0_off1 (grid0.coords t) = ![t.val / 16, 0])

variable (m : (ℓ : Loc nD τ sig) → Buf (Elt Ideal) ℓ) (c : Dev nD)

/-- The arrays the kernel is called with. -/
abbrev Xm : S16384x1024.Idx → EReal := m ((c : Thread nD τ).loc main_arg0)
abbrev Ym : S131072x128.Idx → EReal := m ((c : Thread nD τ).loc main_arg1)
abbrev Tm : S8x6144.Idx → EReal := m ((c : Thread nD τ).loc main_arg2)
abbrev Gm : S1x1024.Idx → EReal := m ((c : Thread nD τ).loc main_arg3)

theorem tlt (t : Fin cfg0.N) : t.val < 64 := lt_of_lt_of_eq t.isLt (show cfg0.N = 64 from N_0)

theorem iblk0_apply (t : Fin cfg0.N) (r : Fin 256) (l : Fin 1024) :
    iblk m c 0 t (ix2 r l) = Xm m c (ix2 ⟨256 * t.val + r.val, by have := tlt t; omega⟩ l) := by
  blk_ext [iblk, V, (idx t).1]

theorem iblk1_apply (t : Fin cfg0.N) (r : Fin 2048) (l : Fin 128) :
    iblk m c 1 t (ix2 r l) = Ym m c (ix2 ⟨2048 * t.val + r.val, by have := tlt t; omega⟩ l) := by
  blk_ext [iblk, V, (idx t).2.1]

theorem iblk2_apply (t : Fin cfg0.N) (r : Fin 8) (l : Fin 6144) : iblk m c 2 t (ix2 r l) = Tm m c (ix2 r l) := by
  blk_ext [iblk, V, (idx t).2.2.1]

theorem iblk3_apply (t : Fin cfg0.N) (r : Fin 1) (l : Fin 1024) : iblk m c 3 t (ix2 r l) = Gm m c (ix2 r l) := by
  blk_ext [iblk, V, (idx t).2.2.2.1]

/-- The row of the modulation table a point loads. -/
theorem row_apply (t : Fin cfg0.N) (T : Vec Ideal S8x6144 .f32) (l : Fin 6144) :
    View.ld T (Rect.unit (k0_off1 (grid0.coords t)) ![1, 6144] (k0_off1_inb (grid0.coords t))) (ix2 0 l)
      = T (ix2 ⟨t.val / 16, by have := tlt t; omega⟩ l) := by
  refine View.ld_unit_apply_of _ _ _ _ _ _ fun a => ?_
  have e := congrFun (idx t).2.2.2.2.2 a
  match a with
  | ⟨0, _⟩ => exact (congrArg (· + 0) e).symm
  | ⟨1, _⟩ => exact (Nat.zero_add _).symm.trans (congrArg (· + l.val) e).symm

/-- What a point stores, at an index of its block. -/
theorem point (t : Fin cfg0.N) (r : Fin 256) (d : Fin 1024) :
    outsAt0 m c t (ix2 r d) = finalAt (Xm m c) (Ym m c) (Tm m c) (Gm m c) ⟨256 * t.val + r.val, by have := tlt t; omega⟩ d := by
  unfold outsAt0
  rw [out, pay1_apply]
  unfold finalAt
  have hrow : (fun k : Fin 1024 => k0_pay2 (View.ld (iblk m c 2 t) (Rect.unit (k0_off1 (grid0.coords t)) ![1, 6144] (k0_off1_inb (grid0.coords t)))) (iblk m c 0 t)
      (tile (iblk m c 1 t) 0) (tile (iblk m c 1 t) 1) (tile (iblk m c 1 t) 2) (tile (iblk m c 1 t) 3) (tile (iblk m c 1 t) 4) (tile (iblk m c 1 t) 5)
      (tile (iblk m c 1 t) 6) (tile (iblk m c 1 t) 7) (ix2 r k))
      = resid (by decide) (Xm m c) (Ym m c) (vec (Tm m c) 5 ⟨(256 * t.val + r.val) / 4096, by have := tlt t; omega⟩)
          ⟨256 * t.val + r.val, by have := tlt t; omega⟩ := by
    funext k
    have ht := tlt t
    rw [pay2_apply, row_apply, iblk0_apply, iblk1_apply, iblk2_apply]
    unfold resid vec
    have e1 : (⟨t.val / 16, by omega⟩ : Fin 8) = ⟨(256 * t.val + r.val) / 4096, by omega⟩ := Fin.ext (by simp only; omega)
    have e2 : (⟨2048 * t.val + (8 * r.val + k.val / 128), by omega⟩ : Fin 131072) = ⟨8 * (256 * t.val + r.val) + k.val / 128, by omega⟩ :=
      Fin.ext (by simp only; omega)
    rw [e1, e2]
    rfl
  exact (congrArg (fun f => gained f _ d) hrow).trans (congrArg (fun f => gained _ f d) (funext fun k => iblk3_apply m c t 0 k))

/-- The kernel's whole result. -/
theorem final :
    (dats m 0 c).arrAt 4 cfg0.N = fun i : S16384x1024.Idx => finalAt (Xm m c) (Ym m c) (Tm m c) (Gm m c) (i 0) (i 1) := by
  refine (dats m 0 c).arrAt_eq_of_covers 4 _ (by decide +kernel) fun t hf y => ?_
  blk_simp
  have e0 : ((win0_4.blk t).view.emb y 0).val = 256 * t.val + (y 0).val := by blk_simp [(idx t).2.2.2.2.1]; omega
  have e1 : ((win0_4.blk t).view.emb y 1).val = (y 1).val := by blk_simp [(idx t).2.2.2.2.1]
  have y0 : (y 0).val < 256 := (y 0).isLt
  have hy : y = (ix2 (n0 := 256) (n1 := 1024) (y 0) (y 1) : S256x1024.Idx) := eq_ix2 y
  have key := point m c t (y 0) (y 1)
  rw [after0_4]
  refine (congrArg (outsAt0 m c t) hy).trans (key.trans ?_)
  have f0 : (⟨256 * t.val + (y 0).val, by have := tlt t; omega⟩ : Fin 16384) = (win0_4.blk t).view.emb y 0 :=
    Fin.ext e0.symm
  have f1 : (y 1 : Fin 1024) = (win0_4.blk t).view.emb y 1 := Fin.ext e1.symm
  rw [f0, f1]

end Cert.Kernel5Ideal.Final

end
-- ==== Proof.FinalRef.lean ====
/- The reference's final norm: at every row the normalized last residual. -/
module

public import proofs.«01_k».proof.Proof.RowMath
public import proofs.«01_k».proof.Proof.Gen.Reference5Ideal.Read

@[expose] public section

set_option backward.proofsInPublic true
set_option maxRecDepth 16384

noncomputable section

namespace Cert.Reference5Ideal.Final

open Cert.Reference5Ideal Cert.Reference5Ideal.Gen Cert.Reference5Ideal.Read Idealize.ShloMosaic Idealize.ShloMosaic.TcCoe Idealize.SL.Sem Cert.Rows

variable (X : S16384x1024.Idx → EReal) (Y : S131072x128.Idx → EReal) (T : S8x6144.Idx → EReal) (G : S1x1024.Idx → EReal)

theorem idx0 (b : Fin 4) (n : Fin 4096) (d : Fin 1024) :
    idx_main_v0 (ix3 b n d) = (ix2 (n0 := 16384) (n1 := 1024) ⟨4096 * b.val + n.val, by omega⟩ d : S16384x1024.Idx) :=
  funext fun a => Fin.ext (by match a with
    | ⟨0, _⟩ => show ((b.val * 4096 + n.val) * 1024 + d.val) / 1024 = 4096 * b.val + n.val; omega
    | ⟨1, _⟩ => show ((b.val * 4096 + n.val) * 1024 + d.val) % 1024 = d.val; omega)

theorem idx3 (b : Fin 4) (n : Fin 4096) (d : Fin 1024) :
    idx_main_v3 (ix3 b n d)
      = (ix2 (n0 := 131072) (n1 := 128) ⟨8 * (4096 * b.val + n.val) + d.val / 128, by omega⟩ ⟨d.val % 128, by omega⟩ : S131072x128.Idx) :=
  funext fun a => Fin.ext (by match a with
    | ⟨0, _⟩ => show ((b.val * 4096 + n.val) * 1024 + d.val) / 128 = 8 * (4096 * b.val + n.val) + d.val / 128; omega
    | ⟨1, _⟩ => show ((b.val * 4096 + n.val) * 1024 + d.val) % 128 = d.val % 128; omega)

theorem idx20 (n : Fin 16384) (d : Fin 1024) :
    idx_main_v20 (ix2 n d) = (ix3 (n0 := 4) (n1 := 4096) (n2 := 1024) ⟨n.val / 4096, by omega⟩ ⟨n.val % 4096, by omega⟩ d : S4x4096x1024.Idx) :=
  funext fun a => Fin.ext (by match a with
    | ⟨0, _⟩ => show (n.val * 1024 + d.val) / 4194304 = n.val / 4096; omega
    | ⟨1, _⟩ => show (n.val * 1024 + d.val) / 1024 % 4096 = n.val % 4096; omega
    | ⟨2, _⟩ => show (n.val * 1024 + d.val) % 1024 = d.val; omega)

/-- The table's gate at a place of its batch. -/
theorem gate (b : Fin 4) (n : Fin 4096) (d : Fin 1024) :
    (val_main_v4 (F := Ideal) T (ix3 b n d) : EReal) = vec T 5 ⟨b.val, by omega⟩ d := by
  rw [val_main_v4_apply, val_main_v2_apply, val_main_v1_apply]
  exact congrArg T (funext fun a => Fin.ext (by match a with | ⟨0, _⟩ => rfl | ⟨1, _⟩ => rfl))

/-- The row with its residual added. -/
theorem row (b : Fin 4) (n : Fin 4096) (d : Fin 1024) :
    (val_main_v6 (F := Ideal) X Y T (ix3 b n d) : EReal)
      = resid (by decide) X Y (vec T 5 ⟨b.val, by omega⟩) ⟨4096 * b.val + n.val, by omega⟩ d := by
  rw [val_main_v6_apply, val_main_v0_apply, val_main_v5_apply, val_main_v3_apply, gate, idx0, idx3]
  rfl

/-- The mean of the squares plus the small term, under its root. -/
theorem root (b : Fin 4) (n : Fin 4096) :
    (val_main_v14 (F := Ideal) X Y T (ix3 b n (0 : Fin 1)) : EReal)
      = Ideal.rsqrt (Ideal.div (∑ k : Fin 1024, (val_main_v6 (F := Ideal) X Y T (ix3 b n k) : EReal) * (val_main_v6 (F := Ideal) X Y T (ix3 b n k) : EReal)) width + eps) := by
  rw [val_main_v14_apply, val_main_v13_apply, val_main_v11_apply, val_main_v9_apply, val_main_v8_apply, val_main_v10_apply, val_main_v12_apply]
  have e : ∀ k : Fin 1024, idx_main_v8 (idx_main_v9 (ix3 b n (0 : Fin 1))) k = (ix3 (n0 := 4) (n1 := 4096) (n2 := 1024) b n k : S4x4096x1024.Idx) := fun k =>
    funext fun a => Fin.ext (by match a with | ⟨0, _⟩ => rfl | ⟨1, _⟩ => rfl | ⟨2, _⟩ => rfl)
  have s : ((val_main_cst (F := Ideal)) (Shape.Idx.first h_S_) + ∑ k : Fin 1024, (val_main_v7 (F := Ideal) X Y T) (idx_main_v8 (idx_main_v9 (ix3 b n (0 : Fin 1))) k) : EReal)
      = ∑ k : Fin 1024, (val_main_v6 (F := Ideal) X Y T (ix3 b n k) : EReal) * (val_main_v6 (F := Ideal) X Y T (ix3 b n k) : EReal) := by
    have z : (val_main_cst (F := Ideal) (Shape.Idx.first h_S_) : EReal) = 0 := by
      show Ideal.ofBits .f32 0x00000000#32 = 0
      simp [Ideal.ofBits, Ideal.ieee]
    rw [z, zero_add]
    refine Finset.sum_congr rfl fun k _ => ?_
    rw [e k]
    rfl
  exact congrArg (fun z : EReal => Ideal.rsqrt (Ideal.div z width + eps)) s

/-- The reference's result at an index. -/
theorem all (n : Fin 16384) (d : Fin 1024) :
    (val_main_v20 (F := Ideal) X Y T G (ix2 n d) : EReal) = finalAt X Y T G n d := by
  rw [val_main_v20_apply, idx20, val_main_v19_apply, val_main_v16_apply, val_main_v15_apply, val_main_v18_apply, val_main_v17_apply]
  have e : idx_main_v15 (ix3 (⟨n.val / 4096, by omega⟩ : Fin 4) (⟨n.val % 4096, by omega⟩ : Fin 4096) d)
      = (ix3 (n0 := 4) (n1 := 4096) (n2 := 1) ⟨n.val / 4096, by omega⟩ ⟨n.val % 4096, by omega⟩ 0 : S4x4096x1.Idx) :=
    funext fun a => Fin.ext (by match a with | ⟨0, _⟩ => rfl | ⟨1, _⟩ => rfl | ⟨2, _⟩ => rfl)
  have hn : (⟨4096 * (n.val / 4096) + n.val % 4096, by omega⟩ : Fin 16384) = n := Fin.ext (by simp only; omega)
  have g : G (idx_main_v17 (idx_main_v18 (ix3 (⟨n.val / 4096, by omega⟩ : Fin 4) (⟨n.val % 4096, by omega⟩ : Fin 4096) d))) = G (ix2 0 d) :=
    congrArg G (funext fun a => Fin.ext (by match a with | ⟨0, _⟩ => rfl | ⟨1, _⟩ => rfl))
  rw [e, root, g]
  simp only [row]
  rw [hn]
  rfl

end Cert.Reference5Ideal.Final

end
-- ==== Proof.FinalClaim.lean ====
/- The final norm's value claim: the kernel and the reference end with equal results. -/
module

public import proofs.«01_k».proof.Defs
public import proofs.«01_k».proof.Proof.FinalArray
public import proofs.«01_k».proof.Proof.FinalRef
public import proofs.«01_k».proof.Proof.Gen.Reference5Ideal.Run

@[expose] public section

set_option backward.proofsInPublic true

noncomputable section

namespace Cert.Final

open Idealize.ShloMosaic Idealize.SL.Sem Cert.Rows

/-- The reference runs, its arguments kept, every counter at zero: it declares none. -/
theorem frame_r : quiescent_Reference5Ideal :=
  fun m g _ => (θ_run (Reference5Ideal.defs (F := Ideal)) _ _).mono (fun r h => ⟨fun c => (h c).2,
      sem_eq_zero_of_no_sems (by decide) r.2⟩)
    (Reference5Ideal.Value.run (F := Ideal) m g)

/-- The claim: equal results from equal arguments. -/
theorem algebraic : algebraic_Kernel5Ideal_Reference5Ideal := by
  intro m g m' g' _ hag
  refine ⟨fun c => (Kernel5Ideal.Gen.dats m 0 c).arrAt 4 Kernel5Ideal.cfg0.N, Kernel5Ideal.Value.run_blocks m g, ?_⟩
  refine (θ_run _ _ _).mono (fun r h c => ⟨(h c).1.trans ?_, (h c).2⟩) (Reference5Ideal.Value.run (F := Ideal) m' g')
  have hc := hag c
  rw [Reference5Ideal.Read.val_main_v20_eq, hc.1, hc.2.1, hc.2.2.1, hc.2.2.2]
  refine Eq.trans (funext fun i => ?_) (Kernel5Ideal.Final.final m c).symm
  have e : i = (ix2 (n0 := 16384) (n1 := 1024) (i 0) (i 1) : Reference5Ideal.S16384x1024.Idx) := eq_ix2 i
  exact (congrArg _ e).trans (Reference5Ideal.Final.all _ _ _ _ (i 0) (i 1))

end Cert.Final

end
-- ==== Proof.UpdateBlocks.lean ====
/- The second layer's input projection, its body: the stream's rows with the layer's gated output added, then normalized, modulated and against the weight. -/
module

public import proofs.«01_k».proof.Proof.Gen.Kernel4Ideal.Value
public import proofs.«01_k».proof.Proof.RowMath
public import proofs.«01_k».proof.Proof.TokenTiles
public import Idealize.ShloMosaic.Lib.Pipeline.ValueKit
public import Idealize.ShloMosaic.Lib.Pipeline.ReadBack
public import Idealize.ShloMosaic.Lib.Pointwise

@[expose] public section

set_option backward.proofsInPublic true
set_option maxRecDepth 16384

noncomputable section

namespace Cert.Kernel4Ideal.Inproj

open Cert.Kernel4Ideal Cert.Kernel4Ideal.Gen Cert.Kernel4Ideal.Facts Idealize.ShloMosaic Idealize.ShloMosaic.TcCoe Idealize.SL.Sem Cert.Rows
open Idealize.ShloMosaic.Pipeline (Dat)

/-- The updated rows at a place. -/
theorem rows_apply (x0 : Vec Ideal S256x1024 .f32) (P : Vec Ideal S1x6144 .f32) (y : Vec Ideal S2048x128 .f32) (r : Fin 256) (d : Fin 1024) :
    k0_pay6 x0 (k0_pay5 P) (tile y 0) (tile y 1) (tile y 2) (tile y 3) (tile y 4) (tile y 5) (tile y 6) (tile y 7) (ix2 r d)
      = x0 (ix2 r d) + P (ix2 0 ⟨5120 + d.val, by omega⟩) * y (ix2 ⟨8 * r.val + d.val / 128, by omega⟩ ⟨d.val % 128, by omega⟩) := by
  rw [← tokens_apply y r d]
  have e : k0_pay6 x0 (k0_pay5 P) (tile y 0) (tile y 1) (tile y 2) (tile y 3) (tile y 4) (tile y 5) (tile y 6) (tile y 7)
      = addf x0 (mulf (broadcastTo S256x1024 (extractStridedSlice S1x1024 ![0, 5120] P slices_S1x6144_o0_5120_S1x1024) broadcasts_S1x1024_S256x1024) (tokens y)) := rfl
  rw [e]
  generalize tokens y = z
  pointwise

/-- The projected row at a place: the modulated row against the weight's column. -/
theorem proj_apply (x : Vec Ideal S256x1024 .f32) (p : FVec Ideal S1x1024 .f32) (a0 a1 a2 a3 a4 a5 a6 a7 : Vec Ideal S256x128 .f32)
    (T : Vec Ideal S1x6144 .f32) (g : Vec Ideal S1x1024 .f32) (w : Vec Ideal S1024x3456 .bf16) (r : Fin 256) (e : Fin 3456) :
    k0_pay7 x p a0 a1 a2 a3 a4 a5 a6 a7 T g w (ix2 r e)
      = ∑ k : Fin 1024, modul (fun k => k0_pay6 x p a0 a1 a2 a3 a4 a5 a6 a7 (ix2 r k)) (fun k => g (ix2 0 k)) (fun k => T (ix2 0 ⟨0 + k.val, by omega⟩))
          (fun k => T (ix2 0 ⟨1024 + k.val, by omega⟩)) k * w (ix2 k e) := by
  unfold k0_pay7
  generalize k0_pay6 x p a0 a1 a2 a3 a4 a5 a6 a7 = v
  pointwise [modul, gained, rms, width, eps]

theorem pay1_apply (z : FVec Ideal S256x3456 .f32) (r : Fin 256) (e : Fin 1280) : k0_pay1 z (ix2 r e) = z (ix2 r ⟨0 + e.val, by omega⟩) := by
  unfold k0_pay1
  pointwise

theorem pay2_apply (z : FVec Ideal S256x3456 .f32) (r : Fin 256) (e : Fin 768) : k0_pay2 z (ix2 r e) = z (ix2 r ⟨1280 + e.val, by omega⟩) := by
  unfold k0_pay2
  pointwise

theorem pay3_apply (z : FVec Ideal S256x3456 .f32) (r : Fin 256) (e : Fin 896) : k0_pay3 z (ix2 r e) = z (ix2 r ⟨2048 + e.val, by omega⟩) := by
  unfold k0_pay3
  pointwise

theorem pay4_apply (z : FVec Ideal S256x3456 .f32) (r : Fin 256) (e : Fin 512) : k0_pay4 z (ix2 r e) = z (ix2 r ⟨2944 + e.val, by omega⟩) := by
  unfold k0_pay4
  pointwise

section Case

variable (c : Dev nD) (i : grid0.Coords)
  (arg1 : Memref sig .tc .vmem S256x1024 .f32) (harg1 : arg1.IsWhole)
  (arg2 : Memref sig .tc .vmem S2048x128 .f32) (harg2 : arg2.IsWhole)
  (arg3 : Memref sig .tc .vmem S8x6144 .f32) (harg3 : arg3.IsWhole)
  (arg4 : Memref sig .tc .vmem S8x6144 .f32) (harg4 : arg4.IsWhole)
  (arg5 : Memref sig .tc .vmem S1x1024 .f32) (harg5 : arg5.IsWhole)
  (arg6 : Memref sig .tc .vmem S1024x3456 .bf16) (harg6 : arg6.IsWhole)
  (arg7 : Memref sig .tc .vmem S256x1024 .f32) (harg7 : arg7.IsWhole)
  (arg8 : Memref sig .tc .vmem S256x1280 .f32) (harg8 : arg8.IsWhole)
  (arg9 : Memref sig .tc .vmem S256x768 .bf16) (harg9 : arg9.IsWhole)
  (arg10 : Memref sig .tc .vmem S256x896 .f32) (harg10 : arg10.IsWhole)
  (arg11 : Memref sig .tc .vmem S256x512 .f32) (harg11 : arg11.IsWhole)
  (x0 : Vec Ideal S256x1024 .f32)
  (x1 : Vec Ideal S2048x128 .f32)
  (x2 : Vec Ideal S8x6144 .f32)
  (x3 : Vec Ideal S8x6144 .f32)
  (x4 : Vec Ideal S1x1024 .f32)
  (x5 : Vec Ideal S1024x3456 .bf16)

/-- What a point leaves in output 6. -/
theorem out6 : out0_A_6 c i arg1 harg1 arg2 harg2 arg3 harg3 arg4 harg4 arg5 harg5 arg6 harg6 arg7 harg7 arg8 harg8 arg9 harg9 arg10 harg10 arg11 harg11 x0 x1 x2 x3 x4 x5
    = k0_pay6 x0 (k0_pay5 (View.ld x2 (Rect.unit (k0_off1 i) ![1, 6144] (k0_off1_inb i)))) (tile x1 0) (tile x1 1) (tile x1 2) (tile x1 3) (tile x1 4) (tile x1 5) (tile x1 6) (tile x1 7) := by
  rw [← tile_eq x1 arg2 harg2 0 inb_S2048x128_S256x128_0_0_s_8_1,
    ← tile_eq x1 arg2 harg2 1 inb_S2048x128_S256x128_1_0_s_8_1,
    ← tile_eq x1 arg2 harg2 2 inb_S2048x128_S256x128_2_0_s_8_1,
    ← tile_eq x1 arg2 harg2 3 inb_S2048x128_S256x128_3_0_s_8_1,
    ← tile_eq x1 arg2 harg2 4 inb_S2048x128_S256x128_4_0_s_8_1,
    ← tile_eq x1 arg2 harg2 5 inb_S2048x128_S256x128_5_0_s_8_1,
    ← tile_eq x1 arg2 harg2 6 inb_S2048x128_S256x128_6_0_s_8_1,
    ← tile_eq x1 arg2 harg2 7 inb_S2048x128_S256x128_7_0_s_8_1]
  frame_open
  simp (disch := decide) only [↓ View.readCov_skip, ↓ View.readCov_cons_toLoadRect, ↓ View.readCov_fill]
  frame_out
  rfl

/-- What a point leaves in output 7. -/
theorem out7 : out0_A_7 c i arg1 harg1 arg2 harg2 arg3 harg3 arg4 harg4 arg5 harg5 arg6 harg6 arg7 harg7 arg8 harg8 arg9 harg9 arg10 harg10 arg11 harg11 x0 x1 x2 x3 x4 x5
    = k0_pay1 (k0_pay7 x0 (k0_pay5 (View.ld x2 (Rect.unit (k0_off1 i) ![1, 6144] (k0_off1_inb i)))) (tile x1 0) (tile x1 1) (tile x1 2) (tile x1 3) (tile x1 4) (tile x1 5) (tile x1 6) (tile x1 7)
        (View.ld x3 (Rect.unit (k0_off1 i) ![1, 6144] (k0_off1_inb i))) x4 x5) := by
  rw [← tile_eq x1 arg2 harg2 0 inb_S2048x128_S256x128_0_0_s_8_1,
    ← tile_eq x1 arg2 harg2 1 inb_S2048x128_S256x128_1_0_s_8_1,
    ← tile_eq x1 arg2 harg2 2 inb_S2048x128_S256x128_2_0_s_8_1,
    ← tile_eq x1 arg2 harg2 3 inb_S2048x128_S256x128_3_0_s_8_1,
    ← tile_eq x1 arg2 harg2 4 inb_S2048x128_S256x128_4_0_s_8_1,
    ← tile_eq x1 arg2 harg2 5 inb_S2048x128_S256x128_5_0_s_8_1,
    ← tile_eq x1 arg2 harg2 6 inb_S2048x128_S256x128_6_0_s_8_1,
    ← tile_eq x1 arg2 harg2 7 inb_S2048x128_S256x128_7_0_s_8_1]
  frame_open
  simp (disch := decide) only [↓ View.readCov_skip, ↓ View.readCov_cons_toLoadRect, ↓ View.readCov_fill]
  frame_out
  rfl

/-- What a point leaves in output 8. -/
theorem out8 : out0_A_8 c i arg1 harg1 arg2 harg2 arg3 harg3 arg4 harg4 arg5 harg5 arg6 harg6 arg7 harg7 arg8 harg8 arg9 harg9 arg10 harg10 arg11 harg11 x0 x1 x2 x3 x4 x5
    = k0_pay2 (k0_pay7 x0 (k0_pay5 (View.ld x2 (Rect.unit (k0_off1 i) ![1, 6144] (k0_off1_inb i)))) (tile x1 0) (tile x1 1) (tile x1 2) (tile x1 3) (tile x1 4) (tile x1 5) (tile x1 6) (tile x1 7)
        (View.ld x3 (Rect.unit (k0_off1 i) ![1, 6144] (k0_off1_inb i))) x4 x5) := by
  rw [← tile_eq x1 arg2 harg2 0 inb_S2048x128_S256x128_0_0_s_8_1,
    ← tile_eq x1 arg2 harg2 1 inb_S2048x128_S256x128_1_0_s_8_1,
    ← tile_eq x1 arg2 harg2 2 inb_S2048x128_S256x128_2_0_s_8_1,
    ← tile_eq x1 arg2 harg2 3 inb_S2048x128_S256x128_3_0_s_8_1,
    ← tile_eq x1 arg2 harg2 4 inb_S2048x128_S256x128_4_0_s_8_1,
    ← tile_eq x1 arg2 harg2 5 inb_S2048x128_S256x128_5_0_s_8_1,
    ← tile_eq x1 arg2 harg2 6 inb_S2048x128_S256x128_6_0_s_8_1,
    ← tile_eq x1 arg2 harg2 7 inb_S2048x128_S256x128_7_0_s_8_1]
  frame_open
  simp (disch := decide) only [↓ View.readCov_skip, ↓ View.readCov_cons_toLoadRect, ↓ View.readCov_fill]
  frame_out
  rfl

/-- What a point leaves in output 9. -/
theorem out9 : out0_A_9 c i arg1 harg1 arg2 harg2 arg3 harg3 arg4 harg4 arg5 harg5 arg6 harg6 arg7 harg7 arg8 harg8 arg9 harg9 arg10 harg10 arg11 harg11 x0 x1 x2 x3 x4 x5
    = k0_pay3 (k0_pay7 x0 (k0_pay5 (View.ld x2 (Rect.unit (k0_off1 i) ![1, 6144] (k0_off1_inb i)))) (tile x1 0) (tile x1 1) (tile x1 2) (tile x1 3) (tile x1 4) (tile x1 5) (tile x1 6) (tile x1 7)
        (View.ld x3 (Rect.unit (k0_off1 i) ![1, 6144] (k0_off1_inb i))) x4 x5) := by
  rw [← tile_eq x1 arg2 harg2 0 inb_S2048x128_S256x128_0_0_s_8_1,
    ← tile_eq x1 arg2 harg2 1 inb_S2048x128_S256x128_1_0_s_8_1,
    ← tile_eq x1 arg2 harg2 2 inb_S2048x128_S256x128_2_0_s_8_1,
    ← tile_eq x1 arg2 harg2 3 inb_S2048x128_S256x128_3_0_s_8_1,
    ← tile_eq x1 arg2 harg2 4 inb_S2048x128_S256x128_4_0_s_8_1,
    ← tile_eq x1 arg2 harg2 5 inb_S2048x128_S256x128_5_0_s_8_1,
    ← tile_eq x1 arg2 harg2 6 inb_S2048x128_S256x128_6_0_s_8_1,
    ← tile_eq x1 arg2 harg2 7 inb_S2048x128_S256x128_7_0_s_8_1]
  frame_open
  simp (disch := decide) only [↓ View.readCov_skip, ↓ View.readCov_cons_toLoadRect, ↓ View.readCov_fill]
  frame_out
  rfl

/-- What a point leaves in output 10. -/
theorem out10 : out0_A_10 c i arg1 harg1 arg2 harg2 arg3 harg3 arg4 harg4 arg5 harg5 arg6 harg6 arg7 harg7 arg8 harg8 arg9 harg9 arg10 harg10 arg11 harg11 x0 x1 x2 x3 x4 x5
    = k0_pay4 (k0_pay7 x0 (k0_pay5 (View.ld x2 (Rect.unit (k0_off1 i) ![1, 6144] (k0_off1_inb i)))) (tile x1 0) (tile x1 1) (tile x1 2) (tile x1 3) (tile x1 4) (tile x1 5) (tile x1 6) (tile x1 7)
        (View.ld x3 (Rect.unit (k0_off1 i) ![1, 6144] (k0_off1_inb i))) x4 x5) := by
  rw [← tile_eq x1 arg2 harg2 0 inb_S2048x128_S256x128_0_0_s_8_1,
    ← tile_eq x1 arg2 harg2 1 inb_S2048x128_S256x128_1_0_s_8_1,
    ← tile_eq x1 arg2 harg2 2 inb_S2048x128_S256x128_2_0_s_8_1,
    ← tile_eq x1 arg2 harg2 3 inb_S2048x128_S256x128_3_0_s_8_1,
    ← tile_eq x1 arg2 harg2 4 inb_S2048x128_S256x128_4_0_s_8_1,
    ← tile_eq x1 arg2 harg2 5 inb_S2048x128_S256x128_5_0_s_8_1,
    ← tile_eq x1 arg2 harg2 6 inb_S2048x128_S256x128_6_0_s_8_1,
    ← tile_eq x1 arg2 harg2 7 inb_S2048x128_S256x128_7_0_s_8_1]
  frame_open
  simp (disch := decide) only [↓ View.readCov_skip, ↓ View.readCov_cons_toLoadRect, ↓ View.readCov_fill]
  frame_out
  rfl

end Case

end Cert.Kernel4Ideal.Inproj

end
-- ==== Proof.UpdateArray.lean ====
/- The second layer's input projection: its five result arrays, row by row. -/
module

public import proofs.«01_k».proof.Proof.UpdateBlocks

@[expose] public section

set_option backward.proofsInPublic true
set_option maxRecDepth 16384

noncomputable section

namespace Cert.Kernel4Ideal.Inproj

open Cert.Kernel4Ideal Cert.Kernel4Ideal.Gen Cert.Kernel4Ideal.Facts Idealize.ShloMosaic Idealize.ShloMosaic.TcCoe Idealize.SL.Sem Cert.Rows
open Idealize.ShloMosaic.Pipeline (Dat)

/-- The blocks each point reads and writes and the row of the modulation table it loads, decided over the grid. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ k0_off1 (grid0.coords t) = ![if t.val % 17 = 0 then 4 else t.val / 17, 0] :=
  (by decide +kernel : ∀ t : Fin grid0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ k0_off1 (grid0.coords t) = ![if t.val % 17 = 0 then 4 else t.val / 17, 0])

variable (m : (ℓ : Loc nD τ sig) → Buf (Elt Ideal) ℓ) (c : Dev nD)

/-- The arrays the kernel is called with. -/
abbrev Xm : S17408x1024.Idx → EReal := m ((c : Thread nD τ).loc main_arg0)
abbrev Ym : S139264x128.Idx → EReal := m ((c : Thread nD τ).loc main_arg1)
abbrev Pm : S8x6144.Idx → EReal := m ((c : Thread nD τ).loc main_arg2)
abbrev Tm : S8x6144.Idx → EReal := m ((c : Thread nD τ).loc main_arg3)
abbrev Gm : S1x1024.Idx → EReal := m ((c : Thread nD τ).loc main_arg4)
abbrev Wm : S1024x3456.Idx → EReal := m ((c : Thread nD τ).loc main_arg5)

theorem tlt (t : Fin cfg0.N) : t.val < 68 := lt_of_lt_of_eq t.isLt (show cfg0.N = 68 from N_0)

theorem iblk0_apply (t : Fin cfg0.N) (r : Fin 256) (l : Fin 1024) :
    iblk m c 0 t (ix2 r l) = Xm m c (ix2 ⟨256 * t.val + r.val, by have := tlt t; omega⟩ l) := by
  blk_ext [iblk, V, (idx t).1]

theorem iblk1_apply (t : Fin cfg0.N) (r : Fin 2048) (l : Fin 128) :
    iblk m c 1 t (ix2 r l) = Ym m c (ix2 ⟨2048 * t.val + r.val, by have := tlt t; omega⟩ l) := by
  blk_ext [iblk, V, (idx t).2.1]

theorem iblk2_apply (t : Fin cfg0.N) (r : Fin 8) (l : Fin 6144) : iblk m c 2 t (ix2 r l) = Pm m c (ix2 r l) := by
  blk_ext [iblk, V, (idx t).2.2.1]

theorem iblk3_apply (t : Fin cfg0.N) (r : Fin 8) (l : Fin 6144) : iblk m c 3 t (ix2 r l) = Tm m c (ix2 r l) := by
  blk_ext [iblk, V, (idx t).2.2.2.1]

theorem iblk4_apply (t : Fin cfg0.N) (r : Fin 1) (l : Fin 1024) : iblk m c 4 t (ix2 r l) = Gm m c (ix2 r l) := by
  blk_ext [iblk, V, (idx t).2.2.2.2.1]

theorem iblk5_apply (t : Fin cfg0.N) (r : Fin 1024) (l : Fin 3456) : iblk m c 5 t (ix2 r l) = Wm m c (ix2 r l) := by
  blk_ext [iblk, V, (idx t).2.2.2.2.2.1]

/-- The table row that modulates the rows of point `t`. -/
theorem tableRow_eq (t : Fin cfg0.N) (r : Fin 256) :
    (tableRow ⟨256 * t.val + r.val, by have := tlt t; omega⟩).val = if t.val % 17 = 0 then 4 else t.val / 17 := by
  have ht := tlt t
  have hr := r.isLt
  unfold tableRow
  by_cases h : t.val % 17 = 0
  · rw [if_pos (show (256 * t.val + r.val) % 4352 < 256 by omega), if_pos h]; rfl
  · rw [if_neg (show ¬(256 * t.val + r.val) % 4352 < 256 by omega), if_neg h]
    show (256 * t.val + r.val) / 4352 = t.val / 17
    omega

/-- The row of a modulation table a point loads. -/
theorem row_apply (t : Fin cfg0.N) (r : Fin 256) (T : Vec Ideal S8x6144 .f32) (l : Fin 6144) :
    View.ld T (Rect.unit (k0_off1 (grid0.coords t)) ![1, 6144] (k0_off1_inb (grid0.coords t))) (ix2 0 l)
      = T (ix2 (tableRow ⟨256 * t.val + r.val, by have := tlt t; omega⟩) l) := by
  refine View.ld_unit_apply_of _ _ _ _ _ _ fun a => ?_
  have e := congrFun (idx t).2.2.2.2.2.2.2.2.2.2.2 a
  match a with
  | ⟨0, _⟩ => exact (tableRow_eq t r).trans (congrArg (· + 0) e).symm
  | ⟨1, _⟩ => exact (Nat.zero_add _).symm.trans (congrArg (· + l.val) e).symm

/-- The rows of a point are rows of the stream. -/
theorem stream (t : Fin cfg0.N) (r : Fin 256) (k : Fin 1024) :
    k0_pay6 (iblk m c 0 t) (k0_pay5 (View.ld (iblk m c 2 t) (Rect.unit (k0_off1 (grid0.coords t)) ![1, 6144] (k0_off1_inb (grid0.coords t))))) (tile (iblk m c 1 t) 0) (tile (iblk m c 1 t) 1) (tile (iblk m c 1 t) 2) (tile (iblk m c 1 t) 3) (tile (iblk m c 1 t) 4) (tile (iblk m c 1 t) 5) (tile (iblk m c 1 t) 6) (tile (iblk m c 1 t) 7) (ix2 r k) = updated (Xm m c) (Ym m c) (Pm m c) ⟨256 * t.val + r.val, by have := tlt t; omega⟩ k := by
  have ht := tlt t
  rw [rows_apply, row_apply t r, iblk0_apply, iblk1_apply, iblk2_apply]
  unfold updated resid vec
  have e2 : (⟨2048 * t.val + (8 * r.val + k.val / 128), by omega⟩ : Fin 139264) = ⟨8 * (256 * t.val + r.val) + k.val / 128, by omega⟩ :=
    Fin.ext (by simp only; omega)
  rw [e2]
  rfl

/-- The rows a point projects. -/
theorem proj_point (t : Fin cfg0.N) (r : Fin 256) (e : Fin 3456) :
    k0_pay7 (iblk m c 0 t) (k0_pay5 (View.ld (iblk m c 2 t) (Rect.unit (k0_off1 (grid0.coords t)) ![1, 6144] (k0_off1_inb (grid0.coords t))))) (tile (iblk m c 1 t) 0) (tile (iblk m c 1 t) 1) (tile (iblk m c 1 t) 2) (tile (iblk m c 1 t) 3) (tile (iblk m c 1 t) 4) (tile (iblk m c 1 t) 5) (tile (iblk m c 1 t) 6) (tile (iblk m c 1 t) 7) (View.ld (iblk m c 3 t) (Rect.unit (k0_off1 (grid0.coords t)) ![1, 6144] (k0_off1_inb (grid0.coords t)))) (iblk m c 4 t) (iblk m c 5 t) (ix2 r e)
      = projected (updated (Xm m c) (Ym m c) (Pm m c)) (Tm m c) (Gm m c) (Wm m c) ⟨256 * t.val + r.val, by have := tlt t; omega⟩ e := by
  rw [proj_apply]
  unfold projected
  refine Finset.sum_congr rfl fun k _ => ?_
  have e0 : (fun k : Fin 1024 => k0_pay6 (iblk m c 0 t) (k0_pay5 (View.ld (iblk m c 2 t) (Rect.unit (k0_off1 (grid0.coords t)) ![1, 6144] (k0_off1_inb (grid0.coords t))))) (tile (iblk m c 1 t) 0) (tile (iblk m c 1 t) 1) (tile (iblk m c 1 t) 2) (tile (iblk m c 1 t) 3) (tile (iblk m c 1 t) 4) (tile (iblk m c 1 t) 5) (tile (iblk m c 1 t) 6) (tile (iblk m c 1 t) 7) (ix2 r k)) = updated (Xm m c) (Ym m c) (Pm m c) ⟨256 * t.val + r.val, by have := tlt t; omega⟩ := funext (stream m c t r)
  have e1 : (fun k : Fin 1024 => iblk m c 4 t (ix2 0 k)) = fun k => Gm m c (ix2 0 k) := funext fun k => iblk4_apply m c t 0 k
  rw [e0, e1, iblk5_apply]
  have s0 : (fun k : Fin 1024 => (View.ld (iblk m c 3 t) (Rect.unit (k0_off1 (grid0.coords t)) ![1, 6144] (k0_off1_inb (grid0.coords t)))) (ix2 0 ⟨0 + k.val, by omega⟩)) = vec (Tm m c) 0 (tableRow ⟨256 * t.val + r.val, by have := tlt t; omega⟩) :=
    funext fun k => (row_apply t r _ _).trans (iblk3_apply m c t _ _)
  have s1 : (fun k : Fin 1024 => (View.ld (iblk m c 3 t) (Rect.unit (k0_off1 (grid0.coords t)) ![1, 6144] (k0_off1_inb (grid0.coords t)))) (ix2 0 ⟨1024 + k.val, by omega⟩)) = vec (Tm m c) 1 (tableRow ⟨256 * t.val + r.val, by have := tlt t; omega⟩) :=
    funext fun k => (row_apply t r _ _).trans (iblk3_apply m c t _ _)
  rw [s0, s1]

theorem point6 (t : Fin cfg0.N) (r : Fin 256) (d : Fin 1024) :
    (outsAt0 m c t).1 (ix2 r d) = updated (Xm m c) (Ym m c) (Pm m c) ⟨256 * t.val + r.val, by have := tlt t; omega⟩ d := by
  unfold outsAt0
  dsimp only
  rw [out6]
  exact stream m c t r d

/-- Result 1 of the kernel. -/
theorem final6 :
    (dats m 0 c).arrAt 6 cfg0.N = fun i : S17408x1024.Idx => updated (Xm m c) (Ym m c) (Pm m c) (i 0) (i 1) := by
  refine (dats m 0 c).arrAt_eq_of_covers 6 _ (by decide +kernel) fun t hf y => ?_
  blk_simp
  have e0 : ((win0_6.blk t).view.emb y 0).val = 256 * t.val + (y 0).val := by blk_simp [(idx t).2.2.2.2.2.2.1]; omega
  have e1 : ((win0_6.blk t).view.emb y 1).val = (y 1).val := by blk_simp [(idx t).2.2.2.2.2.2.1]
  have y0 : (y 0).val < 256 := (y 0).isLt
  have hy : y = (ix2 (n0 := 256) (n1 := 1024) (y 0) (y 1) : S256x1024.Idx) := eq_ix2 y
  have key := point6 m c t (y 0) (y 1)
  rw [after0_6]
  refine (congrArg (outsAt0 m c t).1 hy).trans (key.trans ?_)
  have f0 : (⟨256 * t.val + (y 0).val, by have := tlt t; omega⟩ : Fin 17408) = (win0_6.blk t).view.emb y 0 :=
    Fin.ext e0.symm
  have f1 : (y 1 : Fin 1024) = (win0_6.blk t).view.emb y 1 := Fin.ext e1.symm
  rw [f0, f1]

theorem point7 (t : Fin cfg0.N) (r : Fin 256) (d : Fin 1280) :
    (outsAt0 m c t).2.1 (ix2 r d) = projected (updated (Xm m c) (Ym m c) (Pm m c)) (Tm m c) (Gm m c) (Wm m c) ⟨256 * t.val + r.val, by have := tlt t; omega⟩ ⟨0 + d.val, by omega⟩ := by
  unfold outsAt0
  dsimp only
  rw [out7, pay1_apply]
  exact proj_point m c t r _

/-- Result 2 of the kernel. -/
theorem final7 :
    (dats m 0 c).arrAt 7 cfg0.N = fun i : S17408x1280.Idx => projected (updated (Xm m c) (Ym m c) (Pm m c)) (Tm m c) (Gm m c) (Wm m c) (i 0) ⟨0 + (i 1).val, by have : (i 1).val < 1280 := (i 1).isLt; omega⟩ := by
  refine (dats m 0 c).arrAt_eq_of_covers 7 _ (by decide +kernel) fun t hf y => ?_
  blk_simp
  have e0 : ((win0_7.blk t).view.emb y 0).val = 256 * t.val + (y 0).val := by blk_simp [(idx t).2.2.2.2.2.2.2.1]; omega
  have y0 : (y 0).val < 256 := (y 0).isLt
  have hy : y = (ix2 (n0 := 256) (n1 := 1280) (y 0) (y 1) : S256x1280.Idx) := eq_ix2 y
  have key := point7 m c t (y 0) (y 1)
  rw [after0_7]
  refine (congrArg (outsAt0 m c t).2.1 hy).trans (key.trans ?_)
  have f0 : (⟨256 * t.val + (y 0).val, by have := tlt t; omega⟩ : Fin 17408) = (win0_7.blk t).view.emb y 0 :=
    Fin.ext e0.symm
  have z : win0_7.index t 1 = 0 := congrFun (idx t).2.2.2.2.2.2.2.1 1
  rw [f0]
  refine congrArg _ (Fin.ext ?_)
  show 0 + (y 1).val = (win0_7.index t 1 * 1280 + (y 1).val)
  rw [z]

theorem point8 (t : Fin cfg0.N) (r : Fin 256) (d : Fin 768) :
    (outsAt0 m c t).2.2.1 (ix2 r d) = projected (updated (Xm m c) (Ym m c) (Pm m c)) (Tm m c) (Gm m c) (Wm m c) ⟨256 * t.val + r.val, by have := tlt t; omega⟩ ⟨1280 + d.val, by omega⟩ := by
  unfold outsAt0
  dsimp only
  rw [out8, pay2_apply]
  exact proj_point m c t r _

/-- Result 3 of the kernel. -/
theorem final8 :
    (dats m 0 c).arrAt 8 cfg0.N = fun i : S17408x768.Idx => projected (updated (Xm m c) (Ym m c) (Pm m c)) (Tm m c) (Gm m c) (Wm m c) (i 0) ⟨1280 + (i 1).val, by have : (i 1).val < 768 := (i 1).isLt; omega⟩ := by
  refine (dats m 0 c).arrAt_eq_of_covers 8 _ (by decide +kernel) fun t hf y => ?_
  blk_simp
  have e0 : ((win0_8.blk t).view.emb y 0).val = 256 * t.val + (y 0).val := by blk_simp [(idx t).2.2.2.2.2.2.2.2.1]; omega
  have y0 : (y 0).val < 256 := (y 0).isLt
  have hy : y = (ix2 (n0 := 256) (n1 := 768) (y 0) (y 1) : S256x768.Idx) := eq_ix2 y
  have key := point8 m c t (y 0) (y 1)
  rw [after0_8]
  refine (congrArg (outsAt0 m c t).2.2.1 hy).trans (key.trans ?_)
  have f0 : (⟨256 * t.val + (y 0).val, by have := tlt t; omega⟩ : Fin 17408) = (win0_8.blk t).view.emb y 0 :=
    Fin.ext e0.symm
  have z : win0_8.index t 1 = 0 := congrFun (idx t).2.2.2.2.2.2.2.2.1 1
  rw [f0]
  refine congrArg _ (Fin.ext ?_)
  show 1280 + (y 1).val = 1280 + (win0_8.index t 1 * 768 + (y 1).val)
  rw [z]
  omega

theorem point9 (t : Fin cfg0.N) (r : Fin 256) (d : Fin 896) :
    (outsAt0 m c t).2.2.2.1 (ix2 r d) = projected (updated (Xm m c) (Ym m c) (Pm m c)) (Tm m c) (Gm m c) (Wm m c) ⟨256 * t.val + r.val, by have := tlt t; omega⟩ ⟨2048 + d.val, by omega⟩ := by
  unfold outsAt0
  dsimp only
  rw [out9, pay3_apply]
  exact proj_point m c t r _

/-- Result 4 of the kernel. -/
theorem final9 :
    (dats m 0 c).arrAt 9 cfg0.N = fun i : S17408x896.Idx => projected (updated (Xm m c) (Ym m c) (Pm m c)) (Tm m c) (Gm m c) (Wm m c) (i 0) ⟨2048 + (i 1).val, by have : (i 1).val < 896 := (i 1).isLt; omega⟩ := by
  refine (dats m 0 c).arrAt_eq_of_covers 9 _ (by decide +kernel) fun t hf y => ?_
  blk_simp
  have e0 : ((win0_9.blk t).view.emb y 0).val = 256 * t.val + (y 0).val := by blk_simp [(idx t).2.2.2.2.2.2.2.2.2.1]; omega
  have y0 : (y 0).val < 256 := (y 0).isLt
  have hy : y = (ix2 (n0 := 256) (n1 := 896) (y 0) (y 1) : S256x896.Idx) := eq_ix2 y
  have key := point9 m c t (y 0) (y 1)
  rw [after0_9]
  refine (congrArg (outsAt0 m c t).2.2.2.1 hy).trans (key.trans ?_)
  have f0 : (⟨256 * t.val + (y 0).val, by have := tlt t; omega⟩ : Fin 17408) = (win0_9.blk t).view.emb y 0 :=
    Fin.ext e0.symm
  have z : win0_9.index t 1 = 0 := congrFun (idx t).2.2.2.2.2.2.2.2.2.1 1
  rw [f0]
  refine congrArg _ (Fin.ext ?_)
  show 2048 + (y 1).val = 2048 + (win0_9.index t 1 * 896 + (y 1).val)
  rw [z]
  omega

theorem point10 (t : Fin cfg0.N) (r : Fin 256) (d : Fin 512) :
    (outsAt0 m c t).2.2.2.2 (ix2 r d) = projected (updated (Xm m c) (Ym m c) (Pm m c)) (Tm m c) (Gm m c) (Wm m c) ⟨256 * t.val + r.val, by have := tlt t; omega⟩ ⟨2944 + d.val, by omega⟩ := by
  unfold outsAt0
  dsimp only
  rw [out10, pay4_apply]
  exact proj_point m c t r _

/-- Result 5 of the kernel. -/
theorem final10 :
    (dats m 0 c).arrAt 10 cfg0.N = fun i : S17408x512.Idx => projected (updated (Xm m c) (Ym m c) (Pm m c)) (Tm m c) (Gm m c) (Wm m c) (i 0) ⟨2944 + (i 1).val, by have : (i 1).val < 512 := (i 1).isLt; omega⟩ := by
  refine (dats m 0 c).arrAt_eq_of_covers 10 _ (by decide +kernel) fun t hf y => ?_
  blk_simp
  have e0 : ((win0_10.blk t).view.emb y 0).val = 256 * t.val + (y 0).val := by blk_simp [(idx t).2.2.2.2.2.2.2.2.2.2.1]; omega
  have y0 : (y 0).val < 256 := (y 0).isLt
  have hy : y = (ix2 (n0 := 256) (n1 := 512) (y 0) (y 1) : S256x512.Idx) := eq_ix2 y
  have key := point10 m c t (y 0) (y 1)
  rw [after0_10]
  refine (congrArg (outsAt0 m c t).2.2.2.2 hy).trans (key.trans ?_)
  have f0 : (⟨256 * t.val + (y 0).val, by have := tlt t; omega⟩ : Fin 17408) = (win0_10.blk t).view.emb y 0 :=
    Fin.ext e0.symm
  have z : win0_10.index t 1 = 0 := congrFun (idx t).2.2.2.2.2.2.2.2.2.2.1 1
  rw [f0]
  refine congrArg _ (Fin.ext ?_)
  show 2944 + (y 1).val = 2944 + (win0_10.index t 1 * 512 + (y 1).val)
  rw [z]
  omega

end Cert.Kernel4Ideal.Inproj

end
-- ==== Proof.UpdateRef.lean ====
/- The second layer's input projection as the reference computes it, row by row. -/
module

public import proofs.«01_k».proof.Proof.RowMath
public import proofs.«01_k».proof.Proof.Gen.Reference4Ideal.Read
public import Idealize.ShloMosaic.Lib.Pointwise

@[expose] public section

set_option backward.proofsInPublic true
set_option maxRecDepth 16384

noncomputable section

namespace Cert.Reference4Ideal.Inproj

open Cert.Reference4Ideal Cert.Reference4Ideal.Gen Cert.Reference4Ideal.Read Idealize.ShloMosaic Idealize.ShloMosaic.TcCoe Idealize.SL.Sem Cert.Rows

variable (X : S17408x1024.Idx → EReal) (Y : S139264x128.Idx → EReal) (P : S8x6144.Idx → EReal) (T : S8x6144.Idx → EReal) (G : S1x1024.Idx → EReal) (W : S1024x3456.Idx → EReal)

/-- The gate of the context rows. -/
theorem gateC (b : Fin 4) (n : Fin 256) (d : Fin 1024) :
    (val_main_v7 (F := Ideal) P (ix3 b n d) : EReal) = vec P 5 (4 : Fin 8) d := by
  rw [val_main_v7_apply, val_main_v6_apply, val_main_v4_apply, val_main_v3_apply]
  exact congrArg P (funext fun a => Fin.ext (by match a with
    | ⟨0, _⟩ => rfl
    | ⟨1, _⟩ => show 5120 + d.val % 1024 = 1024 * 5 + d.val; omega))

/-- The gate of the latent rows of a batch. -/
theorem gateL (b : Fin 4) (n : Fin 4096) (d : Fin 1024) :
    (val_main_v14 (F := Ideal) P (ix3 b n d) : EReal) = vec P 5 ⟨b.val, by omega⟩ d := by
  rw [val_main_v14_apply, val_main_v12_apply, val_main_v11_apply]
  exact congrArg P (funext fun a => Fin.ext (by match a with
    | ⟨0, _⟩ => rfl
    | ⟨1, _⟩ => show 5120 + d.val = 1024 * 5 + d.val; omega))

/-- A context row with the gated output of the layer before added. -/
theorem rowC (b : Fin 4) (n : Fin 256) (d : Fin 1024) :
    (val_main_v9 (F := Ideal) X Y P (ix3 b n d) : EReal)
      = resid (by decide) X Y (vec P 5 (4 : Fin 8)) ⟨4352 * b.val + (n.val), by omega⟩ d := by
  rw [val_main_v9_apply, val_main_v2_apply, val_main_v0_apply, val_main_v8_apply, val_main_v5_apply, val_main_v1_apply, gateC]
  have e0 : idx_main_v0 (idx_main_v2 (ix3 b n d)) = (ix2 (n0 := 17408) (n1 := 1024) ⟨4352 * b.val + (n.val), by omega⟩ d : S17408x1024.Idx) :=
    funext fun a => Fin.ext (by match a with
      | ⟨0, _⟩ => show ((b.val * 4352 + (n.val)) * 1024 + d.val) / 1024 = 4352 * b.val + (n.val); omega
      | ⟨1, _⟩ => show ((b.val * 4352 + (n.val)) * 1024 + d.val) % 1024 = d.val; omega)
  have e1 : idx_main_v1 (idx_main_v5 (ix3 b n d))
      = (ix2 (n0 := 139264) (n1 := 128) ⟨8 * (4352 * b.val + (n.val)) + d.val / 128, by omega⟩ ⟨d.val % 128, by omega⟩ : S139264x128.Idx) :=
    funext fun a => Fin.ext (by match a with
      | ⟨0, _⟩ => show ((b.val * 4352 + (n.val)) * 1024 + d.val) / 128 = 8 * (4352 * b.val + (n.val)) + d.val / 128; omega
      | ⟨1, _⟩ => show ((b.val * 4352 + (n.val)) * 1024 + d.val) % 128 = d.val % 128; omega)
  rw [e0, e1]
  rfl

/-- A latent row with the gated output of the layer before added. -/
theorem rowL (b : Fin 4) (n : Fin 4096) (d : Fin 1024) :
    (val_main_v16 (F := Ideal) X Y P (ix3 b n d) : EReal)
      = resid (by decide) X Y (vec P 5 ⟨b.val, by omega⟩) ⟨4352 * b.val + (256 + n.val), by omega⟩ d := by
  rw [val_main_v16_apply, val_main_v10_apply, val_main_v0_apply, val_main_v15_apply, val_main_v13_apply, val_main_v1_apply, gateL]
  have e0 : idx_main_v0 (idx_main_v10 (ix3 b n d)) = (ix2 (n0 := 17408) (n1 := 1024) ⟨4352 * b.val + (256 + n.val), by omega⟩ d : S17408x1024.Idx) :=
    funext fun a => Fin.ext (by match a with
      | ⟨0, _⟩ => show ((b.val * 4352 + (256 + n.val)) * 1024 + d.val) / 1024 = 4352 * b.val + (256 + n.val); omega
      | ⟨1, _⟩ => show ((b.val * 4352 + (256 + n.val)) * 1024 + d.val) % 1024 = d.val; omega)
  have e1 : idx_main_v1 (idx_main_v13 (ix3 b n d))
      = (ix2 (n0 := 139264) (n1 := 128) ⟨8 * (4352 * b.val + (256 + n.val)) + d.val / 128, by omega⟩ ⟨d.val % 128, by omega⟩ : S139264x128.Idx) :=
    funext fun a => Fin.ext (by match a with
      | ⟨0, _⟩ => show ((b.val * 4352 + (256 + n.val)) * 1024 + d.val) / 128 = 8 * (4352 * b.val + (256 + n.val)) + d.val / 128; omega
      | ⟨1, _⟩ => show ((b.val * 4352 + (256 + n.val)) * 1024 + d.val) % 128 = d.val % 128; omega)
  rw [e0, e1]
  rfl

/-- The shift of the context rows. -/
theorem shiftC (b : Fin 4) (n : Fin 256) (d : Fin 1024) :
    (val_main_v40 (F := Ideal) T (ix3 b n d) : EReal) = vec T 0 (4 : Fin 8) d := by
  rw [val_main_v40_apply, val_main_v39_apply, val_main_v18_apply, val_main_v17_apply]
  exact congrArg T (funext fun a => Fin.ext (by match a with
    | ⟨0, _⟩ => rfl
    | ⟨1, _⟩ => show d.val % 1024 = 1024 * 0 + d.val; omega))

/-- The scale of the context rows, one added. -/
theorem scaleC (b : Fin 4) (n : Fin 256) (d : Fin 1024) :
    (val_main_v37 (F := Ideal) T (ix3 b n d) : EReal) = 1 + vec T 1 (4 : Fin 8) d := by
  rw [val_main_v37_apply, val_main_v36_apply, val_main_v35_apply, val_main_v34_apply, val_main_v20_apply, val_main_v19_apply]
  show (Ideal.ofBits .f32 0x3F800000#32 : EReal) + _ = _
  rw [Ideal.ofBits_one_f32]
  refine congrArg (fun z : EReal => 1 + z) ?_
  exact congrArg T (funext fun a => Fin.ext (by match a with
    | ⟨0, _⟩ => rfl
    | ⟨1, _⟩ => show 1024 + d.val % 1024 = 1024 * 1 + d.val; omega))

/-- The shift of the latent rows of a batch. -/
theorem shiftL (b : Fin 4) (n : Fin 4096) (d : Fin 1024) :
    (val_main_v63 (F := Ideal) T (ix3 b n d) : EReal) = vec T 0 ⟨b.val, by omega⟩ d := by
  rw [val_main_v63_apply, val_main_v43_apply, val_main_v42_apply]
  exact congrArg T (funext fun a => Fin.ext (by match a with
    | ⟨0, _⟩ => rfl
    | ⟨1, _⟩ => show d.val = 1024 * 0 + d.val; omega))

/-- The scale of the latent rows of a batch, one added. -/
theorem scaleL (b : Fin 4) (n : Fin 4096) (d : Fin 1024) :
    (val_main_v61 (F := Ideal) T (ix3 b n d) : EReal) = 1 + vec T 1 ⟨b.val, by omega⟩ d := by
  rw [val_main_v61_apply, val_main_v60_apply, val_main_v59_apply, val_main_v45_apply, val_main_v44_apply]
  show (Ideal.ofBits .f32 0x3F800000#32 : EReal) + _ = _
  rw [Ideal.ofBits_one_f32]
  refine congrArg (fun z : EReal => 1 + z) ?_
  exact congrArg T (funext fun a => Fin.ext (by match a with
    | ⟨0, _⟩ => rfl
    | ⟨1, _⟩ => show 1024 + d.val = 1024 * 1 + d.val; omega))

/-- The root of the mean of a row's squares plus the small term. -/
theorem rootC (b : Fin 4) (n : Fin 256) :
    (val_main_v28 (F := Ideal) X Y P (ix3 b n (0 : Fin 1)) : EReal)
      = Ideal.rsqrt (Ideal.div (∑ k : Fin 1024, (val_main_v9 (F := Ideal) X Y P (ix3 b n k) : EReal) * (val_main_v9 (F := Ideal) X Y P (ix3 b n k) : EReal)) width + eps) := by
  rw [val_main_v28_apply, val_main_v27_apply, val_main_v25_apply, val_main_v23_apply, val_main_v22_apply, val_main_v24_apply, val_main_v26_apply]
  have e : ∀ k : Fin 1024, idx_main_v22 (idx_main_v23 (ix3 b n (0 : Fin 1))) k = (ix3 (n0 := 4) (n1 := 256) (n2 := 1024) b n k : S4x256x1024.Idx) := fun k =>
    funext fun a => Fin.ext (by match a with | ⟨0, _⟩ => rfl | ⟨1, _⟩ => rfl | ⟨2, _⟩ => rfl)
  have s : ((val_main_cst (F := Ideal)) (Shape.Idx.first h_S_) + ∑ k : Fin 1024, (val_main_v21 (F := Ideal) X Y P) (idx_main_v22 (idx_main_v23 (ix3 b n (0 : Fin 1))) k) : EReal)
      = ∑ k : Fin 1024, (val_main_v9 (F := Ideal) X Y P (ix3 b n k) : EReal) * (val_main_v9 (F := Ideal) X Y P (ix3 b n k) : EReal) := by
    have z : (val_main_cst (F := Ideal) (Shape.Idx.first h_S_) : EReal) = 0 := by
      show Ideal.ofBits .f32 0x00000000#32 = 0
      simp [Ideal.ofBits, Ideal.ieee]
    rw [z, zero_add]
    refine Finset.sum_congr rfl fun k _ => ?_
    rw [e k]
    rfl
  exact congrArg (fun z : EReal => Ideal.rsqrt (Ideal.div z width + eps)) s

/-- The root of the mean of a row's squares plus the small term. -/
theorem rootL (b : Fin 4) (n : Fin 4096) :
    (val_main_v53 (F := Ideal) X Y P (ix3 b n (0 : Fin 1)) : EReal)
      = Ideal.rsqrt (Ideal.div (∑ k : Fin 1024, (val_main_v16 (F := Ideal) X Y P (ix3 b n k) : EReal) * (val_main_v16 (F := Ideal) X Y P (ix3 b n k) : EReal)) width + eps) := by
  rw [val_main_v53_apply, val_main_v52_apply, val_main_v50_apply, val_main_v48_apply, val_main_v47_apply, val_main_v49_apply, val_main_v51_apply]
  have e : ∀ k : Fin 1024, idx_main_v47 (idx_main_v48 (ix3 b n (0 : Fin 1))) k = (ix3 (n0 := 4) (n1 := 4096) (n2 := 1024) b n k : S4x4096x1024.Idx) := fun k =>
    funext fun a => Fin.ext (by match a with | ⟨0, _⟩ => rfl | ⟨1, _⟩ => rfl | ⟨2, _⟩ => rfl)
  have s : ((val_main_cst_3 (F := Ideal)) (Shape.Idx.first h_S_) + ∑ k : Fin 1024, (val_main_v46 (F := Ideal) X Y P) (idx_main_v47 (idx_main_v48 (ix3 b n (0 : Fin 1))) k) : EReal)
      = ∑ k : Fin 1024, (val_main_v16 (F := Ideal) X Y P (ix3 b n k) : EReal) * (val_main_v16 (F := Ideal) X Y P (ix3 b n k) : EReal) := by
    have z : (val_main_cst_3 (F := Ideal) (Shape.Idx.first h_S_) : EReal) = 0 := by
      show Ideal.ofBits .f32 0x00000000#32 = 0
      simp [Ideal.ofBits, Ideal.ieee]
    rw [z, zero_add]
    refine Finset.sum_congr rfl fun k _ => ?_
    rw [e k]
    rfl
  exact congrArg (fun z : EReal => Ideal.rsqrt (Ideal.div z width + eps)) s

/-- A modulated context row. -/
theorem modC (b : Fin 4) (n : Fin 256) (d : Fin 1024) :
    (val_main_v41 (F := Ideal) X Y P T G (ix3 b n d) : EReal)
      = modul (fun k => (val_main_v9 (F := Ideal) X Y P (ix3 b n k) : EReal)) (fun k => G (ix2 0 k)) (vec T 0 (4 : Fin 8)) (vec T 1 (4 : Fin 8)) d := by
  rw [val_main_v41_apply, val_main_v38_apply, val_main_v33_apply, val_main_v30_apply, val_main_v29_apply, scaleC, shiftC]
  have e : idx_main_v29 (ix3 b n d) = (ix3 (n0 := 4) (n1 := 256) (n2 := 1) b n 0 : S4x256x1.Idx) :=
    funext fun a => Fin.ext (by match a with | ⟨0, _⟩ => rfl | ⟨1, _⟩ => rfl | ⟨2, _⟩ => rfl)
  have g : (val_main_v32 (F := Ideal) G (ix3 b n d) : EReal) = G (ix2 0 d) := by
    rw [val_main_v32_apply, val_main_v31_apply]
    exact congrArg G (funext fun a => Fin.ext (by match a with | ⟨0, _⟩ => rfl | ⟨1, _⟩ => rfl))
  rw [e, rootC, g]
  rfl

/-- A modulated latent row. -/
theorem modL (b : Fin 4) (n : Fin 4096) (d : Fin 1024) :
    (val_main_v64 (F := Ideal) X Y P T G (ix3 b n d) : EReal)
      = modul (fun k => (val_main_v16 (F := Ideal) X Y P (ix3 b n k) : EReal)) (fun k => G (ix2 0 k)) (vec T 0 ⟨b.val, by omega⟩) (vec T 1 ⟨b.val, by omega⟩) d := by
  rw [val_main_v64_apply, val_main_v62_apply, val_main_v58_apply, val_main_v55_apply, val_main_v54_apply, scaleL, shiftL]
  have e : idx_main_v54 (ix3 b n d) = (ix3 (n0 := 4) (n1 := 4096) (n2 := 1) b n 0 : S4x4096x1.Idx) :=
    funext fun a => Fin.ext (by match a with | ⟨0, _⟩ => rfl | ⟨1, _⟩ => rfl | ⟨2, _⟩ => rfl)
  have g : (val_main_v57 (F := Ideal) G (ix3 b n d) : EReal) = G (ix2 0 d) := by
    rw [val_main_v57_apply, val_main_v56_apply]
    exact congrArg G (funext fun a => Fin.ext (by match a with | ⟨0, _⟩ => rfl | ⟨1, _⟩ => rfl))
  rw [e, rootL, g]
  rfl

/-- Two blocks joined along the rows, at a place. -/
theorem joint (A : S4x256x1024.Idx → EReal) (B : S4x4096x1024.Idx → EReal) (b : Fin 4) (n : Fin 4352) (k : Fin 1024) :
    (concatenate (α := EReal) S4x4352x1024 1 [⟨S4x256x1024, A⟩, ⟨S4x4096x1024, B⟩] concatenates_S4x256x1024_S4x4096x1024_S4x4352x1024_d1 (ix3 b n k) : EReal)
      = if h : n.val < 256 then A (ix3 b ⟨n.val, h⟩ k) else B (ix3 b ⟨n.val - 256, by omega⟩ k) := by
  pointwise

theorem idxX (n : Fin 17408) (k : Fin 1024) :
    idx_main_v66 (ix2 n k) = (ix3 (n0 := 4) (n1 := 4352) (n2 := 1024) ⟨n.val / 4352, by omega⟩ ⟨n.val % 4352, by omega⟩ k : S4x4352x1024.Idx) :=
  funext fun a => Fin.ext (by match a with
    | ⟨0, _⟩ => show (n.val * 1024 + k.val) / 4456448 = n.val / 4352; omega
    | ⟨1, _⟩ => show (n.val * 1024 + k.val) / 1024 % 4352 = n.val % 4352; omega
    | ⟨2, _⟩ => show (n.val * 1024 + k.val) % 1024 = k.val; omega)

theorem idxH (n : Fin 17408) (k : Fin 1024) :
    idx_main_v68 (ix2 n k) = (ix3 (n0 := 4) (n1 := 4352) (n2 := 1024) ⟨n.val / 4352, by omega⟩ ⟨n.val % 4352, by omega⟩ k : S4x4352x1024.Idx) :=
  funext fun a => Fin.ext (by match a with
    | ⟨0, _⟩ => show (n.val * 1024 + k.val) / 4456448 = n.val / 4352; omega
    | ⟨1, _⟩ => show (n.val * 1024 + k.val) / 1024 % 4352 = n.val % 4352; omega
    | ⟨2, _⟩ => show (n.val * 1024 + k.val) % 1024 = k.val; omega)

/-- The stream's rows. -/
theorem stream (n : Fin 17408) (k : Fin 1024) : (val_main_v66 (F := Ideal) X Y P (ix2 n k) : EReal) = updated X Y P n k := by
  rw [val_main_v66_apply, idxX]
  unfold val_main_v65
  rw [joint]
  unfold updated tableRow
  by_cases h : n.val % 4352 < 256
  · have hn : (⟨4352 * (n.val / 4352) + n.val % 4352, by omega⟩ : Fin 17408) = n := Fin.ext (by simp only; omega)
    rw [dif_pos h, if_pos h, rowC, hn]
  · have hn : (⟨4352 * (n.val / 4352) + (256 + (n.val % 4352 - 256)), by omega⟩ : Fin 17408) = n := Fin.ext (by simp only; omega)
    rw [dif_neg h, if_neg h, rowL, hn]

/-- The modulated rows. -/
theorem rows (n : Fin 17408) (k : Fin 1024) : (val_main_v68 (F := Ideal) X Y P T G (ix2 n k) : EReal)
    = modul (updated X Y P n) (fun k => G (ix2 0 k)) (vec T 0 (tableRow n)) (vec T 1 (tableRow n)) k := by
  have hs : (updated X Y P n) = fun k => (val_main_v66 (F := Ideal) X Y P (ix2 n k) : EReal) := funext fun k => (stream X Y P n k).symm
  rw [hs, val_main_v68_apply, idxH]
  unfold val_main_v67
  rw [joint]
  unfold tableRow
  by_cases h : n.val % 4352 < 256
  · rw [dif_pos h, if_pos h, modC]
    refine congrArg (fun f => modul f _ _ _ k) (funext fun k => ?_)
    rw [val_main_v66_apply, idxX]
    unfold val_main_v65
    rw [joint, dif_pos h]
  · rw [dif_neg h, if_neg h, modL]
    refine congrArg (fun f => modul f _ _ _ k) (funext fun k => ?_)
    rw [val_main_v66_apply, idxX]
    unfold val_main_v65
    rw [joint, dif_neg h]

/-- The projected rows. -/
theorem all (n : Fin 17408) (e : Fin 3456) : (val_main_v70 (F := Ideal) X Y P T G W (ix2 n e) : EReal) = projected (updated X Y P) T G W n e := by
  rw [val_main_v70_apply]
  unfold projected
  refine Finset.sum_congr rfl fun k _ => ?_
  have el : lidx_main_v70 (ix2 n e) k = (ix2 (n0 := 17408) (n1 := 1024) n k : S17408x1024.Idx) :=
    funext fun a => Fin.ext (by match a with | ⟨0, _⟩ => rfl | ⟨1, _⟩ => rfl)
  have er : ridx_main_v70 (ix2 n e) k = (ix2 (n0 := 1024) (n1 := 3456) k e : S1024x3456.Idx) :=
    funext fun a => Fin.ext (by match a with | ⟨0, _⟩ => rfl | ⟨1, _⟩ => rfl)
  rw [el, er, rows]
  rfl

theorem result2 (n : Fin 17408) (e : Fin 1280) :
    (val_main_v71 (F := Ideal) X Y P T G W (ix2 n e) : EReal) = projected (updated X Y P) T G W n ⟨0 + e.val, by omega⟩ := by
  rw [val_main_v71_apply]
  have h : idx_main_v71 (ix2 n e) = (ix2 (n0 := 17408) (n1 := 3456) n ⟨0 + e.val, by omega⟩ : S17408x3456.Idx) :=
    funext fun a => Fin.ext (by match a with | ⟨0, _⟩ => rfl | ⟨1, _⟩ => exact (Nat.zero_add _).symm)
  rw [h, all]

theorem result3 (n : Fin 17408) (e : Fin 768) :
    (val_main_v73 (F := Ideal) X Y P T G W (ix2 n e) : EReal) = projected (updated X Y P) T G W n ⟨1280 + e.val, by omega⟩ := by
  show (val_main_v72 (F := Ideal) X Y P T G W (ix2 n e) : EReal) = _
  rw [val_main_v72_apply]
  have h : idx_main_v72 (ix2 n e) = (ix2 (n0 := 17408) (n1 := 3456) n ⟨1280 + e.val, by omega⟩ : S17408x3456.Idx) :=
    funext fun a => Fin.ext (by match a with | ⟨0, _⟩ => rfl | ⟨1, _⟩ => rfl)
  rw [h, all]

theorem result4 (n : Fin 17408) (e : Fin 896) :
    (val_main_v74 (F := Ideal) X Y P T G W (ix2 n e) : EReal) = projected (updated X Y P) T G W n ⟨2048 + e.val, by omega⟩ := by
  rw [val_main_v74_apply]
  have h : idx_main_v74 (ix2 n e) = (ix2 (n0 := 17408) (n1 := 3456) n ⟨2048 + e.val, by omega⟩ : S17408x3456.Idx) :=
    funext fun a => Fin.ext (by match a with | ⟨0, _⟩ => rfl | ⟨1, _⟩ => rfl)
  rw [h, all]

theorem result5 (n : Fin 17408) (e : Fin 512) :
    (val_main_v75 (F := Ideal) X Y P T G W (ix2 n e) : EReal) = projected (updated X Y P) T G W n ⟨2944 + e.val, by omega⟩ := by
  rw [val_main_v75_apply]
  have h : idx_main_v75 (ix2 n e) = (ix2 (n0 := 17408) (n1 := 3456) n ⟨2944 + e.val, by omega⟩ : S17408x3456.Idx) :=
    funext fun a => Fin.ext (by match a with | ⟨0, _⟩ => rfl | ⟨1, _⟩ => rfl)
  rw [h, all]

end Cert.Reference4Ideal.Inproj

end
-- ==== Proof.UpdateClaim.lean ====
/- The second layer's input projection's value claim: the kernel and the reference end with five equal results. -/
module

public import proofs.«01_k».proof.Defs
public import proofs.«01_k».proof.Proof.UpdateArray
public import proofs.«01_k».proof.Proof.UpdateRef
public import proofs.«01_k».proof.Proof.Gen.Reference4Ideal.Run

@[expose] public section

set_option backward.proofsInPublic true

noncomputable section

namespace Cert.Update

open Idealize.ShloMosaic Idealize.SL.Sem Cert.Rows

/-- The reference runs, its arguments kept, every counter at zero: it declares none. -/
theorem frame_r : quiescent_Reference4Ideal :=
  fun m g _ => (θ_run (Reference4Ideal.defs (F := Ideal)) _ _).mono (fun r h => ⟨fun c => (h c).2.2.2.2.2,
      sem_eq_zero_of_no_sems (by decide) r.2⟩)
    (Reference4Ideal.Value.run (F := Ideal) m g)

/-- The claim: equal results from equal arguments. -/
theorem algebraic : algebraic_Kernel4Ideal_Reference4Ideal := by
  intro m g m' g' _ hag
  refine ⟨fun c => (Kernel4Ideal.Gen.dats m 0 c).arrAt 6 Kernel4Ideal.cfg0.N, fun c => (Kernel4Ideal.Gen.dats m 0 c).arrAt 7 Kernel4Ideal.cfg0.N, fun c => (Kernel4Ideal.Gen.dats m 0 c).arrAt 8 Kernel4Ideal.cfg0.N, fun c => (Kernel4Ideal.Gen.dats m 0 c).arrAt 9 Kernel4Ideal.cfg0.N, fun c => (Kernel4Ideal.Gen.dats m 0 c).arrAt 10 Kernel4Ideal.cfg0.N,
    Kernel4Ideal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩)
    (Reference4Ideal.Value.run (F := Ideal) m' g')
  · have hc := hag c
    rw [Reference4Ideal.Read.val_main_v66_eq, hc.1, hc.2.1, hc.2.2.1]
    refine Eq.trans (funext fun i => ?_) (Kernel4Ideal.Inproj.final6 m c).symm
    have e : i = (ix2 (n0 := 17408) (n1 := 1024) (i 0) (i 1) : Reference4Ideal.S17408x1024.Idx) := eq_ix2 i
    exact (congrArg _ e).trans (Reference4Ideal.Inproj.stream _ _ _ (i 0) (i 1))
  · have hc := hag c
    rw [Reference4Ideal.Read.val_main_v71_eq, hc.1, hc.2.1, hc.2.2.1, hc.2.2.2.1, hc.2.2.2.2.1, hc.2.2.2.2.2]
    refine Eq.trans (funext fun i => ?_) (Kernel4Ideal.Inproj.final7 m c).symm
    have e : i = (ix2 (n0 := 17408) (n1 := 1280) (i 0) (i 1) : Reference4Ideal.S17408x1280.Idx) := eq_ix2 i
    exact (congrArg _ e).trans (Reference4Ideal.Inproj.result2 _ _ _ _ _ _ (i 0) (i 1))
  · have hc := hag c
    rw [Reference4Ideal.Read.val_main_v73_eq, hc.1, hc.2.1, hc.2.2.1, hc.2.2.2.1, hc.2.2.2.2.1, hc.2.2.2.2.2]
    refine Eq.trans (funext fun i => ?_) (Kernel4Ideal.Inproj.final8 m c).symm
    have e : i = (ix2 (n0 := 17408) (n1 := 768) (i 0) (i 1) : Reference4Ideal.S17408x768.Idx) := eq_ix2 i
    exact (congrArg _ e).trans (Reference4Ideal.Inproj.result3 _ _ _ _ _ _ (i 0) (i 1))
  · have hc := hag c
    rw [Reference4Ideal.Read.val_main_v74_eq, hc.1, hc.2.1, hc.2.2.1, hc.2.2.2.1, hc.2.2.2.2.1, hc.2.2.2.2.2]
    refine Eq.trans (funext fun i => ?_) (Kernel4Ideal.Inproj.final9 m c).symm
    have e : i = (ix2 (n0 := 17408) (n1 := 896) (i 0) (i 1) : Reference4Ideal.S17408x896.Idx) := eq_ix2 i
    exact (congrArg _ e).trans (Reference4Ideal.Inproj.result4 _ _ _ _ _ _ (i 0) (i 1))
  · have hc := hag c
    rw [Reference4Ideal.Read.val_main_v75_eq, hc.1, hc.2.1, hc.2.2.1, hc.2.2.2.1, hc.2.2.2.2.1, hc.2.2.2.2.2]
    refine Eq.trans (funext fun i => ?_) (Kernel4Ideal.Inproj.final10 m c).symm
    have e : i = (ix2 (n0 := 17408) (n1 := 512) (i 0) (i 1) : Reference4Ideal.S17408x512.Idx) := eq_ix2 i
    exact (congrArg _ e).trans (Reference4Ideal.Inproj.result5 _ _ _ _ _ _ (i 0) (i 1))

end Cert.Update

end
-- ==== Proof.InprojBlocks.lean ====
/- The first layer's input projection, its body: each row of a block, normalized and modulated, against the weight. -/
module

public import proofs.«01_k».proof.Proof.Gen.Kernel3Ideal.Value
public import proofs.«01_k».proof.Proof.RowMath
public import Idealize.ShloMosaic.Lib.Pipeline.ValueKit
public import Idealize.ShloMosaic.Lib.Pipeline.ReadBack
public import Idealize.ShloMosaic.Lib.Pointwise

@[expose] public section

set_option backward.proofsInPublic true
set_option maxRecDepth 16384

noncomputable section

namespace Cert.Kernel3Ideal.Inproj

open Cert.Kernel3Ideal Cert.Kernel3Ideal.Gen Cert.Kernel3Ideal.Facts Idealize.ShloMosaic Idealize.ShloMosaic.TcCoe Idealize.SL.Sem Cert.Rows
open Idealize.ShloMosaic.Pipeline (Dat)

/-- The word that says whether a point's rows are context rows. -/
def isCtx (i : grid0.Coords) : BitVec 1 :=
  let w : BitVec 32 := Scalar.select (Scalar.cmpi .eq 17#32 0#32) 1#32 17#32
  let q : BitVec 32 := Scalar.remsi (BitVec.ofNat 32 (i 0).val) w
  Scalar.cmpi .eq (Scalar.select (Scalar.andi (Scalar.xori (Scalar.cmpi .slt q 0#32) (Scalar.cmpi .slt w 0#32)) (Scalar.cmpi .ne q 0#32)) (Scalar.addi q w) q) 0#32

/-- The rows a point takes, at a place. -/
theorem rows_apply (i : grid0.Coords) (a b : Vec Ideal S1x256x1024 .f32) (r : Fin 256) (k : Fin 1024) :
    k0_pay6 i a b (ix2 r k) = if isCtx i = 1#1 then a (ix3 0 r k) else b (ix3 0 r k) := by
  have e : k0_pay6 i a b = Scalar.select (isCtx i) (shapeCast S256x1024 a shapeCasts_S1x256x1024_S256x1024) (shapeCast S256x1024 b shapeCasts_S1x256x1024_S256x1024) := rfl
  rw [e]
  generalize isCtx i = w
  pointwise
  rfl

/-- The projected row at a place: the modulated row against the weight's column. -/
theorem proj_apply (v : FVec Ideal S256x1024 .f32) (T : Vec Ideal S1x6144 .f32) (g : Vec Ideal S1x1024 .f32) (w : Vec Ideal S1024x3456 .bf16)
    (r : Fin 256) (e : Fin 3456) :
    k0_pay1 v T g w (ix2 r e) = ∑ k : Fin 1024, modul (fun k => v (ix2 r k)) (fun k => g (ix2 0 k)) (fun k => T (ix2 0 ⟨0 + k.val, by omega⟩))
      (fun k => T (ix2 0 ⟨1024 + k.val, by omega⟩)) k * w (ix2 k e) := by
  pointwise [k0_pay1, modul, gained, rms, width, eps]

theorem pay2_apply (v : FVec Ideal S256x1024 .f32) (T : Vec Ideal S1x6144 .f32) (g : Vec Ideal S1x1024 .f32) (w : Vec Ideal S1024x3456 .bf16)
    (r : Fin 256) (e : Fin 1280) : k0_pay2 v T g w (ix2 r e) = k0_pay1 v T g w (ix2 r ⟨0 + e.val, by omega⟩) := by
  unfold k0_pay2
  generalize k0_pay1 v T g w = z
  pointwise

theorem pay3_apply (v : FVec Ideal S256x1024 .f32) (T : Vec Ideal S1x6144 .f32) (g : Vec Ideal S1x1024 .f32) (w : Vec Ideal S1024x3456 .bf16)
    (r : Fin 256) (e : Fin 768) : k0_pay3 v T g w (ix2 r e) = k0_pay1 v T g w (ix2 r ⟨1280 + e.val, by omega⟩) := by
  unfold k0_pay3
  generalize k0_pay1 v T g w = z
  pointwise

theorem pay4_apply (v : FVec Ideal S256x1024 .f32) (T : Vec Ideal S1x6144 .f32) (g : Vec Ideal S1x1024 .f32) (w : Vec Ideal S1024x3456 .bf16)
    (r : Fin 256) (e : Fin 896) : k0_pay4 v T g w (ix2 r e) = k0_pay1 v T g w (ix2 r ⟨2048 + e.val, by omega⟩) := by
  unfold k0_pay4
  generalize k0_pay1 v T g w = z
  pointwise

theorem pay5_apply (v : FVec Ideal S256x1024 .f32) (T : Vec Ideal S1x6144 .f32) (g : Vec Ideal S1x1024 .f32) (w : Vec Ideal S1024x3456 .bf16)
    (r : Fin 256) (e : Fin 512) : k0_pay5 v T g w (ix2 r e) = k0_pay1 v T g w (ix2 r ⟨2944 + e.val, by omega⟩) := by
  unfold k0_pay5
  generalize k0_pay1 v T g w = z
  pointwise

section Case

variable (c : Dev nD) (i : grid0.Coords)
  (arg1 : Memref sig .tc .vmem S1x256x1024 .f32) (harg1 : arg1.IsWhole)
  (arg2 : Memref sig .tc .vmem S1x256x1024 .f32) (harg2 : arg2.IsWhole)
  (arg3 : Memref sig .tc .vmem S8x6144 .f32) (harg3 : arg3.IsWhole)
  (arg4 : Memref sig .tc .vmem S1x1024 .f32) (harg4 : arg4.IsWhole)
  (arg5 : Memref sig .tc .vmem S1024x3456 .bf16) (harg5 : arg5.IsWhole)
  (arg6 : Memref sig .tc .vmem S256x1024 .f32) (harg6 : arg6.IsWhole)
  (arg7 : Memref sig .tc .vmem S256x1280 .f32) (harg7 : arg7.IsWhole)
  (arg8 : Memref sig .tc .vmem S256x768 .bf16) (harg8 : arg8.IsWhole)
  (arg9 : Memref sig .tc .vmem S256x896 .f32) (harg9 : arg9.IsWhole)
  (arg10 : Memref sig .tc .vmem S256x512 .f32) (harg10 : arg10.IsWhole)
  (x0 : Vec Ideal S1x256x1024 .f32)
  (x1 : Vec Ideal S1x256x1024 .f32)
  (x2 : Vec Ideal S8x6144 .f32)
  (x3 : Vec Ideal S1x1024 .f32)
  (x4 : Vec Ideal S1024x3456 .bf16)

/-- What a point leaves in output 5. -/
theorem out5 : out0_A_5 c i arg1 harg1 arg2 harg2 arg3 harg3 arg4 harg4 arg5 harg5 arg6 harg6 arg7 harg7 arg8 harg8 arg9 harg9 arg10 harg10 x0 x1 x2 x3 x4
    = k0_pay6 i x0 x1 := by
  frame_open
  simp (disch := decide) only [↓ View.readCov_skip, ↓ View.readCov_cons_toLoadRect, ↓ View.readCov_fill]
  frame_out
  try rfl

/-- What a point leaves in output 6. -/
theorem out6 : out0_A_6 c i arg1 harg1 arg2 harg2 arg3 harg3 arg4 harg4 arg5 harg5 arg6 harg6 arg7 harg7 arg8 harg8 arg9 harg9 arg10 harg10 x0 x1 x2 x3 x4
    = k0_pay2 (k0_pay6 i x0 x1) (View.ld x2 (Rect.unit (k0_off1 i) ![1, 6144] (k0_off1_inb i))) x3 x4 := by
  frame_open
  simp (disch := decide) only [↓ View.readCov_skip, ↓ View.readCov_cons_toLoadRect, ↓ View.readCov_fill]
  frame_out
  try rfl

/-- What a point leaves in output 7. -/
theorem out7 : out0_A_7 c i arg1 harg1 arg2 harg2 arg3 harg3 arg4 harg4 arg5 harg5 arg6 harg6 arg7 harg7 arg8 harg8 arg9 harg9 arg10 harg10 x0 x1 x2 x3 x4
    = k0_pay3 (k0_pay6 i x0 x1) (View.ld x2 (Rect.unit (k0_off1 i) ![1, 6144] (k0_off1_inb i))) x3 x4 := by
  frame_open
  simp (disch := decide) only [↓ View.readCov_skip, ↓ View.readCov_cons_toLoadRect, ↓ View.readCov_fill]
  frame_out
  try rfl

/-- What a point leaves in output 8. -/
theorem out8 : out0_A_8 c i arg1 harg1 arg2 harg2 arg3 harg3 arg4 harg4 arg5 harg5 arg6 harg6 arg7 harg7 arg8 harg8 arg9 harg9 arg10 harg10 x0 x1 x2 x3 x4
    = k0_pay4 (k0_pay6 i x0 x1) (View.ld x2 (Rect.unit (k0_off1 i) ![1, 6144] (k0_off1_inb i))) x3 x4 := by
  frame_open
  simp (disch := decide) only [↓ View.readCov_skip, ↓ View.readCov_cons_toLoadRect, ↓ View.readCov_fill]
  frame_out
  try rfl

/-- What a point leaves in output 9. -/
theorem out9 : out0_A_9 c i arg1 harg1 arg2 harg2 arg3 harg3 arg4 harg4 arg5 harg5 arg6 harg6 arg7 harg7 arg8 harg8 arg9 harg9 arg10 harg10 x0 x1 x2 x3 x4
    = k0_pay5 (k0_pay6 i x0 x1) (View.ld x2 (Rect.unit (k0_off1 i) ![1, 6144] (k0_off1_inb i))) x3 x4 := by
  frame_open
  simp (disch := decide) only [↓ View.readCov_skip, ↓ View.readCov_cons_toLoadRect, ↓ View.readCov_fill]
  frame_out
  try rfl

end Case

end Cert.Kernel3Ideal.Inproj

end
-- ==== Proof.InprojArray.lean ====
/- The first layer's input projection: its five result arrays, row by row. -/
module

public import proofs.«01_k».proof.Proof.InprojBlocks

@[expose] public section

set_option backward.proofsInPublic true
set_option maxRecDepth 16384

noncomputable section

namespace Cert.Kernel3Ideal.Inproj

open Cert.Kernel3Ideal Cert.Kernel3Ideal.Gen Cert.Kernel3Ideal.Facts Idealize.ShloMosaic Idealize.ShloMosaic.TcCoe Idealize.SL.Sem Cert.Rows
open Idealize.ShloMosaic.Pipeline (Dat)

/-- The blocks each point reads and writes and the row of the modulation table it loads, decided over the grid. -/
theorem idx : ∀ t : Fin cfg0.N, win0_0.index t = ![t.val / 17, 0, 0]
    ∧ win0_1.index t = ![t.val / 17, t.val % 17 - 1, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ k0_off1 (grid0.coords t) = ![if t.val % 17 = 0 then 4 else t.val / 17, 0]
    ∧ isCtx (grid0.coords t) = if t.val % 17 = 0 then 1#1 else 0#1 :=
  (by decide +kernel : ∀ t : Fin grid0.N, win0_0.index t = ![t.val / 17, 0, 0]
    ∧ win0_1.index t = ![t.val / 17, t.val % 17 - 1, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ k0_off1 (grid0.coords t) = ![if t.val % 17 = 0 then 4 else t.val / 17, 0]
    ∧ isCtx (grid0.coords t) = if t.val % 17 = 0 then 1#1 else 0#1)

variable (m : (ℓ : Loc nD τ sig) → Buf (Elt Ideal) ℓ) (c : Dev nD)

/-- The arrays the kernel is called with. -/
abbrev Cm : S4x256x1024.Idx → EReal := m ((c : Thread nD τ).loc main_arg0)
abbrev Lm : S4x4096x1024.Idx → EReal := m ((c : Thread nD τ).loc main_arg1)
abbrev Tm : S8x6144.Idx → EReal := m ((c : Thread nD τ).loc main_arg2)
abbrev Gm : S1x1024.Idx → EReal := m ((c : Thread nD τ).loc main_arg3)
abbrev Wm : S1024x3456.Idx → EReal := m ((c : Thread nD τ).loc main_arg4)

theorem tlt (t : Fin cfg0.N) : t.val < 68 := lt_of_lt_of_eq t.isLt (show cfg0.N = 68 from N_0)

theorem iblk0_apply (t : Fin cfg0.N) (r : Fin 256) (l : Fin 1024) :
    iblk m c 0 t (ix3 0 r l) = Cm m c (ix3 ⟨t.val / 17, by have := tlt t; omega⟩ r l) := by
  blk_ext [iblk, V, (idx t).1]

theorem iblk1_apply (t : Fin cfg0.N) (r : Fin 256) (l : Fin 1024) :
    iblk m c 1 t (ix3 0 r l) = Lm m c (ix3 ⟨t.val / 17, by have := tlt t; omega⟩ ⟨256 * (t.val % 17 - 1) + r.val, by omega⟩ l) := by
  blk_ext [iblk, V, (idx t).2.1]

theorem iblk2_apply (t : Fin cfg0.N) (r : Fin 8) (l : Fin 6144) : iblk m c 2 t (ix2 r l) = Tm m c (ix2 r l) := by
  blk_ext [iblk, V, (idx t).2.2.1]

theorem iblk3_apply (t : Fin cfg0.N) (r : Fin 1) (l : Fin 1024) : iblk m c 3 t (ix2 r l) = Gm m c (ix2 r l) := by
  blk_ext [iblk, V, (idx t).2.2.2.1]

theorem iblk4_apply (t : Fin cfg0.N) (r : Fin 1024) (l : Fin 3456) : iblk m c 4 t (ix2 r l) = Wm m c (ix2 r l) := by
  blk_ext [iblk, V, (idx t).2.2.2.2.1]

/-- The table row that modulates the rows of point `t`. -/
theorem tableRow_eq (t : Fin cfg0.N) (r : Fin 256) :
    (tableRow ⟨256 * t.val + r.val, by have := tlt t; omega⟩).val = if t.val % 17 = 0 then 4 else t.val / 17 := by
  have ht := tlt t
  have hr := r.isLt
  unfold tableRow
  by_cases h : t.val % 17 = 0
  · rw [if_pos (show (256 * t.val + r.val) % 4352 < 256 by omega), if_pos h]; rfl
  · rw [if_neg (show ¬(256 * t.val + r.val) % 4352 < 256 by omega), if_neg h]
    show (256 * t.val + r.val) / 4352 = t.val / 17
    omega

/-- The row of a modulation table a point loads. -/
theorem row_apply (t : Fin cfg0.N) (r : Fin 256) (T : Vec Ideal S8x6144 .f32) (l : Fin 6144) :
    View.ld T (Rect.unit (k0_off1 (grid0.coords t)) ![1, 6144] (k0_off1_inb (grid0.coords t))) (ix2 0 l)
      = T (ix2 (tableRow ⟨256 * t.val + r.val, by have := tlt t; omega⟩) l) := by
  refine View.ld_unit_apply_of _ _ _ _ _ _ fun a => ?_
  have e := congrFun (idx t).2.2.2.2.2.2.2.2.2.2.1 a
  match a with
  | ⟨0, _⟩ => exact (tableRow_eq t r).trans (congrArg (· + 0) e).symm
  | ⟨1, _⟩ => exact (Nat.zero_add _).symm.trans (congrArg (· + l.val) e).symm

/-- The rows of a point are rows of the stream. -/
theorem stream (t : Fin cfg0.N) (r : Fin 256) (k : Fin 1024) :
    k0_pay6 (grid0.coords t) (iblk m c 0 t) (iblk m c 1 t) (ix2 r k) = joined (Cm m c) (Lm m c) ⟨256 * t.val + r.val, by have := tlt t; omega⟩ k := by
  have ht := tlt t
  have hr := r.isLt
  rw [rows_apply, (idx t).2.2.2.2.2.2.2.2.2.2.2, iblk0_apply, iblk1_apply]
  unfold joined
  by_cases h : t.val % 17 = 0
  · rw [if_pos h, if_pos rfl, dif_pos (show (256 * t.val + r.val) % 4352 < 256 by omega)]
    exact congrArg (Cm m c) (funext fun a => Fin.ext (by match a with
      | ⟨0, _⟩ => show t.val / 17 = (256 * t.val + r.val) / 4352; omega
      | ⟨1, _⟩ => show r.val = (256 * t.val + r.val) % 4352; omega
      | ⟨2, _⟩ => rfl))
  · rw [if_neg h, if_neg (by decide), dif_neg (show ¬(256 * t.val + r.val) % 4352 < 256 by omega)]
    exact congrArg (Lm m c) (funext fun a => Fin.ext (by match a with
      | ⟨0, _⟩ => show t.val / 17 = (256 * t.val + r.val) / 4352; omega
      | ⟨1, _⟩ => show 256 * (t.val % 17 - 1) + r.val = (256 * t.val + r.val) % 4352 - 256; omega
      | ⟨2, _⟩ => rfl))

/-- The rows a point projects. -/
theorem proj_point (t : Fin cfg0.N) (r : Fin 256) (e : Fin 3456) :
    k0_pay1 (k0_pay6 (grid0.coords t) (iblk m c 0 t) (iblk m c 1 t)) (View.ld (iblk m c 2 t) (Rect.unit (k0_off1 (grid0.coords t)) ![1, 6144] (k0_off1_inb (grid0.coords t)))) (iblk m c 3 t) (iblk m c 4 t) (ix2 r e)
      = projected (joined (Cm m c) (Lm m c)) (Tm m c) (Gm m c) (Wm m c) ⟨256 * t.val + r.val, by have := tlt t; omega⟩ e := by
  rw [proj_apply]
  unfold projected
  refine Finset.sum_congr rfl fun k _ => ?_
  have e0 : (fun k : Fin 1024 => k0_pay6 (grid0.coords t) (iblk m c 0 t) (iblk m c 1 t) (ix2 r k)) = joined (Cm m c) (Lm m c) ⟨256 * t.val + r.val, by have := tlt t; omega⟩ := funext (stream m c t r)
  have e1 : (fun k : Fin 1024 => iblk m c 3 t (ix2 0 k)) = fun k => Gm m c (ix2 0 k) := funext fun k => iblk3_apply m c t 0 k
  rw [e0, e1, iblk4_apply]
  have s0 : (fun k : Fin 1024 => (View.ld (iblk m c 2 t) (Rect.unit (k0_off1 (grid0.coords t)) ![1, 6144] (k0_off1_inb (grid0.coords t)))) (ix2 0 ⟨0 + k.val, by omega⟩)) = vec (Tm m c) 0 (tableRow ⟨256 * t.val + r.val, by have := tlt t; omega⟩) :=
    funext fun k => (row_apply t r _ _).trans (iblk2_apply m c t _ _)
  have s1 : (fun k : Fin 1024 => (View.ld (iblk m c 2 t) (Rect.unit (k0_off1 (grid0.coords t)) ![1, 6144] (k0_off1_inb (grid0.coords t)))) (ix2 0 ⟨1024 + k.val, by omega⟩)) = vec (Tm m c) 1 (tableRow ⟨256 * t.val + r.val, by have := tlt t; omega⟩) :=
    funext fun k => (row_apply t r _ _).trans (iblk2_apply m c t _ _)
  rw [s0, s1]

theorem point5 (t : Fin cfg0.N) (r : Fin 256) (d : Fin 1024) :
    (outsAt0 m c t).1 (ix2 r d) = joined (Cm m c) (Lm m c) ⟨256 * t.val + r.val, by have := tlt t; omega⟩ d := by
  unfold outsAt0
  dsimp only
  rw [out5]
  exact stream m c t r d

/-- Result 1 of the kernel. -/
theorem final5 :
    (dats m 0 c).arrAt 5 cfg0.N = fun i : S17408x1024.Idx => joined (Cm m c) (Lm m c) (i 0) (i 1) := by
  refine (dats m 0 c).arrAt_eq_of_covers 5 _ (by decide +kernel) fun t hf y => ?_
  blk_simp
  have e0 : ((win0_5.blk t).view.emb y 0).val = 256 * t.val + (y 0).val := by blk_simp [(idx t).2.2.2.2.2.1]; omega
  have e1 : ((win0_5.blk t).view.emb y 1).val = (y 1).val := by blk_simp [(idx t).2.2.2.2.2.1]
  have y0 : (y 0).val < 256 := (y 0).isLt
  have hy : y = (ix2 (n0 := 256) (n1 := 1024) (y 0) (y 1) : S256x1024.Idx) := eq_ix2 y
  have key := point5 m c t (y 0) (y 1)
  rw [after0_5]
  refine (congrArg (outsAt0 m c t).1 hy).trans (key.trans ?_)
  have f0 : (⟨256 * t.val + (y 0).val, by have := tlt t; omega⟩ : Fin 17408) = (win0_5.blk t).view.emb y 0 :=
    Fin.ext e0.symm
  have f1 : (y 1 : Fin 1024) = (win0_5.blk t).view.emb y 1 := Fin.ext e1.symm
  rw [f0, f1]

theorem point6 (t : Fin cfg0.N) (r : Fin 256) (d : Fin 1280) :
    (outsAt0 m c t).2.1 (ix2 r d) = projected (joined (Cm m c) (Lm m c)) (Tm m c) (Gm m c) (Wm m c) ⟨256 * t.val + r.val, by have := tlt t; omega⟩ ⟨0 + d.val, by omega⟩ := by
  unfold outsAt0
  dsimp only
  rw [out6, pay2_apply]
  exact proj_point m c t r _

/-- Result 2 of the kernel. -/
theorem final6 :
    (dats m 0 c).arrAt 6 cfg0.N = fun i : S17408x1280.Idx => projected (joined (Cm m c) (Lm m c)) (Tm m c) (Gm m c) (Wm m c) (i 0) ⟨0 + (i 1).val, by have : (i 1).val < 1280 := (i 1).isLt; omega⟩ := by
  refine (dats m 0 c).arrAt_eq_of_covers 6 _ (by decide +kernel) fun t hf y => ?_
  blk_simp
  have e0 : ((win0_6.blk t).view.emb y 0).val = 256 * t.val + (y 0).val := by blk_simp [(idx t).2.2.2.2.2.2.1]; omega
  have y0 : (y 0).val < 256 := (y 0).isLt
  have hy : y = (ix2 (n0 := 256) (n1 := 1280) (y 0) (y 1) : S256x1280.Idx) := eq_ix2 y
  have key := point6 m c t (y 0) (y 1)
  rw [after0_6]
  refine (congrArg (outsAt0 m c t).2.1 hy).trans (key.trans ?_)
  have f0 : (⟨256 * t.val + (y 0).val, by have := tlt t; omega⟩ : Fin 17408) = (win0_6.blk t).view.emb y 0 :=
    Fin.ext e0.symm
  have z : win0_6.index t 1 = 0 := congrFun (idx t).2.2.2.2.2.2.1 1
  rw [f0]
  refine congrArg _ (Fin.ext ?_)
  show 0 + (y 1).val = (win0_6.index t 1 * 1280 + (y 1).val)
  rw [z]

theorem point7 (t : Fin cfg0.N) (r : Fin 256) (d : Fin 768) :
    (outsAt0 m c t).2.2.1 (ix2 r d) = projected (joined (Cm m c) (Lm m c)) (Tm m c) (Gm m c) (Wm m c) ⟨256 * t.val + r.val, by have := tlt t; omega⟩ ⟨1280 + d.val, by omega⟩ := by
  unfold outsAt0
  dsimp only
  rw [out7, pay3_apply]
  exact proj_point m c t r _

/-- Result 3 of the kernel. -/
theorem final7 :
    (dats m 0 c).arrAt 7 cfg0.N = fun i : S17408x768.Idx => projected (joined (Cm m c) (Lm m c)) (Tm m c) (Gm m c) (Wm m c) (i 0) ⟨1280 + (i 1).val, by have : (i 1).val < 768 := (i 1).isLt; omega⟩ := by
  refine (dats m 0 c).arrAt_eq_of_covers 7 _ (by decide +kernel) fun t hf y => ?_
  blk_simp
  have e0 : ((win0_7.blk t).view.emb y 0).val = 256 * t.val + (y 0).val := by blk_simp [(idx t).2.2.2.2.2.2.2.1]; omega
  have y0 : (y 0).val < 256 := (y 0).isLt
  have hy : y = (ix2 (n0 := 256) (n1 := 768) (y 0) (y 1) : S256x768.Idx) := eq_ix2 y
  have key := point7 m c t (y 0) (y 1)
  rw [after0_7]
  refine (congrArg (outsAt0 m c t).2.2.1 hy).trans (key.trans ?_)
  have f0 : (⟨256 * t.val + (y 0).val, by have := tlt t; omega⟩ : Fin 17408) = (win0_7.blk t).view.emb y 0 :=
    Fin.ext e0.symm
  have z : win0_7.index t 1 = 0 := congrFun (idx t).2.2.2.2.2.2.2.1 1
  rw [f0]
  refine congrArg _ (Fin.ext ?_)
  show 1280 + (y 1).val = 1280 + (win0_7.index t 1 * 768 + (y 1).val)
  rw [z]
  omega

theorem point8 (t : Fin cfg0.N) (r : Fin 256) (d : Fin 896) :
    (outsAt0 m c t).2.2.2.1 (ix2 r d) = projected (joined (Cm m c) (Lm m c)) (Tm m c) (Gm m c) (Wm m c) ⟨256 * t.val + r.val, by have := tlt t; omega⟩ ⟨2048 + d.val, by omega⟩ := by
  unfold outsAt0
  dsimp only
  rw [out8, pay4_apply]
  exact proj_point m c t r _

/-- Result 4 of the kernel. -/
theorem final8 :
    (dats m 0 c).arrAt 8 cfg0.N = fun i : S17408x896.Idx => projected (joined (Cm m c) (Lm m c)) (Tm m c) (Gm m c) (Wm m c) (i 0) ⟨2048 + (i 1).val, by have : (i 1).val < 896 := (i 1).isLt; omega⟩ := by
  refine (dats m 0 c).arrAt_eq_of_covers 8 _ (by decide +kernel) fun t hf y => ?_
  blk_simp
  have e0 : ((win0_8.blk t).view.emb y 0).val = 256 * t.val + (y 0).val := by blk_simp [(idx t).2.2.2.2.2.2.2.2.1]; omega
  have y0 : (y 0).val < 256 := (y 0).isLt
  have hy : y = (ix2 (n0 := 256) (n1 := 896) (y 0) (y 1) : S256x896.Idx) := eq_ix2 y
  have key := point8 m c t (y 0) (y 1)
  rw [after0_8]
  refine (congrArg (outsAt0 m c t).2.2.2.1 hy).trans (key.trans ?_)
  have f0 : (⟨256 * t.val + (y 0).val, by have := tlt t; omega⟩ : Fin 17408) = (win0_8.blk t).view.emb y 0 :=
    Fin.ext e0.symm
  have z : win0_8.index t 1 = 0 := congrFun (idx t).2.2.2.2.2.2.2.2.1 1
  rw [f0]
  refine congrArg _ (Fin.ext ?_)
  show 2048 + (y 1).val = 2048 + (win0_8.index t 1 * 896 + (y 1).val)
  rw [z]
  omega

theorem point9 (t : Fin cfg0.N) (r : Fin 256) (d : Fin 512) :
    (outsAt0 m c t).2.2.2.2 (ix2 r d) = projected (joined (Cm m c) (Lm m c)) (Tm m c) (Gm m c) (Wm m c) ⟨256 * t.val + r.val, by have := tlt t; omega⟩ ⟨2944 + d.val, by omega⟩ := by
  unfold outsAt0
  dsimp only
  rw [out9, pay5_apply]
  exact proj_point m c t r _

/-- Result 5 of the kernel. -/
theorem final9 :
    (dats m 0 c).arrAt 9 cfg0.N = fun i : S17408x512.Idx => projected (joined (Cm m c) (Lm m c)) (Tm m c) (Gm m c) (Wm m c) (i 0) ⟨2944 + (i 1).val, by have : (i 1).val < 512 := (i 1).isLt; omega⟩ := by
  refine (dats m 0 c).arrAt_eq_of_covers 9 _ (by decide +kernel) fun t hf y => ?_
  blk_simp
  have e0 : ((win0_9.blk t).view.emb y 0).val = 256 * t.val + (y 0).val := by blk_simp [(idx t).2.2.2.2.2.2.2.2.2.1]; omega
  have y0 : (y 0).val < 256 := (y 0).isLt
  have hy : y = (ix2 (n0 := 256) (n1 := 512) (y 0) (y 1) : S256x512.Idx) := eq_ix2 y
  have key := point9 m c t (y 0) (y 1)
  rw [after0_9]
  refine (congrArg (outsAt0 m c t).2.2.2.2 hy).trans (key.trans ?_)
  have f0 : (⟨256 * t.val + (y 0).val, by have := tlt t; omega⟩ : Fin 17408) = (win0_9.blk t).view.emb y 0 :=
    Fin.ext e0.symm
  have z : win0_9.index t 1 = 0 := congrFun (idx t).2.2.2.2.2.2.2.2.2.1 1
  rw [f0]
  refine congrArg _ (Fin.ext ?_)
  show 2944 + (y 1).val = 2944 + (win0_9.index t 1 * 512 + (y 1).val)
  rw [z]
  omega

end Cert.Kernel3Ideal.Inproj

end
-- ==== Proof.InprojRef.lean ====
/- The first layer's input projection as the reference computes it, row by row. -/
module

public import proofs.«01_k».proof.Proof.RowMath
public import proofs.«01_k».proof.Proof.Gen.Reference3Ideal.Read
public import Idealize.ShloMosaic.Lib.Pointwise

@[expose] public section

set_option backward.proofsInPublic true
set_option maxRecDepth 16384

noncomputable section

namespace Cert.Reference3Ideal.Inproj

open Cert.Reference3Ideal Cert.Reference3Ideal.Gen Cert.Reference3Ideal.Read Idealize.ShloMosaic Idealize.ShloMosaic.TcCoe Idealize.SL.Sem Cert.Rows

variable (C : S4x256x1024.Idx → EReal) (L : S4x4096x1024.Idx → EReal) (T : S8x6144.Idx → EReal) (G : S1x1024.Idx → EReal) (W : S1024x3456.Idx → EReal)

/-- The shift of the context rows. -/
theorem shiftC (b : Fin 4) (n : Fin 256) (d : Fin 1024) :
    (val_main_v23 (F := Ideal) T (ix3 b n d) : EReal) = vec T 0 (4 : Fin 8) d := by
  rw [val_main_v23_apply, val_main_v22_apply, val_main_v1_apply, val_main_v0_apply]
  exact congrArg T (funext fun a => Fin.ext (by match a with
    | ⟨0, _⟩ => rfl
    | ⟨1, _⟩ => show d.val % 1024 = 1024 * 0 + d.val; omega))

/-- The scale of the context rows, one added. -/
theorem scaleC (b : Fin 4) (n : Fin 256) (d : Fin 1024) :
    (val_main_v20 (F := Ideal) T (ix3 b n d) : EReal) = 1 + vec T 1 (4 : Fin 8) d := by
  rw [val_main_v20_apply, val_main_v19_apply, val_main_v18_apply, val_main_v17_apply, val_main_v3_apply, val_main_v2_apply]
  show (Ideal.ofBits .f32 0x3F800000#32 : EReal) + _ = _
  rw [Ideal.ofBits_one_f32]
  refine congrArg (fun z : EReal => 1 + z) ?_
  exact congrArg T (funext fun a => Fin.ext (by match a with
    | ⟨0, _⟩ => rfl
    | ⟨1, _⟩ => show 1024 + d.val % 1024 = 1024 * 1 + d.val; omega))

/-- The shift of the latent rows of a batch. -/
theorem shiftL (b : Fin 4) (n : Fin 4096) (d : Fin 1024) :
    (val_main_v46 (F := Ideal) T (ix3 b n d) : EReal) = vec T 0 ⟨b.val, by omega⟩ d := by
  rw [val_main_v46_apply, val_main_v26_apply, val_main_v25_apply]
  exact congrArg T (funext fun a => Fin.ext (by match a with
    | ⟨0, _⟩ => rfl
    | ⟨1, _⟩ => show d.val = 1024 * 0 + d.val; omega))

/-- The scale of the latent rows of a batch, one added. -/
theorem scaleL (b : Fin 4) (n : Fin 4096) (d : Fin 1024) :
    (val_main_v44 (F := Ideal) T (ix3 b n d) : EReal) = 1 + vec T 1 ⟨b.val, by omega⟩ d := by
  rw [val_main_v44_apply, val_main_v43_apply, val_main_v42_apply, val_main_v28_apply, val_main_v27_apply]
  show (Ideal.ofBits .f32 0x3F800000#32 : EReal) + _ = _
  rw [Ideal.ofBits_one_f32]
  refine congrArg (fun z : EReal => 1 + z) ?_
  exact congrArg T (funext fun a => Fin.ext (by match a with
    | ⟨0, _⟩ => rfl
    | ⟨1, _⟩ => show 1024 + d.val = 1024 * 1 + d.val; omega))

/-- The root of the mean of a row's squares plus the small term. -/
theorem rootC (b : Fin 4) (n : Fin 256) :
    (val_main_v11 (F := Ideal) C (ix3 b n (0 : Fin 1)) : EReal)
      = Ideal.rsqrt (Ideal.div (∑ k : Fin 1024, C (ix3 b n k) * C (ix3 b n k)) width + eps) := by
  rw [val_main_v11_apply, val_main_v10_apply, val_main_v8_apply, val_main_v6_apply, val_main_v5_apply, val_main_v7_apply, val_main_v9_apply]
  have e : ∀ k : Fin 1024, idx_main_v5 (idx_main_v6 (ix3 b n (0 : Fin 1))) k = (ix3 (n0 := 4) (n1 := 256) (n2 := 1024) b n k : S4x256x1024.Idx) := fun k =>
    funext fun a => Fin.ext (by match a with | ⟨0, _⟩ => rfl | ⟨1, _⟩ => rfl | ⟨2, _⟩ => rfl)
  have s : ((val_main_cst (F := Ideal)) (Shape.Idx.first h_S_) + ∑ k : Fin 1024, (val_main_v4 (F := Ideal) C) (idx_main_v5 (idx_main_v6 (ix3 b n (0 : Fin 1))) k) : EReal)
      = ∑ k : Fin 1024, C (ix3 b n k) * C (ix3 b n k) := by
    have z : (val_main_cst (F := Ideal) (Shape.Idx.first h_S_) : EReal) = 0 := by
      show Ideal.ofBits .f32 0x00000000#32 = 0
      simp [Ideal.ofBits, Ideal.ieee]
    rw [z, zero_add]
    refine Finset.sum_congr rfl fun k _ => ?_
    rw [e k]
    rfl
  exact congrArg (fun z : EReal => Ideal.rsqrt (Ideal.div z width + eps)) s

/-- The root of the mean of a row's squares plus the small term. -/
theorem rootL (b : Fin 4) (n : Fin 4096) :
    (val_main_v36 (F := Ideal) L (ix3 b n (0 : Fin 1)) : EReal)
      = Ideal.rsqrt (Ideal.div (∑ k : Fin 1024, L (ix3 b n k) * L (ix3 b n k)) width + eps) := by
  rw [val_main_v36_apply, val_main_v35_apply, val_main_v33_apply, val_main_v31_apply, val_main_v30_apply, val_main_v32_apply, val_main_v34_apply]
  have e : ∀ k : Fin 1024, idx_main_v30 (idx_main_v31 (ix3 b n (0 : Fin 1))) k = (ix3 (n0 := 4) (n1 := 4096) (n2 := 1024) b n k : S4x4096x1024.Idx) := fun k =>
    funext fun a => Fin.ext (by match a with | ⟨0, _⟩ => rfl | ⟨1, _⟩ => rfl | ⟨2, _⟩ => rfl)
  have s : ((val_main_cst_3 (F := Ideal)) (Shape.Idx.first h_S_) + ∑ k : Fin 1024, (val_main_v29 (F := Ideal) L) (idx_main_v30 (idx_main_v31 (ix3 b n (0 : Fin 1))) k) : EReal)
      = ∑ k : Fin 1024, L (ix3 b n k) * L (ix3 b n k) := by
    have z : (val_main_cst_3 (F := Ideal) (Shape.Idx.first h_S_) : EReal) = 0 := by
      show Ideal.ofBits .f32 0x00000000#32 = 0
      simp [Ideal.ofBits, Ideal.ieee]
    rw [z, zero_add]
    refine Finset.sum_congr rfl fun k _ => ?_
    rw [e k]
    rfl
  exact congrArg (fun z : EReal => Ideal.rsqrt (Ideal.div z width + eps)) s

/-- A modulated context row. -/
theorem modC (b : Fin 4) (n : Fin 256) (d : Fin 1024) :
    (val_main_v24 (F := Ideal) C T G (ix3 b n d) : EReal)
      = modul (fun k => C (ix3 b n k)) (fun k => G (ix2 0 k)) (vec T 0 (4 : Fin 8)) (vec T 1 (4 : Fin 8)) d := by
  rw [val_main_v24_apply, val_main_v21_apply, val_main_v16_apply, val_main_v13_apply, val_main_v12_apply, scaleC, shiftC]
  have e : idx_main_v12 (ix3 b n d) = (ix3 (n0 := 4) (n1 := 256) (n2 := 1) b n 0 : S4x256x1.Idx) :=
    funext fun a => Fin.ext (by match a with | ⟨0, _⟩ => rfl | ⟨1, _⟩ => rfl | ⟨2, _⟩ => rfl)
  have g : (val_main_v15 (F := Ideal) G (ix3 b n d) : EReal) = G (ix2 0 d) := by
    rw [val_main_v15_apply, val_main_v14_apply]
    exact congrArg G (funext fun a => Fin.ext (by match a with | ⟨0, _⟩ => rfl | ⟨1, _⟩ => rfl))
  rw [e, rootC, g]
  rfl

/-- A modulated latent row. -/
theorem modL (b : Fin 4) (n : Fin 4096) (d : Fin 1024) :
    (val_main_v47 (F := Ideal) L T G (ix3 b n d) : EReal)
      = modul (fun k => L (ix3 b n k)) (fun k => G (ix2 0 k)) (vec T 0 ⟨b.val, by omega⟩) (vec T 1 ⟨b.val, by omega⟩) d := by
  rw [val_main_v47_apply, val_main_v45_apply, val_main_v41_apply, val_main_v38_apply, val_main_v37_apply, scaleL, shiftL]
  have e : idx_main_v37 (ix3 b n d) = (ix3 (n0 := 4) (n1 := 4096) (n2 := 1) b n 0 : S4x4096x1.Idx) :=
    funext fun a => Fin.ext (by match a with | ⟨0, _⟩ => rfl | ⟨1, _⟩ => rfl | ⟨2, _⟩ => rfl)
  have g : (val_main_v40 (F := Ideal) G (ix3 b n d) : EReal) = G (ix2 0 d) := by
    rw [val_main_v40_apply, val_main_v39_apply]
    exact congrArg G (funext fun a => Fin.ext (by match a with | ⟨0, _⟩ => rfl | ⟨1, _⟩ => rfl))
  rw [e, rootL, g]
  rfl

/-- Two blocks joined along the rows, at a place. -/
theorem joint (A : S4x256x1024.Idx → EReal) (B : S4x4096x1024.Idx → EReal) (b : Fin 4) (n : Fin 4352) (k : Fin 1024) :
    (concatenate (α := EReal) S4x4352x1024 1 [⟨S4x256x1024, A⟩, ⟨S4x4096x1024, B⟩] concatenates_S4x256x1024_S4x4096x1024_S4x4352x1024_d1 (ix3 b n k) : EReal)
      = if h : n.val < 256 then A (ix3 b ⟨n.val, h⟩ k) else B (ix3 b ⟨n.val - 256, by omega⟩ k) := by
  pointwise

theorem idxX (n : Fin 17408) (k : Fin 1024) :
    idx_main_v49 (ix2 n k) = (ix3 (n0 := 4) (n1 := 4352) (n2 := 1024) ⟨n.val / 4352, by omega⟩ ⟨n.val % 4352, by omega⟩ k : S4x4352x1024.Idx) :=
  funext fun a => Fin.ext (by match a with
    | ⟨0, _⟩ => show (n.val * 1024 + k.val) / 4456448 = n.val / 4352; omega
    | ⟨1, _⟩ => show (n.val * 1024 + k.val) / 1024 % 4352 = n.val % 4352; omega
    | ⟨2, _⟩ => show (n.val * 1024 + k.val) % 1024 = k.val; omega)

theorem idxH (n : Fin 17408) (k : Fin 1024) :
    idx_main_v51 (ix2 n k) = (ix3 (n0 := 4) (n1 := 4352) (n2 := 1024) ⟨n.val / 4352, by omega⟩ ⟨n.val % 4352, by omega⟩ k : S4x4352x1024.Idx) :=
  funext fun a => Fin.ext (by match a with
    | ⟨0, _⟩ => show (n.val * 1024 + k.val) / 4456448 = n.val / 4352; omega
    | ⟨1, _⟩ => show (n.val * 1024 + k.val) / 1024 % 4352 = n.val % 4352; omega
    | ⟨2, _⟩ => show (n.val * 1024 + k.val) % 1024 = k.val; omega)

/-- The stream's rows. -/
theorem stream (n : Fin 17408) (k : Fin 1024) : (val_main_v49 (F := Ideal) C L (ix2 n k) : EReal) = joined C L n k := by
  rw [val_main_v49_apply, idxX]
  unfold val_main_v48
  rw [joint]
  unfold joined
  by_cases h : n.val % 4352 < 256
  · simp only [dif_pos h]
  · simp only [dif_neg h]

/-- The modulated rows. -/
theorem rows (n : Fin 17408) (k : Fin 1024) : (val_main_v51 (F := Ideal) C L T G (ix2 n k) : EReal)
    = modul (joined C L n) (fun k => G (ix2 0 k)) (vec T 0 (tableRow n)) (vec T 1 (tableRow n)) k := by
  have hs : (joined C L n) = fun k => (val_main_v49 (F := Ideal) C L (ix2 n k) : EReal) := funext fun k => (stream C L n k).symm
  rw [hs, val_main_v51_apply, idxH]
  unfold val_main_v50
  rw [joint]
  unfold tableRow
  by_cases h : n.val % 4352 < 256
  · rw [dif_pos h, if_pos h, modC]
    refine congrArg (fun f => modul f _ _ _ k) (funext fun k => ?_)
    rw [val_main_v49_apply, idxX]
    unfold val_main_v48
    rw [joint, dif_pos h]
  · rw [dif_neg h, if_neg h, modL]
    refine congrArg (fun f => modul f _ _ _ k) (funext fun k => ?_)
    rw [val_main_v49_apply, idxX]
    unfold val_main_v48
    rw [joint, dif_neg h]

/-- The projected rows. -/
theorem all (n : Fin 17408) (e : Fin 3456) : (val_main_v53 (F := Ideal) C L T G W (ix2 n e) : EReal) = projected (joined C L) T G W n e := by
  rw [val_main_v53_apply]
  unfold projected
  refine Finset.sum_congr rfl fun k _ => ?_
  have el : lidx_main_v53 (ix2 n e) k = (ix2 (n0 := 17408) (n1 := 1024) n k : S17408x1024.Idx) :=
    funext fun a => Fin.ext (by match a with | ⟨0, _⟩ => rfl | ⟨1, _⟩ => rfl)
  have er : ridx_main_v53 (ix2 n e) k = (ix2 (n0 := 1024) (n1 := 3456) k e : S1024x3456.Idx) :=
    funext fun a => Fin.ext (by match a with | ⟨0, _⟩ => rfl | ⟨1, _⟩ => rfl)
  rw [el, er, rows]
  rfl

theorem result2 (n : Fin 17408) (e : Fin 1280) :
    (val_main_v54 (F := Ideal) C L T G W (ix2 n e) : EReal) = projected (joined C L) T G W n ⟨0 + e.val, by omega⟩ := by
  rw [val_main_v54_apply]
  have h : idx_main_v54 (ix2 n e) = (ix2 (n0 := 17408) (n1 := 3456) n ⟨0 + e.val, by omega⟩ : S17408x3456.Idx) :=
    funext fun a => Fin.ext (by match a with | ⟨0, _⟩ => rfl | ⟨1, _⟩ => exact (Nat.zero_add _).symm)
  rw [h, all]

theorem result3 (n : Fin 17408) (e : Fin 768) :
    (val_main_v56 (F := Ideal) C L T G W (ix2 n e) : EReal) = projected (joined C L) T G W n ⟨1280 + e.val, by omega⟩ := by
  show (val_main_v55 (F := Ideal) C L T G W (ix2 n e) : EReal) = _
  rw [val_main_v55_apply]
  have h : idx_main_v55 (ix2 n e) = (ix2 (n0 := 17408) (n1 := 3456) n ⟨1280 + e.val, by omega⟩ : S17408x3456.Idx) :=
    funext fun a => Fin.ext (by match a with | ⟨0, _⟩ => rfl | ⟨1, _⟩ => rfl)
  rw [h, all]

theorem result4 (n : Fin 17408) (e : Fin 896) :
    (val_main_v57 (F := Ideal) C L T G W (ix2 n e) : EReal) = projected (joined C L) T G W n ⟨2048 + e.val, by omega⟩ := by
  rw [val_main_v57_apply]
  have h : idx_main_v57 (ix2 n e) = (ix2 (n0 := 17408) (n1 := 3456) n ⟨2048 + e.val, by omega⟩ : S17408x3456.Idx) :=
    funext fun a => Fin.ext (by match a with | ⟨0, _⟩ => rfl | ⟨1, _⟩ => rfl)
  rw [h, all]

theorem result5 (n : Fin 17408) (e : Fin 512) :
    (val_main_v58 (F := Ideal) C L T G W (ix2 n e) : EReal) = projected (joined C L) T G W n ⟨2944 + e.val, by omega⟩ := by
  rw [val_main_v58_apply]
  have h : idx_main_v58 (ix2 n e) = (ix2 (n0 := 17408) (n1 := 3456) n ⟨2944 + e.val, by omega⟩ : S17408x3456.Idx) :=
    funext fun a => Fin.ext (by match a with | ⟨0, _⟩ => rfl | ⟨1, _⟩ => rfl)
  rw [h, all]

end Cert.Reference3Ideal.Inproj

end
-- ==== Proof.InprojClaim.lean ====
/- The first layer's input projection's value claim: the kernel and the reference end with five equal results. -/
module

public import proofs.«01_k».proof.Defs
public import proofs.«01_k».proof.Proof.InprojArray
public import proofs.«01_k».proof.Proof.InprojRef
public import proofs.«01_k».proof.Proof.Gen.Reference3Ideal.Run

@[expose] public section

set_option backward.proofsInPublic true

noncomputable section

namespace Cert.Inproj

open Idealize.ShloMosaic Idealize.SL.Sem Cert.Rows

/-- The reference runs, its arguments kept, every counter at zero: it declares none. -/
theorem frame_r : quiescent_Reference3Ideal :=
  fun m g _ => (θ_run (Reference3Ideal.defs (F := Ideal)) _ _).mono (fun r h => ⟨fun c => (h c).2.2.2.2.2,
      sem_eq_zero_of_no_sems (by decide) r.2⟩)
    (Reference3Ideal.Value.run (F := Ideal) m g)

/-- The claim: equal results from equal arguments. -/
theorem algebraic : algebraic_Kernel3Ideal_Reference3Ideal := by
  intro m g m' g' _ hag
  refine ⟨fun c => (Kernel3Ideal.Gen.dats m 0 c).arrAt 5 Kernel3Ideal.cfg0.N, fun c => (Kernel3Ideal.Gen.dats m 0 c).arrAt 6 Kernel3Ideal.cfg0.N, fun c => (Kernel3Ideal.Gen.dats m 0 c).arrAt 7 Kernel3Ideal.cfg0.N, fun c => (Kernel3Ideal.Gen.dats m 0 c).arrAt 8 Kernel3Ideal.cfg0.N, fun c => (Kernel3Ideal.Gen.dats m 0 c).arrAt 9 Kernel3Ideal.cfg0.N,
    Kernel3Ideal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩)
    (Reference3Ideal.Value.run (F := Ideal) m' g')
  · have hc := hag c
    rw [Reference3Ideal.Read.val_main_v49_eq, hc.1, hc.2.1]
    refine Eq.trans (funext fun i => ?_) (Kernel3Ideal.Inproj.final5 m c).symm
    have e : i = (ix2 (n0 := 17408) (n1 := 1024) (i 0) (i 1) : Reference3Ideal.S17408x1024.Idx) := eq_ix2 i
    exact (congrArg _ e).trans (Reference3Ideal.Inproj.stream _ _ (i 0) (i 1))
  · have hc := hag c
    rw [Reference3Ideal.Read.val_main_v54_eq, hc.1, hc.2.1, hc.2.2.1, hc.2.2.2.1, hc.2.2.2.2]
    refine Eq.trans (funext fun i => ?_) (Kernel3Ideal.Inproj.final6 m c).symm
    have e : i = (ix2 (n0 := 17408) (n1 := 1280) (i 0) (i 1) : Reference3Ideal.S17408x1280.Idx) := eq_ix2 i
    exact (congrArg _ e).trans (Reference3Ideal.Inproj.result2 _ _ _ _ _ (i 0) (i 1))
  · have hc := hag c
    rw [Reference3Ideal.Read.val_main_v56_eq, hc.1, hc.2.1, hc.2.2.1, hc.2.2.2.1, hc.2.2.2.2]
    refine Eq.trans (funext fun i => ?_) (Kernel3Ideal.Inproj.final7 m c).symm
    have e : i = (ix2 (n0 := 17408) (n1 := 768) (i 0) (i 1) : Reference3Ideal.S17408x768.Idx) := eq_ix2 i
    exact (congrArg _ e).trans (Reference3Ideal.Inproj.result3 _ _ _ _ _ (i 0) (i 1))
  · have hc := hag c
    rw [Reference3Ideal.Read.val_main_v57_eq, hc.1, hc.2.1, hc.2.2.1, hc.2.2.2.1, hc.2.2.2.2]
    refine Eq.trans (funext fun i => ?_) (Kernel3Ideal.Inproj.final8 m c).symm
    have e : i = (ix2 (n0 := 17408) (n1 := 896) (i 0) (i 1) : Reference3Ideal.S17408x896.Idx) := eq_ix2 i
    exact (congrArg _ e).trans (Reference3Ideal.Inproj.result4 _ _ _ _ _ (i 0) (i 1))
  · have hc := hag c
    rw [Reference3Ideal.Read.val_main_v58_eq, hc.1, hc.2.1, hc.2.2.1, hc.2.2.2.1, hc.2.2.2.2]
    refine Eq.trans (funext fun i => ?_) (Kernel3Ideal.Inproj.final9 m c).symm
    have e : i = (ix2 (n0 := 17408) (n1 := 512) (i 0) (i 1) : Reference3Ideal.S17408x512.Idx) := eq_ix2 i
    exact (congrArg _ e).trans (Reference3Ideal.Inproj.result5 _ _ _ _ _ (i 0) (i 1))

end Cert.Inproj

end
-- ==== Proof.LatentArray.lean ====
/- The second layer's attention's result array: at every index softmax attention, over all the keys, of the arrays it was called with. -/
module

public import proofs.«01_k».proof.Proof.Gen.Kernel2Ideal.Value
public import proofs.«01_k».proof.Proof.AttnKernel
public import Idealize.ShloMosaic.Lib.Pipeline.ReadBack

@[expose] public section

set_option backward.proofsInPublic true
set_option maxRecDepth 16384

noncomputable section

namespace Cert.Kernel2Ideal.Attn

open Cert.Kernel2Ideal Cert.Kernel2Ideal.Gen Cert.Kernel2Ideal.Facts Idealize.ShloMosaic Idealize.ShloMosaic.TcCoe Idealize.SL.Sem Cert.Math
open Idealize.ShloMosaic.Pipeline (Dat)
open Cert.KernelIdeal.Attn (piece score head_all canon_apply)

section Case

variable (c : Dev nD) (i : grid0.Coords) (arg3 : Memref sig .tc .vmem S256x512 .bf16) (harg3 : arg3.IsWhole) (arg4 : Memref sig .tc .vmem S4352x512 .bf16)
  (harg4 : arg4.IsWhole) (arg5 : Memref sig .tc .vmem S1x320x4352 .bf16) (harg5 : arg5.IsWhole) (arg6 : Memref sig .tc .vmem S1x256x256 .bf16)
  (harg6 : arg6.IsWhole) (arg7 : Memref sig .tc .vmem S4x4352x256 .f32) (harg7 : arg7.IsWhole)
  (x0 : Vec Ideal S256x512 .bf16) (x1 : Vec Ideal S4352x512 .bf16) (x2 : Vec Ideal S1x320x4352 .bf16)

set_option maxHeartbeats 4000000 in
/-- The body leaves the four heads over all 17 key blocks. -/
theorem out (hc0) (hc1) : out0_A_3 c i arg3 harg3 arg4 harg4 arg5 harg5 arg6 harg6 arg7 harg7 hc0 hc1 x0 x1 x2
    = View.canon [piece x0 x1 x2 17 (by decide) 3, piece x0 x1 x2 17 (by decide) 2, piece x0 x1 x2 17 (by decide) 1, piece x0 x1 x2 17 (by decide) 0] := by
  frame_open
  simp (disch := decide) only [↓ View.readCov_skip, ↓ View.readCov_cons_toLoadRect, ↓ View.readCov_fill]
  frame_out
  rfl

end Case

/-- The block each point reads and writes, decided over the grid. -/
theorem idx : ∀ t : Fin cfg0.N, win0_0.index t = ![17 * (t.val / 16) + (t.val % 16 + 1), 0] ∧ win0_1.index t = ![t.val / 16, 0]
    ∧ win0_2.index t = ![t.val / 16, 0, 0] ∧ win0_3.index t = ![t.val, 0, 0] :=
  (by decide +kernel : ∀ t : Fin grid0.N, win0_0.index t = ![17 * (t.val / 16) + (t.val % 16 + 1), 0] ∧ win0_1.index t = ![t.val / 16, 0]
    ∧ win0_2.index t = ![t.val / 16, 0, 0] ∧ win0_3.index t = ![t.val, 0, 0])

variable (m : (ℓ : Loc nD τ sig) → Buf (Elt Ideal) ℓ) (c : Dev nD)

/-- The arrays the kernel is called with. -/
abbrev Qm : S17408x512.Idx → EReal := m ((c : Thread nD τ).loc main_arg0)
abbrev Km : S17408x512.Idx → EReal := m ((c : Thread nD τ).loc main_arg1)
abbrev Vm : S4x320x4352.Idx → EReal := m ((c : Thread nD τ).loc main_arg2)

theorem tlt (t : Fin cfg0.N) : t.val < 64 := lt_of_lt_of_eq t.isLt (show cfg0.N = 64 from N_0)

theorem iblk0_apply (t : Fin cfg0.N) (r : Fin 256) (l : Fin 512) :
    iblk m c 0 t (ix2 r l) = Qm m c (ix2 ⟨256 * (17 * (t.val / 16) + (t.val % 16 + 1)) + r.val, by have := tlt t; omega⟩ l) := by
  blk_ext [iblk, V, (idx t).1]

theorem iblk1_apply (t : Fin cfg0.N) (k : Fin 4352) (l : Fin 512) :
    iblk m c 1 t (ix2 k l) = Km m c (ix2 ⟨4352 * (t.val / 16) + k.val, by have := tlt t; omega⟩ l) := by
  blk_ext [iblk, V, (idx t).2.1]

theorem iblk2_apply (t : Fin cfg0.N) (e : Fin 320) (k : Fin 4352) :
    iblk m c 2 t (ix3 0 e k) = Vm m c (ix3 ⟨t.val / 16, by have := tlt t; omega⟩ e k) := by
  blk_ext [iblk, V, (idx t).2.2.1]

theorem score_blk (t : Fin cfg0.N) (h : Fin 4) (r : Fin 256) (k : Fin 4352) :
    score (iblk m c 0 t) (iblk m c 1 t) h r k
      = gscore (Qm m c) (Km m c) ⟨t.val / 16, by have := tlt t; omega⟩ h ⟨256 * (t.val % 16 + 1) + r.val, by omega⟩ k := by
  unfold score gscore
  refine Finset.sum_congr rfl fun l _ => ?_
  rw [iblk0_apply, iblk1_apply]
  have e : (⟨256 * (17 * (t.val / 16) + (t.val % 16 + 1)) + r.val, by have := tlt t; omega⟩ : Fin 17408)
      = ⟨4352 * (t.val / 16) + (256 * (t.val % 16 + 1) + r.val), by have := tlt t; omega⟩ := Fin.ext (by simp only; omega)
  rw [e]

section Point

variable (hQ : ∀ i, IsReal (Qm m c i)) (hK : ∀ i, IsReal (Km m c i))
  (h1 : ∀ (b h : Fin 4) (k : Fin 4352), Vm m c (ix3 b ⟨80 * h.val + 64, by omega⟩ k) = 1)
include hQ hK h1

/-- What a point stores, at an index of its block: attention at that row. -/
theorem point (t : Fin cfg0.N) (u : Fin 1) (e r : Fin 256) :
    outsAt0 m c t (ix3 u e r) = latentOut (Qm m c) (Km m c) (Vm m c) ⟨t.val, tlt t⟩ e r := by
  have hs : ∀ k, IsReal (score (iblk m c 0 t) (iblk m c 1 t) ⟨e.val / 64, by omega⟩ r k) := fun k => by
    rw [score_blk]; exact gscore_real hQ hK _ _ _ _
  have ho : ∀ k : Fin 4352, iblk m c 2 t (ix3 0 ⟨80 * (⟨e.val / 64, by omega⟩ : Fin 4).val + 64, by simp only; omega⟩ k) = (1 : EReal) := fun k => by
    rw [iblk2_apply]; exact h1 _ _ _
  unfold latentOut
  unfold outsAt0
  rw [out]
  refine (canon_apply _ _ _ 17 (by decide) u e r).trans ((head_all _ _ _ _ _ _ hs ho).trans ?_)
  refine congrArg₂ attend (funext fun k => ?_) (funext fun k => ?_)
  · exact score_blk m c t _ r _
  · exact iblk2_apply m c t _ _

/-- The kernel's whole result. -/
theorem final :
    (dats m 0 c).arrAt 3 cfg0.N = fun i : S64x256x256.Idx => latentOut (Qm m c) (Km m c) (Vm m c) (i 0) (i 1) (i 2) := by
  refine (dats m 0 c).arrAt_eq_of_covers 3 _ (by decide +kernel) fun t hf y => ?_
  blk_simp
  have e0 : ((win0_3.blk t).view.emb y 0).val = t.val + (y 0).val := by blk_simp [(idx t).2.2.2]
  have e1 : ((win0_3.blk t).view.emb y 1).val = (y 1).val := by blk_simp [(idx t).2.2.2]
  have e2 : ((win0_3.blk t).view.emb y 2).val = (y 2).val := by blk_simp [(idx t).2.2.2]
  have y0 : (y 0).val < 1 := (y 0).isLt
  have hy : y = (ix3 (n0 := 1) (n1 := 256) (n2 := 256) (y 0) (y 1) (y 2) : S1x256x256.Idx) := eq_ix3 y
  have key := point m c hQ hK h1 t (y 0) (y 1) (y 2)
  rw [after0_3]
  refine (congrArg (outsAt0 m c t) hy).trans (key.trans ?_)
  have f0 : (⟨t.val, tlt t⟩ : Fin 64) = (win0_3.blk t).view.emb y 0 := Fin.ext (by rw [e0]; simp only; omega)
  have f1 : (y 1 : Fin 256) = (win0_3.blk t).view.emb y 1 := Fin.ext e1.symm
  have f2 : (y 2 : Fin 256) = (win0_3.blk t).view.emb y 2 := Fin.ext e2.symm
  rw [f0, f1, f2]

end Point

end Cert.Kernel2Ideal.Attn

end
-- ==== Proof.LatentRef.lean ====
/- The second layer's attention as the reference computes it: at every index softmax attention over all the keys. -/
module

public import proofs.«01_k».proof.Proof.AttnRefScores
public import proofs.«01_k».proof.Proof.Gen.Reference2Ideal.Read

@[expose] public section

set_option backward.proofsInPublic true
set_option maxRecDepth 16384

noncomputable section

namespace Cert.Reference2Ideal.Attn

open Cert.Reference2Ideal Cert.Reference2Ideal.Gen Cert.Reference2Ideal.Facts Cert.Reference2Ideal.Read Idealize.ShloMosaic Idealize.ShloMosaic.TcCoe Idealize.SL.Sem Cert.Math
open Cert.ReferenceIdeal.Attn (neg_inf fold_sup)

variable (Q K : S17408x512.Idx → EReal) (V : S4x320x4352.Idx → EReal)

theorem scores (b h : Fin 4) (T : Fin 4096) (k : Fin 4352) :
    val_main_v8 (F := Ideal) Q K (ix4 b h T k) = gscore Q K b h ⟨256 + T.val, by omega⟩ k := by
  unfold gscore
  pointwise [val_main_v8, val_main_v2, val_main_v4, val_main_v1, val_main_v3, val_main_v0]
  refine Finset.sum_congr rfl fun l _ => ?_
  simp only [Nat.mul_comm b.val, Nat.mul_comm h.val]
  exact mul_comm _ _

theorem greatest (b h : Fin 4) (T : Fin 4096) :
    val_main_v9 (F := Ideal) Q K (ix3 b h T) = Finset.univ.sup fun k => val_main_v8 (F := Ideal) Q K (ix4 b h T k) := by
  unfold val_main_v9
  pointwise
  exact fold_sup _ _ neg_inf

theorem weights (b h : Fin 4) (T : Fin 4096) (k : Fin 4352) :
    val_main_v15 (F := Ideal) Q K (ix4 b h T k) = weight (fun k => val_main_v8 (F := Ideal) Q K (ix4 b h T k)) k := by
  have e : idx_main_v12 (idx_main_v13 (ix4 b h T k)) = ix3 b h T := funext fun a => match a with | ⟨0, _⟩ => rfl | ⟨1, _⟩ => rfl | ⟨2, _⟩ => rfl
  have z : val_main_v10 (F := Ideal) (ix3 b h T) = ⊥ := by rw [val_main_v10_apply]; exact neg_inf
  refine weight_of _ k _ _ _ rfl (greatest Q K b h T) ?_
  rw [val_main_v15_apply, val_main_v14_apply, val_main_v13_apply, val_main_v12_apply, e, val_main_v11_apply, z]
  generalize val_main_v9 (F := Ideal) Q K (ix3 b h T) = a
  generalize val_main_v8 (F := Ideal) Q K (ix4 b h T k) = a'
  rfl

theorem out (b h : Fin 4) (T : Fin 4096) (d : Fin 64) :
    val_main_v20 (F := Ideal) Q K V (ix4 b h d T) = attend (fun k => val_main_v8 (F := Ideal) Q K (ix4 b h T k)) fun k => V (ix3 b ⟨80 * h.val + d.val, by omega⟩ k) := by
  unfold attend
  simp only [← weights]
  pointwise [val_main_v20, val_main_v19, val_main_v18, val_main_v17, val_main_v16, val_main_cst_1, val_main_v7, val_main_v6, val_main_v5]
  simp only [Nat.mul_comm h.val]

theorem idx23 (t : Fin 64) (e r : Fin 256) : idx_main_v23 (ix3 t e r) = ix4 ⟨t.val / 16, by omega⟩ ⟨t.val % 16, by omega⟩ e r :=
  funext fun a => Fin.ext (by
    have ht := t.isLt; have he := e.isLt; have hr := r.isLt
    match a with
    | ⟨0, _⟩ => show ((t.val * 256 + e.val) * 256 + r.val) / 1048576 = t.val / 16; omega
    | ⟨1, _⟩ => show ((t.val * 256 + e.val) * 256 + r.val) / 65536 % 16 = t.val % 16; omega
    | ⟨2, _⟩ => show ((t.val * 256 + e.val) * 256 + r.val) / 256 % 256 = e.val; omega
    | ⟨3, _⟩ => show ((t.val * 256 + e.val) * 256 + r.val) % 256 = r.val; omega)

theorem idx22 (b : Fin 4) (j : Fin 16) (e r : Fin 256) : idx_main_v22 (ix4 b j e r) = ix4 b e j r :=
  funext fun a => match a with | ⟨0, _⟩ => rfl | ⟨1, _⟩ => rfl | ⟨2, _⟩ => rfl | ⟨3, _⟩ => rfl

theorem idx21 (b : Fin 4) (j : Fin 16) (e r : Fin 256) :
    idx_main_v21 (ix4 b e j r) = ix4 b ⟨e.val / 64, by omega⟩ ⟨e.val % 64, by omega⟩ ⟨256 * j.val + r.val, by omega⟩ :=
  funext fun a => Fin.ext (by
    have hb := b.isLt; have hj := j.isLt; have he := e.isLt; have hr := r.isLt
    match a with
    | ⟨0, _⟩ => show (((b.val * 256 + e.val) * 16 + j.val) * 256 + r.val) / 1048576 = b.val; omega
    | ⟨1, _⟩ => show (((b.val * 256 + e.val) * 16 + j.val) * 256 + r.val) / 262144 % 4 = e.val / 64; omega
    | ⟨2, _⟩ => show (((b.val * 256 + e.val) * 16 + j.val) * 256 + r.val) / 4096 % 64 = e.val % 64; omega
    | ⟨3, _⟩ => show (((b.val * 256 + e.val) * 16 + j.val) * 256 + r.val) % 4096 = 256 * j.val + r.val; omega)

/-- The result's blocks are the head-major outputs, rearranged. -/
theorem arranged (t : Fin 64) (e r : Fin 256) :
    val_main_v24 (F := Ideal) Q K V (ix3 t e r) = (val_main_v20 (F := Ideal) Q K V
      (ix4 ⟨t.val / 16, by omega⟩ ⟨e.val / 64, by omega⟩ ⟨e.val % 64, by omega⟩ ⟨256 * (t.val % 16) + r.val, by omega⟩) : EReal) := by
  rw [val_main_v24_apply, val_main_v23_apply, idx23, val_main_v22_apply, idx22, val_main_v21_apply, idx21]
  rfl

/-- The reference's result, at an index. -/
theorem all (t : Fin 64) (e r : Fin 256) :
    val_main_v24 (F := Ideal) Q K V (ix3 t e r) = latentOut Q K V t e r := by
  rw [arranged, out, latentOut]
  have e : 256 + (256 * (t.val % 16) + r.val) = 256 * (t.val % 16 + 1) + r.val := by omega
  refine congrArg (attend · _) (funext fun k => ?_)
  rw [scores]
  exact congrArg (gscore Q K _ _ · _) (Fin.ext e)

end Cert.Reference2Ideal.Attn

end
-- ==== Proof.LatentClaim.lean ====
/- The second layer's attention's value claim: under the precondition the kernel and the reference end with equal results. -/
module

public import proofs.«01_k».proof.Defs
public import proofs.«01_k».proof.Proof.LatentArray
public import proofs.«01_k».proof.Proof.LatentRef
public import proofs.«01_k».proof.Proof.AttnPre
public import proofs.«01_k».proof.Proof.Gen.Kernel2Ideal.Value
public import proofs.«01_k».proof.Proof.Gen.Reference2Ideal.Run

@[expose] public section

set_option backward.proofsInPublic true

noncomputable section

namespace Cert.Latent

open Idealize.ShloMosaic Idealize.SL.Sem Cert.Math

/-- The kernel's result array, from the precondition. -/
theorem kernel_value [Cert.Pre_attention_inputs.Facts] (m : (ℓ : Loc Kernel2Ideal.nD Kernel2Ideal.τ Kernel2Ideal.sig) → Buf (Elt Ideal) ℓ)
    (hp : Pre_Kernel2Ideal_attention_inputs m) (c : Dev Kernel2Ideal.nD) :
    (Kernel2Ideal.Gen.dats m 0 c).arrAt 3 Kernel2Ideal.cfg0.N = fun i : Kernel2Ideal.S64x256x256.Idx =>
      latentOut (Kernel2Ideal.Attn.Qm m c) (Kernel2Ideal.Attn.Km m c) (Kernel2Ideal.Attn.Vm m c) (i 0) (i 1) (i 2) :=
  Kernel2Ideal.Attn.final m c (fun i => Pre_attention_inputs.queries _ _ _ (hp c).1 i) (fun i => Pre_attention_inputs.keys _ _ _ (hp c).2.1 i)
    fun b h k => Pre_attention_inputs.ones _ _ _ (hp c).2.2 b h k

/-- The reference runs, its arguments kept, every counter at zero: it declares none. -/
theorem frame_r : quiescent_Reference2Ideal :=
  fun m g _ => (θ_run (Reference2Ideal.defs (F := Ideal)) _ _).mono (fun r h => ⟨fun c => (h c).2,
      sem_eq_zero_of_no_sems (by decide) r.2⟩)
    (Reference2Ideal.Value.run (F := Ideal) m g)

/-- So it does under the precondition. -/
theorem frame_rp [Cert.Pre_attention_inputs.Facts] : quiescent_Reference2Ideal_pre_attention_inputs :=
  fun m g _ => (θ_run (Reference2Ideal.defs (F := Ideal)) _ _).mono (fun r h => ⟨fun c => (h c).2,
      sem_eq_zero_of_no_sems (by decide) r.2⟩)
    (Reference2Ideal.Value.run (F := Ideal) m g)

/-- The claim: equal results from equal arguments that satisfy the precondition. -/
theorem algebraic [Cert.Pre_attention_inputs.Facts] : algebraic_Kernel2Ideal_Reference2Ideal_pre_attention_inputs := by
  intro m g m' g' hp hag
  refine ⟨fun c => (Kernel2Ideal.Gen.dats m 0 c).arrAt 3 Kernel2Ideal.cfg0.N, Kernel2Ideal.Value.run_blocks m g, ?_⟩
  refine (θ_run _ _ _).mono (fun r h c => ⟨(h c).1.trans ?_, (h c).2⟩) (Reference2Ideal.Value.run (F := Ideal) m' g')
  have hc := hag c
  rw [Reference2Ideal.Read.val_main_v24_eq, hc.1, hc.2.1, hc.2.2]
  refine Eq.trans (funext fun i => ?_) (kernel_value m hp c).symm
  have e : i = (ix3 (n0 := 64) (n1 := 256) (n2 := 256) (i 0) (i 1) (i 2) : Reference2Ideal.S64x256x256.Idx) := eq_ix3 i
  exact (congrArg _ e).trans (Reference2Ideal.Attn.all _ _ _ (i 0) (i 1) (i 2))

end Cert.Latent

end
-- ==== Proof.StoredTiles.lean ====
/- A block of 256 tokens stored as token tiles: eight stores, the k-th putting columns 128k to 128k + 127 of every
   token at row 8t + k, so that a token of 1024 columns fills eight consecutive rows of 128. -/
module

public import Idealize.ShloMosaic.Lib.Pipeline.Value

@[expose] public section

noncomputable section

namespace Cert.StoredTiles

open Idealize.ShloMosaic

variable {Val : EltTy → Type} {e : EltTy}

/-- The block of rows, and the rows one store writes. -/
abbrev Rows : Shape := ⟨2, ![2048, 128]⟩

/-- Every eighth row from row k on. -/
def eighth (k : Fin 8) : Rect Rows where
  off := ![k.val, 0]
  size := ![256, 128]
  stride := ![8, 1]
  inb a := by
    match a with
    | ⟨0, _⟩ => exact Or.inr (show k.val + 8 * (256 - 1) < 2048 by have := k.isLt; omega)
    | ⟨1, _⟩ => exact Or.inr (show 0 + 1 * (128 - 1) < 128 by omega)
  stride_pos a := by
    match a with
    | ⟨0, _⟩ => exact Nat.succ_pos 7
    | ⟨1, _⟩ => exact Nat.one_pos

/-- The eight sets of rows, the last one stored first in the list. -/
def eighths : List (Rect Rows) := [eighth 7, eighth 6, eighth 5, eighth 4, eighth 3, eighth 2, eighth 1, eighth 0]

theorem mem_eighths (k : Fin 8) : eighth k ∈ eighths := by
  unfold eighths
  fin_cases k <;> simp

/-- Row r lies among the rows of the store r modulo 8. -/
theorem mem_eighth (y : Rows.Idx) : y ∈ (eighth ⟨(y 0).val % 8, Nat.mod_lt _ (by decide)⟩).set := by
  have h0 : (y 0).val < 2048 := (y 0).isLt
  have h1 : (y 1).val < 128 := (y 1).isLt
  rw [LoadRect.mem_set]
  intro a
  match a with
  | ⟨0, _⟩ => exact ⟨(y 0).val / 8, show (y 0).val / 8 < 256 by omega, show (y 0).val = (y 0).val % 8 + 8 * ((y 0).val / 8) by omega⟩
  | ⟨1, _⟩ => exact ⟨(y 1).val, h1, show (y 1).val = 0 + 1 * (y 1).val by omega⟩

/-- The eight stores leave no row unwritten. -/
theorem cover (L : List (View.Piece Val Rows e)) (hL : L.map (fun p => p.1) = eighths) (y : Rows.Idx) :
    ∃ p ∈ L, y ∈ p.1.set := by
  have h := mem_eighths ⟨(y 0).val % 8, Nat.mod_lt _ (by decide)⟩
  rw [← hL] at h
  obtain ⟨p, hp, he⟩ := List.mem_map.1 h
  exact ⟨p, hp, he ▸ mem_eighth y⟩

/-- The row of the block that a store's own row t is. -/
theorem eighth_emb (k : Fin 8) (x : (eighth k).shape.Idx) :
    (((eighth k).emb x 0).val = k.val + 8 * (x 0).val) ∧ (((eighth k).emb x 1).val = (x 1).val) :=
  ⟨rfl, show 0 + 1 * (x 1).val = (x 1).val by omega⟩

/-- What the eight stores leave: at row r and lane l, token r / 8's column 128 (r modulo 8) + l. -/
theorem canon_eighths [∀ e, Nonempty (Val e)] (V : ℕ → ℕ → Val e) (L : List (View.Piece Val Rows e))
    (hL : L.map (fun p => p.1) = eighths)
    (hV : ∀ p ∈ L, ∃ (k : Fin 8) (w : (eighth k).shape.Idx → Val e), p = ⟨eighth k, w⟩
      ∧ ∀ x : (eighth k).shape.Idx, w x = V (x 0).val (128 * k.val + (x 1).val)) (y : Rows.Idx) :
    View.canon L y = V ((y 0).val / 8) (128 * ((y 0).val % 8) + (y 1).val) := by
  have hG : ∀ p ∈ L, ∀ x : p.1.shape.Idx,
      p.2 x = (fun y : Rows.Idx => V ((y 0).val / 8) (128 * ((y 0).val % 8) + (y 1).val)) (p.1.emb x) := by
    intro p hp x
    obtain ⟨k, w, rfl, hw⟩ := hV p hp
    obtain ⟨h0, h1⟩ := eighth_emb k x
    have hk := k.isLt
    rw [show ((⟨eighth k, w⟩ : View.Piece Val Rows e).2 x) = w x from rfl, hw]
    show _ = V (((eighth k).emb x 0).val / 8) (128 * (((eighth k).emb x 0).val % 8) + ((eighth k).emb x 1).val)
    rw [h0, h1, show (k.val + 8 * (x 0).val) / 8 = (x 0).val by omega, show (k.val + 8 * (x 0).val) % 8 = k.val by omega]
  exact View.canon_apply_of_pieces (fun y : Rows.Idx => V ((y 0).val / 8) (128 * ((y 0).val % 8) + (y 1).val)) L hG y (cover L hL y)

end Cert.StoredTiles

end
-- ==== Proof.OutprojRunIdeal.lean ====
/- The output projection's run in the ideal program: what its body leaves in the two result blocks, at every point, and the frame. -/
module

public import proofs.«01_k».proof.Proof.Gen.Kernel6Ideal.Frame
public import proofs.«01_k».proof.Proof.Gen.Kernel6Ideal.Skeleton
public import proofs.«01_k».proof.Proof.StoredTiles
public import Idealize.ShloMosaic.Lib.Claim

@[expose] public section

-- membership in a rectangle of production extents (`View.cover_of_tiled`): the elaborator's structural look
-- recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 18, through which its contents are stated (`View.read_writes_of_cover`: the
    choice does not matter). -/
abbrev VO0_18 : View sig .tc .vmem S256x1024 .f32 := (Memref.whole cc0_stg18_0 : Memref sig .tc .vmem S256x1024 .f32).view
/-- One staging buffer of output window 19, through which its contents are stated (`View.read_writes_of_cover`: the
    choice does not matter). -/
abbrev VO0_19 : View sig .tc .vmem S2048x128 .f32 := (Memref.whole cc0_stg19_0 : Memref sig .tc .vmem S2048x128 .f32).view
/-- Each window's current staging memref at point `t`, spelled as the pipeline passes it (`bodyAt0`), and its wholeness. -/
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x6144 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x1024 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x256 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2048x128 .f32 := win0_19.stage (cfg0.slots t 19)
abbrev hs0_19 (t : Fin cfg0.N) : (ms0_19 t).IsWhole := hstage0_19 ((cfg0.slots t 19).cast nbuf0_19)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256x256 .bf16) (harg8 : arg8.IsWhole) (arg9 : Memref sig .tc .vmem S256x1024 .f32) (harg9 : arg9.IsWhole) (arg10 : Memref sig .tc .vmem S8x6144 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x256 .bf16) (harg18 : arg18.IsWhole) (arg19 : Memref sig .tc .vmem S256x1024 .f32) (harg19 : arg19.IsWhole) (arg20 : Memref sig .tc .vmem S2048x128 .f32) (harg20 : arg20.IsWhole)
    (x0 : Vec F S256x256 .f32) (x1 : Vec F S256x256 .f32) (x2 : Vec F S256x256 .f32) (x3 : Vec F S256x256 .bf16) (x4 : Vec F S256x256 .f32) (x5 : Vec F S256x256 .f32) (x6 : Vec F S256x256 .f32) (x7 : Vec F S1x256x256 .bf16) (x8 : Vec F S256x1024 .f32) (x9 : Vec F S8x6144 .f32) (x10 : Vec F S1x256 .f32) (x11 : Vec F S1x256 .f32) (x12 : Vec F S1x1024 .f32) (x13 : Vec F S256x1024 .bf16) (x14 : Vec F S256x1024 .bf16) (x15 : Vec F S256x1024 .bf16) (x16 : Vec F S256x1024 .bf16) (x17 : Vec F S256x256 .bf16) :
    Σ' (L18 : List (View.Piece (Elt F) S256x1024 .f32)), { L19 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19)) -∗ K ⟨⟩))
          ⊢ wp frame (wpE (defs₀ (F := F)) Variants.none c none) E (cc0_out_projection i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun E K => ?run⟩
  case run =>
    simp only [cc0_out_projection_eq_skeleton]; unfold cc0_out_projection_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    iexists _; iexact H19

/-- The one store of the residual covers its block. -/
theorem cover0_A_18 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256x256 .bf16) (harg8 : arg8.IsWhole) (arg9 : Memref sig .tc .vmem S256x1024 .f32) (harg9 : arg9.IsWhole) (arg10 : Memref sig .tc .vmem S8x6144 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x256 .bf16) (harg18 : arg18.IsWhole) (arg19 : Memref sig .tc .vmem S256x1024 .f32) (harg19 : arg19.IsWhole) (arg20 : Memref sig .tc .vmem S2048x128 .f32) (harg20 : arg20.IsWhole)
    (x0 : Vec F S256x256 .f32) (x1 : Vec F S256x256 .f32) (x2 : Vec F S256x256 .f32) (x3 : Vec F S256x256 .bf16) (x4 : Vec F S256x256 .f32) (x5 : Vec F S256x256 .f32) (x6 : Vec F S256x256 .f32) (x7 : Vec F S1x256x256 .bf16) (x8 : Vec F S256x1024 .f32) (x9 : Vec F S8x6144 .f32) (x10 : Vec F S1x256 .f32) (x11 : Vec F S1x256 .f32) (x12 : Vec F S1x1024 .f32) (x13 : Vec F S256x1024 .bf16) (x14 : Vec F S256x1024 .bf16) (x15 : Vec F S256x1024 .bf16) (x16 : Vec F S256x1024 .bf16) (x17 : Vec F S256x256 .bf16) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).1 S256x1024.size (by sl_kernel_rfl) y

/-- What the run leaves in output 18's staging buffer: its pieces read back over junk. -/
def out0_A_18 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256x256 .bf16) (harg8 : arg8.IsWhole) (arg9 : Memref sig .tc .vmem S256x1024 .f32) (harg9 : arg9.IsWhole) (arg10 : Memref sig .tc .vmem S8x6144 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x256 .bf16) (harg18 : arg18.IsWhole) (arg19 : Memref sig .tc .vmem S256x1024 .f32) (harg19 : arg19.IsWhole) (arg20 : Memref sig .tc .vmem S2048x128 .f32) (harg20 : arg20.IsWhole)
    (x0 : Vec F S256x256 .f32) (x1 : Vec F S256x256 .f32) (x2 : Vec F S256x256 .f32) (x3 : Vec F S256x256 .bf16) (x4 : Vec F S256x256 .f32) (x5 : Vec F S256x256 .f32) (x6 : Vec F S256x256 .f32) (x7 : Vec F S1x256x256 .bf16) (x8 : Vec F S256x1024 .f32) (x9 : Vec F S8x6144 .f32) (x10 : Vec F S1x256 .f32) (x11 : Vec F S1x256 .f32) (x12 : Vec F S1x1024 .f32) (x13 : Vec F S256x1024 .bf16) (x14 : Vec F S256x1024 .bf16) (x15 : Vec F S256x1024 .bf16) (x16 : Vec F S256x1024 .bf16) (x17 : Vec F S256x256 .bf16) : Vec F S256x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).1)

/-- The eight stores of the token tiles cover their block. -/
theorem cover0_A_19 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256x256 .bf16) (harg8 : arg8.IsWhole) (arg9 : Memref sig .tc .vmem S256x1024 .f32) (harg9 : arg9.IsWhole) (arg10 : Memref sig .tc .vmem S8x6144 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x256 .bf16) (harg18 : arg18.IsWhole) (arg19 : Memref sig .tc .vmem S256x1024 .f32) (harg19 : arg19.IsWhole) (arg20 : Memref sig .tc .vmem S2048x128 .f32) (harg20 : arg20.IsWhole)
    (x0 : Vec F S256x256 .f32) (x1 : Vec F S256x256 .f32) (x2 : Vec F S256x256 .f32) (x3 : Vec F S256x256 .bf16) (x4 : Vec F S256x256 .f32) (x5 : Vec F S256x256 .f32) (x6 : Vec F S256x256 .f32) (x7 : Vec F S1x256x256 .bf16) (x8 : Vec F S256x1024 .f32) (x9 : Vec F S8x6144 .f32) (x10 : Vec F S1x256 .f32) (x11 : Vec F S1x256 .f32) (x12 : Vec F S1x1024 .f32) (x13 : Vec F S256x1024 .bf16) (x14 : Vec F S256x1024 .bf16) (x15 : Vec F S256x1024 .bf16) (x16 : Vec F S256x1024 .bf16) (x17 : Vec F S256x256 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.1, y ∈ pc.1.set :=
  StoredTiles.cover (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.1 (by sl_kernel_rfl) y

/-- What the run leaves in output 19's staging buffer: its pieces read back over junk. -/
def out0_A_19 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256x256 .bf16) (harg8 : arg8.IsWhole) (arg9 : Memref sig .tc .vmem S256x1024 .f32) (harg9 : arg9.IsWhole) (arg10 : Memref sig .tc .vmem S8x6144 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x256 .bf16) (harg18 : arg18.IsWhole) (arg19 : Memref sig .tc .vmem S256x1024 .f32) (harg19 : arg19.IsWhole) (arg20 : Memref sig .tc .vmem S2048x128 .f32) (harg20 : arg20.IsWhole)
    (x0 : Vec F S256x256 .f32) (x1 : Vec F S256x256 .f32) (x2 : Vec F S256x256 .f32) (x3 : Vec F S256x256 .bf16) (x4 : Vec F S256x256 .f32) (x5 : Vec F S256x256 .f32) (x6 : Vec F S256x256 .f32) (x7 : Vec F S1x256x256 .bf16) (x8 : Vec F S256x1024 .f32) (x9 : Vec F S8x6144 .f32) (x10 : Vec F S1x256 .f32) (x11 : Vec F S1x256 .f32) (x12 : Vec F S1x1024 .f32) (x13 : Vec F S256x1024 .bf16) (x14 : Vec F S256x1024 .bf16) (x15 : Vec F S256x1024 .bf16) (x16 : Vec F S256x1024 .bf16) (x17 : Vec F S256x256 .bf16) : Vec F S2048x128 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.1)

/-! ## What the outputs hold after each point -/

/-- What the outputs' staging buffers hold after the body at point `t` (as a tuple, in window order): the run's contents at
    the point's memrefs and input blocks. -/
def outsAt0 (c : Dev nD) (t : Fin cfg0.N) : Vec F S256x1024 .f32 × Vec F S2048x128 .f32 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  unfold outsAt0
  unfold out0_A_18 out0_A_19; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, ⟨%e18, H18⟩, ⟨%e19, H19⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H19
  ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame: from any memory with zero counters every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel6Ideal.Gen

end
-- ==== Proof.OutprojMath.lean ====
/- The arithmetic of one row of the output projection: the readout of a recurrence's heads, each normalized over its 64
   places and gated, and the row's four heads against the four quarters of the weight. -/
module

public import proofs.«01_k».proof.Proof.RowMath
public import proofs.«01_k».proof.Proof.AttnMath

@[expose] public section

noncomputable section

namespace Cert.Rows

open Idealize.ShloMosaic Cert.Math

/-- A head's width as the programs write it. -/
def headWidth : EReal := Ideal.ofBits .f32 0x42800000#32

/-- The gate: a number times its logistic. -/
def gateOf (x : EReal) : EReal := x * Ideal.div 1 (1 + Ideal.exp (-x))

/-- The sum of a row over the head that place `k` lies in. -/
def headSum (q : Fin 256 → EReal) (k : Fin 256) : EReal := ∑ j : Fin 64, q ⟨64 * (k.val / 64) + j.val, by omega⟩

/-- The heads of a row, each over the root of the mean of its squares, times the gain and the gate. -/
def readout (o g gate : Fin 256 → EReal) (k : Fin 256) : EReal :=
  o k * Ideal.rsqrt (Ideal.div (headSum (fun j => o j * o j) k) headWidth + eps) * g k * gateOf (gate k)

/-- Four heads' rows side by side. -/
def four (a b c d : Fin 256 → EReal) (k : Fin 1024) : EReal :=
  if h0 : k.val < 256 then a ⟨k.val, h0⟩ else if h1 : k.val < 512 then b ⟨k.val - 256, by omega⟩
  else if h2 : k.val < 768 then c ⟨k.val - 512, by omega⟩ else d ⟨k.val - 768, by omega⟩

/-- The four heads against the four quarters of a column of the weight. -/
def quarters (a b c d : Fin 256 → EReal) (w : Fin 1024 → EReal) : EReal :=
  ∑ k : Fin 256, a k * w ⟨k.val, by omega⟩ + ∑ k : Fin 256, b k * w ⟨256 + k.val, by omega⟩
    + ∑ k : Fin 256, c k * w ⟨512 + k.val, by omega⟩ + ∑ k : Fin 256, d k * w ⟨768 + k.val, by omega⟩

/-- The one product over all four heads is the four products' sum. -/
theorem sum_four (a b c d : Fin 256 → EReal) (w : Fin 1024 → EReal) : ∑ k : Fin 1024, four a b c d k * w k = quarters a b c d w := by
  have e : ∀ f : Fin (256 + 256 + 256 + 256) → EReal, ∑ k, f k = ∑ k : Fin 256, f ⟨k.val, by omega⟩ + ∑ k : Fin 256, f ⟨256 + k.val, by omega⟩
      + ∑ k : Fin 256, f ⟨512 + k.val, by omega⟩ + ∑ k : Fin 256, f ⟨768 + k.val, by omega⟩ := by
    intro f
    rw [Fin.sum_univ_add, Fin.sum_univ_add, Fin.sum_univ_add]
    rfl
  refine (e fun k => four a b c d k * w k).trans ?_
  unfold quarters
  have h0 : ∀ k : Fin 256, four a b c d ⟨k.val, by omega⟩ = a k := fun k => by
    unfold four; rw [dif_pos k.isLt]
  have h1 : ∀ k : Fin 256, four a b c d ⟨256 + k.val, by omega⟩ = b k := fun k => by
    unfold four; rw [dif_neg (by simp), dif_pos (by simp only; omega)]; exact congrArg b (Fin.ext (by simp))
  have h2 : ∀ k : Fin 256, four a b c d ⟨512 + k.val, by omega⟩ = c k := fun k => by
    unfold four; rw [dif_neg (by simp only; omega), dif_neg (by simp), dif_pos (by simp only; omega)]; exact congrArg c (Fin.ext (by simp))
  have h3 : ∀ k : Fin 256, four a b c d ⟨768 + k.val, by omega⟩ = d k := fun k => by
    unfold four; rw [dif_neg (by simp only; omega), dif_neg (by simp only; omega), dif_neg (by simp)]; exact congrArg d (Fin.ext (by simp))
  simp only [h0, h1, h2, h3]

/-- One where two places lie in one head, zero elsewhere. -/
def sameHead (k c : Fin 256) : EReal := if k.val / 64 = c.val / 64 then 1 else 0

/-- A row against the indicator of a head is the sum over the head. -/
theorem sum_sameHead (q : Fin 256 → EReal) (c : Fin 256) : ∑ k : Fin 256, q k * sameHead k c = headSum q c := by
  unfold sameHead headSum
  simp only [mul_ite, mul_one, mul_zero]
  rw [← Finset.sum_filter]
  refine Finset.sum_nbij' (fun k => ⟨k.val % 64, by omega⟩) (fun j => ⟨64 * (c.val / 64) + j.val, by omega⟩) ?_ ?_ ?_ ?_ ?_
  · intro k _; exact Finset.mem_univ _
  · intro j _
    rw [Finset.mem_filter]
    exact ⟨Finset.mem_univ _, by simp only; omega⟩
  · intro k hk
    rw [Finset.mem_filter] at hk
    have := hk.2
    exact Fin.ext (by simp only; omega)
  · intro j _
    exact Fin.ext (by simp only; omega)
  · intro k hk
    rw [Finset.mem_filter] at hk
    have := hk.2
    exact congrArg q (Fin.ext (by simp only; omega))

theorem sub_self_real {x : EReal} : IsReal x → x - x = 0
  | ⟨r, hr⟩ => by rw [hr, ← EReal.coe_sub, sub_self]; rfl

/-- A finite row taken in three parts against the indicator of a head: the second and the third part are zero. -/
theorem split_sameHead (q : Fin 256 → EReal) (hq : ∀ k, IsReal (q k)) (c : Fin 256) :
    ∑ k : Fin 256, q k * sameHead k c + ∑ k : Fin 256, (q k - q k) * sameHead k c
      + ∑ k : Fin 256, (q k - q k - (q k - q k)) * sameHead k c = headSum q c := by
  have z : ∀ k, q k - q k = 0 := fun k => sub_self_real (hq k)
  simp only [z, sub_zero, zero_mul, Finset.sum_const_zero, add_zero]
  exact sum_sameHead q c

/-- The readout with its squares taken in three parts against a table `e` and the gate's sign by a difference, as the kernel computes it. -/
def splitReadout (o g gate : Fin 256 → EReal) (e : Fin 256 → Fin 256 → EReal) (k : Fin 256) : EReal :=
  o k * Ideal.rsqrt (Ideal.div (∑ j : Fin 256, o j * o j * e j k + ∑ j : Fin 256, (o j * o j - o j * o j) * e j k
      + ∑ j : Fin 256, (o j * o j - o j * o j - (o j * o j - o j * o j)) * e j k) headWidth + eps) * g k
    * (gate k * Ideal.div 1 (1 + Ideal.exp (0 - gate k)))

/-- On finite rows and the table of the heads it is the readout. -/
theorem splitReadout_eq (o g gate : Fin 256 → EReal) (ho : ∀ k, IsReal (o k)) (k : Fin 256) : splitReadout o g gate sameHead k = readout o g gate k := by
  unfold splitReadout readout gateOf
  rw [split_sameHead (fun j => o j * o j) (fun j => (ho j).mul (ho j)) k, zero_sub]

/-- The projection's inputs, an array each: the two halves of the first recurrence's readout, its gates, the second mixer's heads, the third's
    two halves and gates, the fourth's heads by blocks of tokens, the stream, the modulation table, the two gains, and the weight. -/
structure Inputs where
  A : (⟨2, ![17408, 256]⟩ : Shape).Idx → EReal
  B : (⟨2, ![17408, 256]⟩ : Shape).Idx → EReal
  U : (⟨2, ![17408, 1280]⟩ : Shape).Idx → EReal
  H : (⟨2, ![17408, 256]⟩ : Shape).Idx → EReal
  C : (⟨2, ![17408, 256]⟩ : Shape).Idx → EReal
  E : (⟨2, ![17408, 256]⟩ : Shape).Idx → EReal
  Q : (⟨2, ![17408, 896]⟩ : Shape).Idx → EReal
  D : (⟨3, ![68, 256, 256]⟩ : Shape).Idx → EReal
  X : (⟨2, ![17408, 1024]⟩ : Shape).Idx → EReal
  T : (⟨2, ![8, 6144]⟩ : Shape).Idx → EReal
  ga : (⟨2, ![1, 256]⟩ : Shape).Idx → EReal
  gc : (⟨2, ![1, 256]⟩ : Shape).Idx → EReal
  g : (⟨2, ![1, 1024]⟩ : Shape).Idx → EReal
  W : (⟨2, ![1024, 1024]⟩ : Shape).Idx → EReal

namespace Inputs

variable (I : Inputs)

/-- The first mixer's heads at row `n`. -/
def headsA (n : Fin 17408) (k : Fin 256) : EReal :=
  readout (fun k => I.A (ix2 n k) + I.B (ix2 n k)) (fun k => I.ga (ix2 0 k)) (fun k => I.U (ix2 n ⟨1024 + k.val, by omega⟩)) k

/-- The third mixer's heads at row `n`. -/
def headsC (n : Fin 17408) (k : Fin 256) : EReal :=
  readout (fun k => I.C (ix2 n k) + I.E (ix2 n k)) (fun k => I.gc (ix2 0 k)) (fun k => I.Q (ix2 n ⟨512 + k.val, by omega⟩)) k

/-- The fourth mixer's heads at row `n`. -/
def headsD (n : Fin 17408) (k : Fin 256) : EReal := I.D (ix3 ⟨n.val / 256, by omega⟩ k ⟨n.val % 256, by omega⟩)

/-- Row `n` of the stream with the gated projection of the mixers added. -/
def mixed (n : Fin 17408) (d : Fin 1024) : EReal :=
  I.X (ix2 n d) + vec I.T 2 (tableRow n) d
    * quarters (I.headsA n) (fun k => I.H (ix2 n k)) (I.headsC n) (I.headsD n) (fun k => I.W (ix2 k d))

/-- Row `n` modulated for the layer's second half. -/
def second (n : Fin 17408) (d : Fin 1024) : EReal :=
  modul (I.mixed n) (fun k => I.g (ix2 0 k)) (vec I.T 3 (tableRow n)) (vec I.T 4 (tableRow n)) d

end Inputs

end Cert.Rows

end
-- ==== Proof.OutprojBody.lean ====
/- The output projection's body, value by value: the two readouts, the four products' sum, the stream's rows and the rows
   modulated for the layer's second half. -/
module

public import proofs.«01_k».proof.Proof.Gen.Kernel6Ideal.Skeleton
public import proofs.«01_k».proof.Proof.OutprojMath
public import Idealize.ShloMosaic.Lib.Pointwise

@[expose] public section

set_option backward.proofsInPublic true
set_option maxRecDepth 16384

noncomputable section

namespace Cert.Kernel6Ideal.Outproj

open Cert.Kernel6Ideal Cert.Kernel6Ideal.Gen Cert.Kernel6Ideal.Facts Idealize.ShloMosaic Idealize.ShloMosaic.TcCoe Idealize.SL.Sem Cert.Rows

theorem zero_word : (Ideal.ofBits .f32 0x00000000#32 : EReal) = 0 := by simp [Ideal.ofBits, Ideal.ieee]

/-- The first mixer's readout at a place. -/
theorem readA_apply (E : Vec Ideal S256x256 .bf16) (a b : Vec Ideal S256x256 .f32) (g : Vec Ideal S1x256 .f32) (gate : Vec Ideal S256x256 .f32)
    (r k : Fin 256) :
    k0_pay8 E (k0_pay7 a b) g gate (ix2 r k)
      = splitReadout (fun k => a (ix2 r k) + b (ix2 r k)) (fun k => g (ix2 0 k)) (fun k => gate (ix2 r k)) (fun j k => E (ix2 j k)) k := by
  unfold k0_pay8 k0_pay7 splitReadout
  pointwise [headWidth, eps, zero_word, Ideal.ofBits_one_f32]

/-- The sum of the first three products at a place. -/
theorem three_apply (E : Vec Ideal S256x256 .bf16) (v : FVec Ideal S256x256 .f32) (a b : Vec Ideal S256x256 .f32) (g : Vec Ideal S1x256 .f32)
    (gate : Vec Ideal S256x256 .f32) (wa : Vec Ideal S256x1024 .bf16) (ob : Vec Ideal S256x256 .bf16) (wb wc : Vec Ideal S256x1024 .bf16)
    (r : Fin 256) (d : Fin 1024) :
    k0_pay15 E v (k0_pay9 a b) g gate (k0_pay11 a b) (k0_pay12 a b) (k0_pay13 a b) (k0_pay14 a b) wa ob wb wc (ix2 r d)
      = ∑ k : Fin 256, v (ix2 r k) * wa (ix2 k d) + ∑ k : Fin 256, ob (ix2 r k) * wb (ix2 k d)
        + ∑ k : Fin 256, splitReadout (fun k => a (ix2 r k) + b (ix2 r k)) (fun k => g (ix2 0 k)) (fun k => gate (ix2 r k)) (fun j k => E (ix2 j k)) k
            * wc (ix2 k d) := by
  unfold k0_pay15 k0_pay14 k0_pay13 k0_pay12 k0_pay11 k0_pay10 k0_pay9 splitReadout
  pointwise [headWidth, eps, zero_word, Ideal.ofBits_one_f32]

/-- The stream's rows at a place. -/
theorem stream_apply (v : FVec Ideal S256x1024 .f32) (od : Vec Ideal S1x256x256 .bf16) (wd : Vec Ideal S256x1024 .bf16) (P : Vec Ideal S1x6144 .f32)
    (x : Vec Ideal S256x1024 .f32) (r : Fin 256) (d : Fin 1024) :
    k0_pay16 v od wd P x (ix2 r d)
      = x (ix2 r d) + P (ix2 0 ⟨2048 + d.val, by omega⟩) * (v (ix2 r d) + ∑ k : Fin 256, od (ix3 0 k r) * wd (ix2 k d)) := by
  unfold k0_pay16
  pointwise [zero_word]

/-- The rows for the layer's second half at a place. -/
theorem second_apply (v : FVec Ideal S256x1024 .f32) (od : Vec Ideal S1x256x256 .bf16) (wd : Vec Ideal S256x1024 .bf16) (P : Vec Ideal S1x6144 .f32)
    (x : Vec Ideal S256x1024 .f32) (g : Vec Ideal S1x1024 .f32) (r : Fin 256) (d : Fin 1024) :
    k0_pay17 v od wd P x g (ix2 r d)
      = modul (fun k => k0_pay16 v od wd P x (ix2 r k)) (fun k => g (ix2 0 k)) (fun k => P (ix2 0 ⟨3072 + k.val, by omega⟩))
          (fun k => P (ix2 0 ⟨4096 + k.val, by omega⟩)) d := by
  unfold k0_pay17
  generalize k0_pay16 v od wd P x = z
  pointwise [modul, gained, rms, width, eps]

end Cert.Kernel6Ideal.Outproj

end
-- ==== Proof.OutprojBlocks.lean ====
/- The output projection, what one block of 256 tokens leaves: the stream's rows, and the modulated rows as token tiles. -/
module

public import proofs.«01_k».proof.Proof.OutprojRunIdeal
public import proofs.«01_k».proof.Proof.OutprojBody
public import Idealize.ShloMosaic.Lib.Pipeline.ValueKit
public import Idealize.ShloMosaic.Lib.Pipeline.ReadBack

@[expose] public section

set_option backward.proofsInPublic true
set_option maxRecDepth 16384

noncomputable section

namespace Cert.Kernel6Ideal.Outproj

open Cert.Kernel6Ideal Cert.Kernel6Ideal.Gen Cert.Kernel6Ideal.Facts Idealize.ShloMosaic Idealize.ShloMosaic.TcCoe Idealize.SL.Sem Cert.Rows
open Idealize.ShloMosaic.Pipeline (Dat)

section Case

variable (c : Dev nD) (i : grid0.Coords)
  (arg1 : Memref sig .tc .vmem S256x256 .f32) (harg1 : arg1.IsWhole)
  (arg2 : Memref sig .tc .vmem S256x256 .f32) (harg2 : arg2.IsWhole)
  (arg3 : Memref sig .tc .vmem S256x256 .f32) (harg3 : arg3.IsWhole)
  (arg4 : Memref sig .tc .vmem S256x256 .bf16) (harg4 : arg4.IsWhole)
  (arg5 : Memref sig .tc .vmem S256x256 .f32) (harg5 : arg5.IsWhole)
  (arg6 : Memref sig .tc .vmem S256x256 .f32) (harg6 : arg6.IsWhole)
  (arg7 : Memref sig .tc .vmem S256x256 .f32) (harg7 : arg7.IsWhole)
  (arg8 : Memref sig .tc .vmem S1x256x256 .bf16) (harg8 : arg8.IsWhole)
  (arg9 : Memref sig .tc .vmem S256x1024 .f32) (harg9 : arg9.IsWhole)
  (arg10 : Memref sig .tc .vmem S8x6144 .f32) (harg10 : arg10.IsWhole)
  (arg11 : Memref sig .tc .vmem S1x256 .f32) (harg11 : arg11.IsWhole)
  (arg12 : Memref sig .tc .vmem S1x256 .f32) (harg12 : arg12.IsWhole)
  (arg13 : Memref sig .tc .vmem S1x1024 .f32) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S256x1024 .bf16) (harg16 : arg16.IsWhole)
  (arg17 : Memref sig .tc .vmem S256x1024 .bf16) (harg17 : arg17.IsWhole)
  (arg18 : Memref sig .tc .vmem S256x256 .bf16) (harg18 : arg18.IsWhole)
  (arg19 : Memref sig .tc .vmem S256x1024 .f32) (harg19 : arg19.IsWhole)
  (arg20 : Memref sig .tc .vmem S2048x128 .f32) (harg20 : arg20.IsWhole)
  (x0 : Vec Ideal S256x256 .f32)
  (x1 : Vec Ideal S256x256 .f32)
  (x2 : Vec Ideal S256x256 .f32)
  (x3 : Vec Ideal S256x256 .bf16)
  (x4 : Vec Ideal S256x256 .f32)
  (x5 : Vec Ideal S256x256 .f32)
  (x6 : Vec Ideal S256x256 .f32)
  (x7 : Vec Ideal S1x256x256 .bf16)
  (x8 : Vec Ideal S256x1024 .f32)
  (x9 : Vec Ideal S8x6144 .f32)
  (x10 : Vec Ideal S1x256 .f32)
  (x11 : Vec Ideal S1x256 .f32)
  (x12 : Vec Ideal S1x1024 .f32)
  (x13 : Vec Ideal S256x1024 .bf16)
  (x14 : Vec Ideal S256x1024 .bf16)
  (x15 : Vec Ideal S256x1024 .bf16)
  (x16 : Vec Ideal S256x1024 .bf16)
  (x17 : Vec Ideal S256x256 .bf16)

/-- What a point leaves in the stream's output. -/
theorem out18 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
    = k0_pay16 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 := by
  frame_open
  simp (disch := decide) only [↓ View.readCov_skip, ↓ View.readCov_cons_toLoadRect, ↓ View.readCov_fill]
  frame_out

/-- A block's value at a place, zero outside the block. -/
def placed (v : FVec Ideal S256x1024 .f32) (r l : ℕ) : Elt Ideal .f32 :=
  if h : r < 256 ∧ l < 1024 then v (ix2 ⟨r, h.1⟩ ⟨l, h.2⟩) else (0 : EReal)

/-- The columns that one of the eight stores writes. -/
theorem columns (v : FVec Ideal S256x1024 .f32) (k : Fin 8) (h : S256x1024.Slices ![0, 128 * k.val] S256x128) (x : S256x128.Idx) :
    extractStridedSlice S256x128 ![0, 128 * k.val] v h x = placed v (x 0).val (128 * k.val + (x 1).val) := by
  have h0 : (x 0).val < 256 := (x 0).isLt
  have h1 : (x 1).val < 128 := (x 1).isLt
  unfold placed
  rw [dif_pos ⟨h0, by omega⟩]
  refine extractStridedSlice_apply _ _ _ _ _ fun a => ?_
  match a with
  | ⟨0, _⟩ => exact (Nat.zero_add _).symm
  | ⟨1, _⟩ => rfl

/-- What a point leaves in the output of token tiles. -/
theorem out19 (y : S2048x128.Idx) : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 y
    = placed (k0_pay17 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 x12) ((y 0).val / 8) (128 * ((y 0).val % 8) + (y 1).val) := by
  frame_open
  simp (disch := decide) only [↓ View.readCov_skip, ↓ View.readCov_cons_toLoadRect, ↓ View.readCov_fill]
  frame_out
  refine (StoredTiles.canon_eighths (e := .f32) (placed (k0_pay17 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 x12)) _ (by rfl) ?_ y)
  intro p hp
  simp only [List.mem_cons, List.not_mem_nil, or_false] at hp
  rcases hp with rfl | rfl | rfl | rfl | rfl | rfl | rfl | rfl
  · exact ⟨7, _, rfl, fun x => (show _ = _ from columns (k0_pay17 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 x12) 7 slices_S256x1024_o0_896_S256x128 x)⟩
  · exact ⟨6, _, rfl, fun x => (show _ = _ from columns (k0_pay17 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 x12) 6 slices_S256x1024_o0_768_S256x128 x)⟩
  · exact ⟨5, _, rfl, fun x => (show _ = _ from columns (k0_pay17 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 x12) 5 slices_S256x1024_o0_640_S256x128 x)⟩
  · exact ⟨4, _, rfl, fun x => (show _ = _ from columns (k0_pay17 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 x12) 4 slices_S256x1024_o0_512_S256x128 x)⟩
  · exact ⟨3, _, rfl, fun x => (show _ = _ from columns (k0_pay17 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 x12) 3 slices_S256x1024_o0_384_S256x128 x)⟩
  · exact ⟨2, _, rfl, fun x => (show _ = _ from columns (k0_pay17 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 x12) 2 slices_S256x1024_o0_256_S256x128 x)⟩
  · exact ⟨1, _, rfl, fun x => (show _ = _ from columns (k0_pay17 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 x12) 1 slices_S256x1024_o0_128_S256x128 x)⟩
  · exact ⟨0, _, rfl, fun x => (show _ = _ from columns (k0_pay17 (k0_pay15 x17 (k0_pay8 x17 (k0_pay7 x0 x1) x10 x2) (k0_pay9 x4 x5) x11 x6 (k0_pay11 x4 x5) (k0_pay12 x4 x5) (k0_pay13 x4 x5) (k0_pay14 x4 x5) x13 x3 x14 x15) x7 x16 (View.ld x9 (Rect.unit (k0_off1 i) ![1, 6144] (k0_off1_inb i))) x8 x12) 0 slices_S256x1024_o0_0_S256x128 x)⟩

end Case

end Cert.Kernel6Ideal.Outproj

end
-- ==== Proof.OutprojTable.lean ====
/- The host's table of heads as it is printed, a constant of 256 rows of 256 words: one where row and column lie in one
   head of 64, zero elsewhere. Each row is printed as two halves of 128 words, and only three different halves occur. -/
module

public import proofs.«01_k».proof.Kernel6Ideal

@[expose] public section

set_option backward.proofsInPublic true
set_option maxRecDepth 65536

namespace Cert.Kernel6Ideal.Outproj

open Cert.Kernel6Ideal

/-- A half whose first 64 words are ones, a half of zeros, and a half whose last 64 words are ones. -/
theorem ones_zeros (i : ℕ) : lit0t0_0 i = if i % 128 < 64 then 0x3F80#16 else 0#16 := by
  have h : ∀ j : Fin 128, lit0t0_0 j.val = if j.val < 64 then 0x3F80#16 else 0#16 := by decide +kernel
  refine Eq.trans ?_ (h ⟨i % 128, Nat.mod_lt _ (by decide)⟩)
  unfold lit0t0_0
  rw [Nat.mod_mod]

theorem zeros (i : ℕ) : lit0t0_1 i = 0#16 := by
  have h : ∀ j : Fin 128, lit0t0_1 j.val = 0#16 := by decide +kernel
  refine Eq.trans ?_ (h ⟨i % 128, Nat.mod_lt _ (by decide)⟩)
  unfold lit0t0_1
  rw [Nat.mod_mod]

theorem zeros_ones (i : ℕ) : lit0t0_128 i = if i % 128 < 64 then 0#16 else 0x3F80#16 := by
  have h : ∀ j : Fin 128, lit0t0_128 j.val = if j.val < 64 then 0#16 else 0x3F80#16 := by decide +kernel
  refine Eq.trans ?_ (h ⟨i % 128, Nat.mod_lt _ (by decide)⟩)
  unfold lit0t0_128
  rw [Nat.mod_mod]

/-- Rows 0 to 63, the first head. -/
theorem head0 (s : Fin 128) (i : ℕ) (h : i / 128 % 128 = s.val) : lit0t1_0 i = if s.val % 2 = 0 then lit0t0_0 i else lit0t0_1 i := by
  unfold lit0t1_0
  rw [h]
  clear h
  fin_cases s <;> rfl

/-- Rows 64 to 127, the second head. -/
theorem head1 (s : Fin 128) (i : ℕ) (h : i / 128 % 128 = s.val) : lit0t1_1 i = if s.val % 2 = 0 then lit0t0_128 i else lit0t0_1 i := by
  unfold lit0t1_1
  rw [h]
  clear h
  fin_cases s <;> rfl

/-- Rows 128 to 191, the third head. -/
theorem head2 (s : Fin 128) (i : ℕ) (h : i / 128 % 128 = s.val) : lit0t1_2 i = if s.val % 2 = 0 then lit0t0_1 i else lit0t0_0 i := by
  unfold lit0t1_2
  rw [h]
  clear h
  fin_cases s <;> rfl

/-- Rows 192 to 255, the fourth head. -/
theorem head3 (s : Fin 128) (i : ℕ) (h : i / 128 % 128 = s.val) : lit0t1_3 i = if s.val % 2 = 0 then lit0t0_1 i else lit0t0_128 i := by
  unfold lit0t1_3
  rw [h]
  clear h
  fin_cases s <;> rfl

/-- The printed table, entry by entry. -/
theorem table (k e : Fin 256) : lit0t (256 * k.val + e.val) = if k.val / 64 = e.val / 64 then 0x3F80#16 else 0#16 := by
  have hk := k.isLt
  have he := e.isLt
  generalize hi : 256 * k.val + e.val = i
  have hs : i / 128 % 128 = (⟨i / 128 % 128, Nat.mod_lt _ (by decide)⟩ : Fin 128).val := rfl
  have hq : i / 16384 = k.val / 64 := by omega
  have hp : i / 128 % 128 % 2 = e.val / 128 := by omega
  have hm : i % 128 = e.val % 128 := by omega
  have q4 : k.val / 64 < 4 := by omega
  unfold lit0t
  rw [hq]
  generalize k.val / 64 = q at q4
  match q, q4 with
  | 0, _ =>
    refine (head0 _ i hs).trans ?_
    simp only [hp, hm, ones_zeros, zeros]
    split_ifs <;> first | rfl | omega
  | 1, _ =>
    refine (head1 _ i hs).trans ?_
    simp only [hp, hm, zeros_ones, zeros]
    split_ifs <;> first | rfl | omega
  | 2, _ =>
    refine (head2 _ i hs).trans ?_
    simp only [hp, hm, ones_zeros, zeros]
    split_ifs <;> first | rfl | omega
  | 3, _ =>
    refine (head3 _ i hs).trans ?_
    simp only [hp, hm, zeros_ones, zeros]
    split_ifs <;> first | rfl | omega

end Cert.Kernel6Ideal.Outproj
-- ==== Proof.OutprojHost.lean ====
/- What the host operations before the output projection leave in the kernel's windows: the four quarters of the weight,
   and the table that says which places of a row lie in one head. -/
module

public import proofs.«01_k».proof.Proof.Gen.Kernel6Ideal.Frame
public import proofs.«01_k».proof.Proof.OutprojMath
public import proofs.«01_k».proof.Proof.OutprojTable
public import Idealize.ShloMosaic.Lib.StableHlo.ReadAt
public import Idealize.ShloMosaic.Lib.Pointwise

@[expose] public section

set_option backward.proofsInPublic true
set_option maxRecDepth 16384

noncomputable section

namespace Cert.Kernel6Ideal.Outproj

open Cert.Kernel6Ideal Cert.Kernel6Ideal.Gen Cert.Kernel6Ideal.Facts Idealize.ShloMosaic Idealize.ShloMosaic.TcCoe Idealize.SL.Sem Cert.Rows

variable (m : (ℓ : Loc nD τ sig) → Buf (Elt Ideal) ℓ) (c : Dev nD)

abbrev Wm : S1024x1024.Idx → EReal := m ((c : Thread nD τ).loc main_arg13)

theorem quarter0 (k : Fin 256) (d : Fin 1024) :
    (V m c main_v1 : S256x1024.Idx → EReal) (ix2 k d) = Wm m c (ix2 ⟨k.val, by omega⟩ d) := by
  unfold V
  after_reads_at

theorem quarter1 (k : Fin 256) (d : Fin 1024) :
    (V m c main_v3 : S256x1024.Idx → EReal) (ix2 k d) = Wm m c (ix2 ⟨256 + k.val, by omega⟩ d) := by
  unfold V
  after_reads_at

theorem quarter2 (k : Fin 256) (d : Fin 1024) :
    (V m c main_v5 : S256x1024.Idx → EReal) (ix2 k d) = Wm m c (ix2 ⟨512 + k.val, by omega⟩ d) := by
  unfold V
  after_reads_at

theorem quarter3 (k : Fin 256) (d : Fin 1024) :
    (V m c main_v7 : S256x1024.Idx → EReal) (ix2 k d) = Wm m c (ix2 ⟨768 + k.val, by omega⟩ d) := by
  unfold V
  after_reads_at

/-- The table is one where two places lie in one head and zero elsewhere. -/
theorem heads (k e : Fin 256) :
    (V m c main_cst : S256x256.Idx → EReal) (ix2 k e) = sameHead k e := by
  have h : (V m c main_cst : S256x256.Idx → EReal) (ix2 k e) = Ideal.ofBits .bf16 (lit0t (256 * k.val + e.val)) := by
    unfold V
    after_reads_at
    show Ideal.ofBits FTy.bf16 (lit0t (S256x256.rowMajor (ix2 k e)).val) = _
    refine congrArg (fun n => Ideal.ofBits FTy.bf16 (lit0t n)) ?_
    refine (Shape.rowMajor_val_two (d := ![256, 256]) (ix2 k e)).trans ?_
    show k.val * 256 + e.val = 256 * k.val + e.val
    omega
  rw [h, table]
  unfold sameHead
  by_cases q : k.val / 64 = e.val / 64
  · rw [if_pos q, if_pos q]
    exact Ideal.ofBits_one_bf16
  · rw [if_neg q, if_neg q]
    simp [Ideal.ofBits, Ideal.ieee]

end Cert.Kernel6Ideal.Outproj

end
-- ==== Proof.OutprojPoint.lean ====
/- A point of the output projection, from what its blocks hold: where they hold the inputs at given rows, the two values
   it stores are those rows of the two results. -/
module

public import proofs.«01_k».proof.Proof.OutprojBody

@[expose] public section

set_option backward.proofsInPublic true
set_option maxRecDepth 16384

noncomputable section

namespace Cert.Kernel6Ideal.Outproj

open Cert.Kernel6Ideal Cert.Kernel6Ideal.Gen Cert.Kernel6Ideal.Facts Idealize.ShloMosaic Idealize.ShloMosaic.TcCoe Idealize.SL.Sem Cert.Rows Cert.Math

/-- The recurrences' outputs are finite. -/
structure Readable (I : Inputs) : Prop where
  A : ∀ i, IsReal (I.A i)
  B : ∀ i, IsReal (I.B i)
  C : ∀ i, IsReal (I.C i)
  E : ∀ i, IsReal (I.E i)

/-- A point's blocks, the row of the modulation table in the place of the table. -/
structure Blocks where
  x0 : Vec Ideal S256x256 .f32
  x1 : Vec Ideal S256x256 .f32
  x2 : Vec Ideal S256x256 .f32
  x3 : Vec Ideal S256x256 .bf16
  x4 : Vec Ideal S256x256 .f32
  x5 : Vec Ideal S256x256 .f32
  x6 : Vec Ideal S256x256 .f32
  x7 : Vec Ideal S1x256x256 .bf16
  x8 : Vec Ideal S256x1024 .f32
  row : Vec Ideal S1x6144 .f32
  x10 : Vec Ideal S1x256 .f32
  x11 : Vec Ideal S1x256 .f32
  x12 : Vec Ideal S1x1024 .f32
  x13 : Vec Ideal S256x1024 .bf16
  x14 : Vec Ideal S256x1024 .bf16
  x15 : Vec Ideal S256x1024 .bf16
  x16 : Vec Ideal S256x1024 .bf16
  x17 : Vec Ideal S256x256 .bf16

namespace Blocks

variable (X : Blocks)

/-- The sum of the first three products. -/
abbrev three : FVec Ideal S256x1024 .f32 :=
  k0_pay15 X.x17 (k0_pay8 X.x17 (k0_pay7 X.x0 X.x1) X.x10 X.x2) (k0_pay9 X.x4 X.x5) X.x11 X.x6 (k0_pay11 X.x4 X.x5) (k0_pay12 X.x4 X.x5)
    (k0_pay13 X.x4 X.x5) (k0_pay14 X.x4 X.x5) X.x13 X.x3 X.x14 X.x15

/-- The stream's rows. -/
abbrev stream : FVec Ideal S256x1024 .f32 := k0_pay16 X.three X.x7 X.x16 X.row X.x8

/-- The rows for the layer's second half. -/
abbrev second : FVec Ideal S256x1024 .f32 := k0_pay17 X.three X.x7 X.x16 X.row X.x8 X.x12

/-- The blocks hold the inputs at the rows `n`, the weight in quarters and the table of the heads. -/
structure Hold (I : Inputs) (n : Fin 256 → Fin 17408) : Prop where
  A : ∀ r k, X.x0 (ix2 r k) = I.A (ix2 (n r) k)
  B : ∀ r k, X.x1 (ix2 r k) = I.B (ix2 (n r) k)
  U : ∀ r k : Fin 256, X.x2 (ix2 r k) = I.U (ix2 (n r) ⟨1024 + k.val, by omega⟩)
  H : ∀ r k, X.x3 (ix2 r k) = I.H (ix2 (n r) k)
  C : ∀ r k, X.x4 (ix2 r k) = I.C (ix2 (n r) k)
  E : ∀ r k, X.x5 (ix2 r k) = I.E (ix2 (n r) k)
  Q : ∀ r k : Fin 256, X.x6 (ix2 r k) = I.Q (ix2 (n r) ⟨512 + k.val, by omega⟩)
  D : ∀ r k : Fin 256, X.x7 (ix3 0 k r) = I.headsD (n r) k
  stream : ∀ r d, X.x8 (ix2 r d) = I.X (ix2 (n r) d)
  T : ∀ r l, X.row (ix2 0 l) = I.T (ix2 (tableRow (n r)) l)
  ga : ∀ k, X.x10 (ix2 0 k) = I.ga (ix2 0 k)
  gc : ∀ k, X.x11 (ix2 0 k) = I.gc (ix2 0 k)
  g : ∀ k, X.x12 (ix2 0 k) = I.g (ix2 0 k)
  W0 : ∀ (k : Fin 256) d, X.x13 (ix2 k d) = I.W (ix2 ⟨k.val, by omega⟩ d)
  W1 : ∀ (k : Fin 256) d, X.x14 (ix2 k d) = I.W (ix2 ⟨256 + k.val, by omega⟩ d)
  W2 : ∀ (k : Fin 256) d, X.x15 (ix2 k d) = I.W (ix2 ⟨512 + k.val, by omega⟩ d)
  W3 : ∀ (k : Fin 256) d, X.x16 (ix2 k d) = I.W (ix2 ⟨768 + k.val, by omega⟩ d)
  heads : ∀ j k, X.x17 (ix2 j k) = sameHead j k

end Blocks

namespace Blocks.Hold

variable {X : Blocks} {I : Inputs} {n : Fin 256 → Fin 17408} (h : X.Hold I n) (hf : Readable I)

include h hf

/-- The first three heads against their quarters of the weight. -/
theorem threeRows (r : Fin 256) (d : Fin 1024) :
    X.three (ix2 r d)
      = ∑ k : Fin 256, I.headsA (n r) k * I.W (ix2 ⟨k.val, by omega⟩ d)
        + ∑ k : Fin 256, I.H (ix2 (n r) k) * I.W (ix2 ⟨256 + k.val, by omega⟩ d)
        + ∑ k : Fin 256, I.headsC (n r) k * I.W (ix2 ⟨512 + k.val, by omega⟩ d) := by
  have hE : (fun j k : Fin 256 => X.x17 (ix2 j k)) = sameHead := funext fun j => funext fun k => h.heads j k
  refine (three_apply _ _ _ _ _ _ _ _ _ _ r d).trans ?_
  refine congrArg₂ (· + ·) (congrArg₂ (· + ·) (Finset.sum_congr rfl fun k _ => ?_) (Finset.sum_congr rfl fun k _ => ?_))
    (Finset.sum_congr rfl fun k _ => ?_)
  · rw [readA_apply, h.W0]
    refine congrArg (· * _) ?_
    rw [hE]
    simp only [h.A, h.B, h.ga, h.U]
    exact splitReadout_eq _ _ _ (fun k => (hf.A _).add (hf.B _)) k
  · rw [h.H, h.W1]
  · rw [h.W2]
    refine congrArg (· * _) ?_
    rw [hE]
    simp only [h.C, h.E, h.gc, h.Q]
    exact splitReadout_eq _ _ _ (fun k => (hf.C _).add (hf.E _)) k

/-- The stream's rows. -/
theorem streamRows (r : Fin 256) (d : Fin 1024) : X.stream (ix2 r d) = I.mixed (n r) d := by
  have hv : X.row (ix2 0 ⟨2048 + d.val, by omega⟩) = vec I.T 2 (tableRow (n r)) d := h.T r _
  refine (stream_apply _ _ _ _ _ r d).trans ?_
  unfold Inputs.mixed quarters
  exact congrArg₂ (· + ·) (h.stream r d) (congrArg₂ (· * ·) hv (congrArg₂ (· + ·) (h.threeRows hf r d)
    (Finset.sum_congr rfl fun k _ => congrArg₂ (· * ·) (h.D r k) (h.W3 k d))))

/-- The rows for the layer's second half. -/
theorem secondRows (r : Fin 256) (d : Fin 1024) : X.second (ix2 r d) = I.second (n r) d := by
  refine (second_apply _ _ _ _ _ _ r d).trans ?_
  unfold Inputs.second
  have e0 : (fun k : Fin 1024 => X.stream (ix2 r k)) = I.mixed (n r) := funext (h.streamRows hf r)
  have e1 : (fun k : Fin 1024 => X.x12 (ix2 0 k)) = fun k => I.g (ix2 0 k) := funext fun k => h.g k
  have e2 : (fun k : Fin 1024 => X.row (ix2 0 ⟨3072 + k.val, by omega⟩)) = vec I.T 3 (tableRow (n r)) := funext fun k => h.T r _
  have e3 : (fun k : Fin 1024 => X.row (ix2 0 ⟨4096 + k.val, by omega⟩)) = vec I.T 4 (tableRow (n r)) := funext fun k => h.T r _
  rw [e0, e1, e2, e3]

end Blocks.Hold

end Cert.Kernel6Ideal.Outproj

end
-- ==== Proof.OutprojArray.lean ====
/- The output projection's two result arrays: the stream, row by row, and the modulated rows as tiles of tokens. -/
module

public import proofs.«01_k».proof.Proof.OutprojBlocks
public import proofs.«01_k».proof.Proof.OutprojHost
public import proofs.«01_k».proof.Proof.OutprojPoint

@[expose] public section

set_option backward.proofsInPublic true
set_option maxRecDepth 16384

noncomputable section

namespace Cert.Kernel6Ideal.Outproj

open Cert.Kernel6Ideal Cert.Kernel6Ideal.Gen Cert.Kernel6Ideal.Facts Idealize.ShloMosaic Idealize.ShloMosaic.TcCoe Idealize.SL.Sem Cert.Rows Cert.Math
open Idealize.ShloMosaic.Pipeline (Dat)

/-- The blocks each point reads and writes and the row of the modulation table it loads, decided over the grid. -/
theorem idx : ∀ t : Fin cfg0.N, win0_0.index t = ![t.val, 0]
    ∧ win0_1.index t = ![t.val, 0]
    ∧ win0_2.index t = ![t.val, 4]
    ∧ win0_3.index t = ![t.val, 0]
    ∧ win0_4.index t = ![t.val, 0]
    ∧ win0_5.index t = ![t.val, 0]
    ∧ win0_6.index t = ![t.val, 2]
    ∧ win0_7.index t = ![t.val, 0, 0]
    ∧ win0_8.index t = ![t.val, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![t.val, 0]
    ∧ win0_19.index t = ![t.val, 0]
    ∧ k0_off1 (grid0.coords t) = ![if t.val % 17 = 0 then 4 else t.val / 17, 0] :=
  (by decide +kernel : ∀ t : Fin grid0.N, win0_0.index t = ![t.val, 0]
    ∧ win0_1.index t = ![t.val, 0]
    ∧ win0_2.index t = ![t.val, 4]
    ∧ win0_3.index t = ![t.val, 0]
    ∧ win0_4.index t = ![t.val, 0]
    ∧ win0_5.index t = ![t.val, 0]
    ∧ win0_6.index t = ![t.val, 2]
    ∧ win0_7.index t = ![t.val, 0, 0]
    ∧ win0_8.index t = ![t.val, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![t.val, 0]
    ∧ win0_19.index t = ![t.val, 0]
    ∧ k0_off1 (grid0.coords t) = ![if t.val % 17 = 0 then 4 else t.val / 17, 0])

variable (m : (ℓ : Loc nD τ sig) → Buf (Elt Ideal) ℓ) (c : Dev nD)

/-- The arrays the kernel is called with. -/
def inputs : Inputs where
  A := m ((c : Thread nD τ).loc main_arg0)
  B := m ((c : Thread nD τ).loc main_arg1)
  U := m ((c : Thread nD τ).loc main_arg2)
  H := m ((c : Thread nD τ).loc main_arg3)
  C := m ((c : Thread nD τ).loc main_arg4)
  E := m ((c : Thread nD τ).loc main_arg5)
  Q := m ((c : Thread nD τ).loc main_arg6)
  D := m ((c : Thread nD τ).loc main_arg7)
  X := m ((c : Thread nD τ).loc main_arg8)
  T := m ((c : Thread nD τ).loc main_arg9)
  ga := m ((c : Thread nD τ).loc main_arg10)
  gc := m ((c : Thread nD τ).loc main_arg11)
  g := m ((c : Thread nD τ).loc main_arg12)
  W := m ((c : Thread nD τ).loc main_arg13)

theorem tlt (t : Fin cfg0.N) : t.val < 68 := lt_of_lt_of_eq t.isLt (show cfg0.N = 68 from N_0)

/-- Row `r` of point `t`. -/
def tok (t : Fin cfg0.N) (r : Fin 256) : Fin 17408 := ⟨256 * t.val + r.val, by have := tlt t; omega⟩

theorem iblk0_apply (t : Fin cfg0.N) (r k : Fin 256) : iblk m c 0 t (ix2 r k) = (inputs m c).A (ix2 (tok t r) k) := by
  unfold inputs tok
  blk_ext [iblk, V, (idx t).1]

theorem iblk1_apply (t : Fin cfg0.N) (r k : Fin 256) : iblk m c 1 t (ix2 r k) = (inputs m c).B (ix2 (tok t r) k) := by
  unfold inputs tok
  blk_ext [iblk, V, (idx t).2.1]

theorem iblk3_apply (t : Fin cfg0.N) (r k : Fin 256) : iblk m c 3 t (ix2 r k) = (inputs m c).H (ix2 (tok t r) k) := by
  unfold inputs tok
  blk_ext [iblk, V, (idx t).2.2.2.1]

theorem iblk4_apply (t : Fin cfg0.N) (r k : Fin 256) : iblk m c 4 t (ix2 r k) = (inputs m c).C (ix2 (tok t r) k) := by
  unfold inputs tok
  blk_ext [iblk, V, (idx t).2.2.2.2.1]

theorem iblk5_apply (t : Fin cfg0.N) (r k : Fin 256) : iblk m c 5 t (ix2 r k) = (inputs m c).E (ix2 (tok t r) k) := by
  unfold inputs tok
  blk_ext [iblk, V, (idx t).2.2.2.2.2.1]

theorem iblk2_apply (t : Fin cfg0.N) (r k : Fin 256) : iblk m c 2 t (ix2 r k) = (inputs m c).U (ix2 (tok t r) ⟨1024 + k.val, by omega⟩) := by
  unfold inputs tok
  blk_ext [iblk, V, (idx t).2.2.1]

theorem block6_apply (t : Fin cfg0.N) (r k : Fin 256) : X0_6 m c t (ix2 r k) = (inputs m c).Q (ix2 (tok t r) ⟨512 + k.val, by omega⟩) := by
  unfold X0_6 Pipeline.Window.fill
  rw [dif_pos (moved0_6 t _)]
  unfold inputs tok
  blk_ext [iblk, V, (idx t).2.2.2.2.2.2.1]

theorem iblk7_apply (t : Fin cfg0.N) (k r : Fin 256) : iblk m c 7 t (ix3 0 k r) = (inputs m c).D (ix3 ⟨t.val, tlt t⟩ k r) := by
  unfold inputs
  blk_ext [iblk, V, (idx t).2.2.2.2.2.2.2.1]

theorem iblk8_apply (t : Fin cfg0.N) (r : Fin 256) (d : Fin 1024) : iblk m c 8 t (ix2 r d) = (inputs m c).X (ix2 (tok t r) d) := by
  unfold inputs tok
  blk_ext [iblk, V, (idx t).2.2.2.2.2.2.2.2.1]

theorem iblk9_apply (t : Fin cfg0.N) (r : Fin 8) (d : Fin 6144) : iblk m c 9 t (ix2 r d) = (inputs m c).T (ix2 r d) := by
  unfold inputs
  blk_ext [iblk, V, (idx t).2.2.2.2.2.2.2.2.2.1]

theorem iblk10_apply (t : Fin cfg0.N) (d : Fin 256) : iblk m c 10 t (ix2 0 d) = (inputs m c).ga (ix2 0 d) := by
  unfold inputs
  blk_ext [iblk, V, (idx t).2.2.2.2.2.2.2.2.2.2.1]

theorem iblk11_apply (t : Fin cfg0.N) (d : Fin 256) : iblk m c 11 t (ix2 0 d) = (inputs m c).gc (ix2 0 d) := by
  unfold inputs
  blk_ext [iblk, V, (idx t).2.2.2.2.2.2.2.2.2.2.2.1]

theorem iblk12_apply (t : Fin cfg0.N) (d : Fin 1024) : iblk m c 12 t (ix2 0 d) = (inputs m c).g (ix2 0 d) := by
  unfold inputs
  blk_ext [iblk, V, (idx t).2.2.2.2.2.2.2.2.2.2.2.2.1]

theorem iblk13_apply (t : Fin cfg0.N) (k : Fin 256) (d : Fin 1024) : iblk m c 13 t (ix2 k d) = (inputs m c).W (ix2 ⟨k.val, by omega⟩ d) := by
  refine Eq.trans ?_ (quarter0 m c k d)
  blk_ext [iblk, (idx t).2.2.2.2.2.2.2.2.2.2.2.2.2.1]

theorem iblk14_apply (t : Fin cfg0.N) (k : Fin 256) (d : Fin 1024) : iblk m c 14 t (ix2 k d) = (inputs m c).W (ix2 ⟨256 + k.val, by omega⟩ d) := by
  refine Eq.trans ?_ (quarter1 m c k d)
  blk_ext [iblk, (idx t).2.2.2.2.2.2.2.2.2.2.2.2.2.2.1]

theorem iblk15_apply (t : Fin cfg0.N) (k : Fin 256) (d : Fin 1024) : iblk m c 15 t (ix2 k d) = (inputs m c).W (ix2 ⟨512 + k.val, by omega⟩ d) := by
  refine Eq.trans ?_ (quarter2 m c k d)
  blk_ext [iblk, (idx t).2.2.2.2.2.2.2.2.2.2.2.2.2.2.2.1]

theorem iblk16_apply (t : Fin cfg0.N) (k : Fin 256) (d : Fin 1024) : iblk m c 16 t (ix2 k d) = (inputs m c).W (ix2 ⟨768 + k.val, by omega⟩ d) := by
  refine Eq.trans ?_ (quarter3 m c k d)
  blk_ext [iblk, (idx t).2.2.2.2.2.2.2.2.2.2.2.2.2.2.2.2.1]

theorem iblk17_apply (t : Fin cfg0.N) (k e : Fin 256) : iblk m c 17 t (ix2 k e) = sameHead k e := by
  refine Eq.trans ?_ (heads m c k e)
  blk_ext [iblk, (idx t).2.2.2.2.2.2.2.2.2.2.2.2.2.2.2.2.2.1]

/-- The table row that modulates the rows of point `t`. -/
theorem tableRow_eq (t : Fin cfg0.N) (r : Fin 256) : (tableRow (tok t r)).val = if t.val % 17 = 0 then 4 else t.val / 17 := by
  have ht := tlt t
  have hr := r.isLt
  unfold tableRow tok
  by_cases h : t.val % 17 = 0
  · rw [if_pos (show (256 * t.val + r.val) % 4352 < 256 by omega), if_pos h]; rfl
  · rw [if_neg (show ¬(256 * t.val + r.val) % 4352 < 256 by omega), if_neg h]
    show (256 * t.val + r.val) / 4352 = t.val / 17
    omega

/-- The row of the modulation table a point loads. -/
abbrev row (t : Fin cfg0.N) : Vec Ideal S1x6144 .f32 :=
  View.ld (iblk m c 9 t) (Rect.unit (k0_off1 (grid0.coords t)) ![1, 6144] (k0_off1_inb (grid0.coords t)))

theorem row_apply (t : Fin cfg0.N) (r : Fin 256) (l : Fin 6144) : row m c t (ix2 0 l) = (inputs m c).T (ix2 (tableRow (tok t r)) l) := by
  have hl : row m c t (ix2 0 l) = iblk m c 9 t (ix2 (tableRow (tok t r)) l) := by
    refine View.ld_unit_apply_of _ _ _ _ _ _ fun a => ?_
    have e := congrFun (idx t).2.2.2.2.2.2.2.2.2.2.2.2.2.2.2.2.2.2.2.2 a
    match a with
    | ⟨0, _⟩ => exact (tableRow_eq t r).trans (congrArg (· + 0) e).symm
    | ⟨1, _⟩ => exact (Nat.zero_add _).symm.trans (congrArg (· + l.val) e).symm
  exact hl.trans (iblk9_apply m c t _ _)

/-- The fourth mixer's heads at a point's row. -/
theorem headsD_apply (t : Fin cfg0.N) (r k : Fin 256) : iblk m c 7 t (ix3 0 k r) = (inputs m c).headsD (tok t r) k := by
  rw [iblk7_apply]
  unfold Inputs.headsD
  refine congrArg (inputs m c).D (congrArg₂ (fun (x : Fin 68) (y : Fin 256) => ix3 x k y) (Fin.ext ?_) (Fin.ext ?_))
  · show t.val = (256 * t.val + r.val) / 256
    omega
  · show r.val = (256 * t.val + r.val) % 256
    omega

/-- The blocks of point `t`. -/
abbrev blocks (t : Fin cfg0.N) : Blocks where
  x0 := iblk m c 0 t
  x1 := iblk m c 1 t
  x2 := iblk m c 2 t
  x3 := iblk m c 3 t
  x4 := iblk m c 4 t
  x5 := iblk m c 5 t
  x6 := X0_6 m c t
  x7 := iblk m c 7 t
  x8 := iblk m c 8 t
  row := row m c t
  x10 := iblk m c 10 t
  x11 := iblk m c 11 t
  x12 := iblk m c 12 t
  x13 := iblk m c 13 t
  x14 := iblk m c 14 t
  x15 := iblk m c 15 t
  x16 := iblk m c 16 t
  x17 := iblk m c 17 t

set_option maxHeartbeats 4000000 in
/-- They hold the inputs at the rows of point `t`. -/
theorem hold (t : Fin cfg0.N) : (blocks m c t).Hold (inputs m c) (tok t) where
  A := iblk0_apply m c t
  B := iblk1_apply m c t
  U := iblk2_apply m c t
  H := iblk3_apply m c t
  C := iblk4_apply m c t
  E := iblk5_apply m c t
  Q := block6_apply m c t
  D := headsD_apply m c t
  stream := iblk8_apply m c t
  T := row_apply m c t
  ga := iblk10_apply m c t
  gc := iblk11_apply m c t
  g := iblk12_apply m c t
  W0 := iblk13_apply m c t
  W1 := iblk14_apply m c t
  W2 := iblk15_apply m c t
  W3 := iblk16_apply m c t
  heads := iblk17_apply m c t

/-- The recurrences' outputs are finite. -/
abbrev Finite : Prop := Readable (inputs m c)

variable (hf : Finite m c)

set_option maxHeartbeats 4000000 in
include hf in
theorem point18 (t : Fin cfg0.N) (r : Fin 256) (d : Fin 1024) : (outsAt0 m c t).1 (ix2 r d) = (inputs m c).mixed (tok t r) d := by
  unfold outsAt0
  dsimp only
  rw [out18]
  exact (hold m c t).streamRows hf r d

set_option maxHeartbeats 4000000 in
include hf in
theorem point19 (t : Fin cfg0.N) (j : Fin 2048) (l : Fin 128) :
    (outsAt0 m c t).2 (ix2 j l) = (inputs m c).second (tok t ⟨j.val / 8, by omega⟩) ⟨128 * (j.val % 8) + l.val, by omega⟩ := by
  unfold outsAt0
  dsimp only
  rw [out19]
  refine Eq.trans ?_ ((hold m c t).secondRows hf ⟨j.val / 8, by omega⟩ ⟨128 * (j.val % 8) + l.val, by omega⟩)
  unfold placed
  exact dif_pos (show j.val / 8 < 256 ∧ 128 * (j.val % 8) + l.val < 1024 by omega)

include hf in
/-- The stream with the mixers' projection added. -/
theorem final18 :
    (dats m 0 c).arrAt 18 cfg0.N = fun i : S17408x1024.Idx => (inputs m c).mixed (i 0) (i 1) := by
  refine (dats m 0 c).arrAt_eq_of_covers 18 _ (by decide +kernel) fun t hfl y => ?_
  blk_simp
  have e0 : ((win0_18.blk t).view.emb y 0).val = 256 * t.val + (y 0).val := by blk_simp [(idx t).2.2.2.2.2.2.2.2.2.2.2.2.2.2.2.2.2.2.1]; omega
  have e1 : ((win0_18.blk t).view.emb y 1).val = (y 1).val := by blk_simp [(idx t).2.2.2.2.2.2.2.2.2.2.2.2.2.2.2.2.2.2.1]
  have hy : y = (ix2 (n0 := 256) (n1 := 1024) (y 0) (y 1) : S256x1024.Idx) := eq_ix2 y
  rw [after0_18]
  refine (congrArg (outsAt0 m c t).1 hy).trans ((point18 m c hf t (y 0) (y 1)).trans ?_)
  have f0 : tok t (y 0) = (win0_18.blk t).view.emb y 0 := Fin.ext e0.symm
  have f1 : (y 1 : Fin 1024) = (win0_18.blk t).view.emb y 1 := Fin.ext e1.symm
  rw [f0, f1]

include hf in
/-- The modulated rows as tiles of tokens. -/
theorem final19 :
    (dats m 0 c).arrAt 19 cfg0.N = fun i : S139264x128.Idx =>
      (inputs m c).second ⟨(i 0).val / 8, by have : (i 0).val < 139264 := (i 0).isLt; omega⟩
        ⟨128 * ((i 0).val % 8) + (i 1).val, by have : (i 1).val < 128 := (i 1).isLt; omega⟩ := by
  refine (dats m 0 c).arrAt_eq_of_covers 19 _ (by decide +kernel) fun t hfl y => ?_
  blk_simp
  have z0 : win0_19.index t 0 = t.val := congrFun (idx t).2.2.2.2.2.2.2.2.2.2.2.2.2.2.2.2.2.2.2.1 0
  have z1 : win0_19.index t 1 = 0 := congrFun (idx t).2.2.2.2.2.2.2.2.2.2.2.2.2.2.2.2.2.2.2.1 1
  have hy : y = (ix2 (n0 := 2048) (n1 := 128) (y 0) (y 1) : S2048x128.Idx) := eq_ix2 y
  rw [after0_19]
  refine (congrArg (outsAt0 m c t).2 hy).trans ((point19 m c hf t (y 0) (y 1)).trans ?_)
  refine congrArg₂ (inputs m c).second (Fin.ext ?_) (Fin.ext ?_)
  · show 256 * t.val + (y 0).val / 8 = (win0_19.index t 0 * 2048 + (y 0).val) / 8
    rw [z0]; omega
  · show 128 * ((y 0).val % 8) + (y 1).val = 128 * ((win0_19.index t 0 * 2048 + (y 0).val) % 8) + (win0_19.index t 1 * 128 + (y 1).val)
    rw [z0, z1]; omega

end Cert.Kernel6Ideal.Outproj

end
-- ==== Proof.OutprojRef.lean ====
/- The output projection as the reference computes it, row by row. -/
module

public import proofs.«01_k».proof.Proof.OutprojMath
public import proofs.«01_k».proof.Proof.Gen.Reference6Ideal.Read
public import Idealize.ShloMosaic.Lib.Pointwise

@[expose] public section

set_option backward.proofsInPublic true
set_option maxRecDepth 16384

noncomputable section

namespace Cert.Reference6Ideal.Outproj

open Cert.Reference6Ideal Cert.Reference6Ideal.Gen Cert.Reference6Ideal.Read Idealize.ShloMosaic Idealize.ShloMosaic.TcCoe Idealize.SL.Sem Cert.Rows

/-- Two blocks joined along the rows, at a place. -/
theorem joint (A : S4x256x1024.Idx → EReal) (B : S4x4096x1024.Idx → EReal) (b : Fin 4) (n : Fin 4352) (k : Fin 1024) :
    (concatenate (α := EReal) S4x4352x1024 1 [⟨S4x256x1024, A⟩, ⟨S4x4096x1024, B⟩] concatenates_S4x256x1024_S4x4096x1024_S4x4352x1024_d1 (ix3 b n k) : EReal)
      = if h : n.val < 256 then A (ix3 b ⟨n.val, h⟩ k) else B (ix3 b ⟨n.val - 256, by omega⟩ k) := by
  pointwise

/-- Where the context rows are one row of the table and the latent rows another, the joined rows are the table's row of each. -/
theorem table (T : S8x6144.Idx → EReal) (j : Fin 6) (A : S4x256x1024.Idx → EReal) (B : S4x4096x1024.Idx → EReal)
    (hA : ∀ b n d, A (ix3 b n d) = vec T j (4 : Fin 8) d) (hB : ∀ (b : Fin 4) n d, B (ix3 b n d) = vec T j ⟨b.val, by omega⟩ d)
    (n : Fin 17408) (d : Fin 1024) :
    (concatenate (α := EReal) S4x4352x1024 1 [⟨S4x256x1024, A⟩, ⟨S4x4096x1024, B⟩] concatenates_S4x256x1024_S4x4096x1024_S4x4352x1024_d1
      (ix3 ⟨n.val / 4352, by omega⟩ ⟨n.val % 4352, by omega⟩ d) : EReal) = vec T j (tableRow n) d := by
  rw [joint]
  unfold tableRow
  by_cases h : n.val % 4352 < 256
  · rw [dif_pos h, if_pos h, hA]
  · rw [dif_neg h, if_neg h, hB]

theorem fold (n : Fin 17408) (d : Fin 1024) :
    idx_main_v11 (ix2 n d) = (ix3 (n0 := 4) (n1 := 4352) (n2 := 1024) ⟨n.val / 4352, by omega⟩ ⟨n.val % 4352, by omega⟩ d : S4x4352x1024.Idx) :=
  funext fun a => Fin.ext (by match a with
    | ⟨0, _⟩ => show (n.val * 1024 + d.val) / 4456448 = n.val / 4352; omega
    | ⟨1, _⟩ => show (n.val * 1024 + d.val) / 1024 % 4352 = n.val % 4352; omega
    | ⟨2, _⟩ => show (n.val * 1024 + d.val) % 1024 = d.val; omega)

/-- The gate of each row. -/
theorem gate (T : S8x6144.Idx → EReal) (n : Fin 17408) (d : Fin 1024) : (val_main_v11 (F := Ideal) T (ix2 n d) : EReal) = vec T 2 (tableRow n) d := by
  rw [val_main_v11_apply, fold]
  refine table T 2 _ _ (fun b n d => ?_) (fun b n d => ?_) n d
  · rw [val_main_v6_apply, val_main_v5_apply, val_main_v4_apply]
    exact congrArg T (funext fun a => Fin.ext (by match a with | ⟨0, _⟩ => rfl | ⟨1, _⟩ => show 2048 + d.val % 1024 = 1024 * 2 + d.val; omega))
  · rw [val_main_v9_apply, val_main_v8_apply, val_main_v7_apply]
    exact congrArg T (funext fun a => Fin.ext (by match a with | ⟨0, _⟩ => rfl | ⟨1, _⟩ => show 2048 + d.val = 1024 * 2 + d.val; omega))

/-- The shift of each row. -/
theorem shift (T : S8x6144.Idx → EReal) (n : Fin 17408) (d : Fin 1024) : (val_main_v19 (F := Ideal) T (ix2 n d) : EReal) = vec T 3 (tableRow n) d := by
  rw [val_main_v19_apply, show idx_main_v19 (ix2 n d) = _ from fold n d]
  refine table T 3 _ _ (fun b n d => ?_) (fun b n d => ?_) n d
  · rw [val_main_v14_apply, val_main_v13_apply, val_main_v12_apply]
    exact congrArg T (funext fun a => Fin.ext (by match a with | ⟨0, _⟩ => rfl | ⟨1, _⟩ => show 3072 + d.val % 1024 = 1024 * 3 + d.val; omega))
  · rw [val_main_v17_apply, val_main_v16_apply, val_main_v15_apply]
    exact congrArg T (funext fun a => Fin.ext (by match a with | ⟨0, _⟩ => rfl | ⟨1, _⟩ => show 3072 + d.val = 1024 * 3 + d.val; omega))

/-- The scale of each row. -/
theorem scale (T : S8x6144.Idx → EReal) (n : Fin 17408) (d : Fin 1024) : (val_main_v27 (F := Ideal) T (ix2 n d) : EReal) = vec T 4 (tableRow n) d := by
  rw [val_main_v27_apply, show idx_main_v27 (ix2 n d) = _ from fold n d]
  refine table T 4 _ _ (fun b n d => ?_) (fun b n d => ?_) n d
  · rw [val_main_v22_apply, val_main_v21_apply, val_main_v20_apply]
    exact congrArg T (funext fun a => Fin.ext (by match a with | ⟨0, _⟩ => rfl | ⟨1, _⟩ => show 4096 + d.val % 1024 = 1024 * 4 + d.val; omega))
  · rw [val_main_v25_apply, val_main_v24_apply, val_main_v23_apply]
    exact congrArg T (funext fun a => Fin.ext (by match a with | ⟨0, _⟩ => rfl | ⟨1, _⟩ => show 4096 + d.val = 1024 * 4 + d.val; omega))

theorem zero_word : (Ideal.ofBits .f32 0x00000000#32 : EReal) = 0 := by simp [Ideal.ofBits, Ideal.ieee]

section Readout

variable (A B : S17408x256.Idx → EReal) (g : S1x256.Idx → EReal)

theorem place (n : Fin 17408) (h : Fin 4) (j : Fin 64) :
    idx_main_v31 (ix3 n h j) = (ix2 (n0 := 17408) (n1 := 256) n ⟨64 * h.val + j.val, by omega⟩ : S17408x256.Idx) :=
  funext fun a => Fin.ext (by match a with
    | ⟨0, _⟩ => show ((n.val * 4 + h.val) * 64 + j.val) / 256 = n.val; omega
    | ⟨1, _⟩ => show ((n.val * 4 + h.val) * 64 + j.val) % 256 = 64 * h.val + j.val; omega)

/-- A place of a head of the added halves. -/
theorem added (n : Fin 17408) (h : Fin 4) (j : Fin 64) : (val_main_v31 (F := Ideal) A B (ix3 n h j) : EReal)
    = A (ix2 n ⟨64 * h.val + j.val, by omega⟩) + B (ix2 n ⟨64 * h.val + j.val, by omega⟩) := by
  rw [val_main_v31_apply, place, val_main_v0_apply]
  rfl

/-- The root of the mean of a head's squares plus the small term. -/
theorem root (n : Fin 17408) (h : Fin 4) : (val_main_v39 (F := Ideal) A B (ix3 n h (0 : Fin 1)) : EReal)
    = Ideal.rsqrt (Ideal.div (∑ j : Fin 64, (A (ix2 n ⟨64 * h.val + j.val, by omega⟩) + B (ix2 n ⟨64 * h.val + j.val, by omega⟩))
        * (A (ix2 n ⟨64 * h.val + j.val, by omega⟩) + B (ix2 n ⟨64 * h.val + j.val, by omega⟩))) headWidth + eps) := by
  rw [val_main_v39_apply, val_main_v38_apply, val_main_v36_apply, val_main_v34_apply, val_main_v33_apply, val_main_v35_apply, val_main_v37_apply]
  have s : ((val_main_cst (F := Ideal)) (Shape.Idx.first h_S_) + ∑ j : Fin 64, (val_main_v32 (F := Ideal) A B) (idx_main_v33 (idx_main_v34 (ix3 n h (0 : Fin 1))) j) : EReal)
      = ∑ j : Fin 64, (A (ix2 n ⟨64 * h.val + j.val, by omega⟩) + B (ix2 n ⟨64 * h.val + j.val, by omega⟩))
        * (A (ix2 n ⟨64 * h.val + j.val, by omega⟩) + B (ix2 n ⟨64 * h.val + j.val, by omega⟩)) := by
    rw [show (val_main_cst (F := Ideal) (Shape.Idx.first h_S_) : EReal) = 0 from zero_word, zero_add]
    refine Finset.sum_congr rfl fun j _ => ?_
    have e : idx_main_v33 (idx_main_v34 (ix3 n h (0 : Fin 1))) j = (ix3 (n0 := 17408) (n1 := 4) (n2 := 64) n h j : S17408x4x64.Idx) :=
      funext fun a => Fin.ext (by match a with | ⟨0, _⟩ => rfl | ⟨1, _⟩ => rfl | ⟨2, _⟩ => rfl)
    rw [e, val_main_v32_apply, added]
    rfl
  exact congrArg (fun z : EReal => Ideal.rsqrt (Ideal.div z headWidth + eps)) s

/-- A head's place over the root, times the gain. -/
theorem normed (n : Fin 17408) (k : Fin 256) : (val_main_v46 (F := Ideal) A B g (ix2 n k) : EReal)
    = (A (ix2 n k) + B (ix2 n k)) * Ideal.rsqrt (Ideal.div (headSum (fun j => (A (ix2 n j) + B (ix2 n j)) * (A (ix2 n j) + B (ix2 n j))) k) headWidth + eps)
      * g (ix2 0 k) := by
  have e : idx_main_v46 (ix2 n k) = (ix3 (n0 := 17408) (n1 := 4) (n2 := 64) n ⟨k.val / 64, by omega⟩ ⟨k.val % 64, by omega⟩ : S17408x4x64.Idx) :=
    funext fun a => Fin.ext (by match a with
      | ⟨0, _⟩ => show (n.val * 256 + k.val) / 256 = n.val; omega
      | ⟨1, _⟩ => show (n.val * 256 + k.val) / 64 % 4 = k.val / 64; omega
      | ⟨2, _⟩ => show (n.val * 256 + k.val) % 64 = k.val % 64; omega)
  have r : idx_main_v40 (ix3 n ⟨k.val / 64, by omega⟩ ⟨k.val % 64, by omega⟩)
      = (ix3 (n0 := 17408) (n1 := 4) (n2 := 1) n ⟨k.val / 64, by omega⟩ 0 : S17408x4x1.Idx) :=
    funext fun a => Fin.ext (by match a with | ⟨0, _⟩ => rfl | ⟨1, _⟩ => rfl | ⟨2, _⟩ => rfl)
  have hk : (⟨64 * (k.val / 64) + k.val % 64, by omega⟩ : Fin 256) = k := Fin.ext (by simp only; omega)
  have hg : (val_main_v44 (F := Ideal) g (ix3 n ⟨k.val / 64, by omega⟩ ⟨k.val % 64, by omega⟩) : EReal) = g (ix2 0 k) := by
    rw [val_main_v44_apply, val_main_v43_apply, val_main_v42_apply]
    exact congrArg g (funext fun a => Fin.ext (by match a with
      | ⟨0, _⟩ => rfl
      | ⟨1, _⟩ => show (k.val / 64 * 64 + k.val % 64) % 256 = k.val; omega))
  rw [val_main_v46_apply, e, val_main_v45_apply, val_main_v41_apply, val_main_v40_apply, r, added, root, hg, hk]
  rfl

end Readout

/-- The first mixer's gates. -/
theorem gatesA (U : S17408x1280.Idx → EReal) (n : Fin 17408) (k : Fin 256) :
    (val_main_v53 (F := Ideal) U (ix2 n k) : EReal) = gateOf (U (ix2 n ⟨1024 + k.val, by omega⟩)) := by
  rw [val_main_v53_apply, val_main_v52_apply, val_main_v51_apply, val_main_v50_apply, val_main_v49_apply, val_main_v48_apply, val_main_v47_apply, val_main_v1_apply]
  have e : idx_main_v1 (ix2 n k) = (ix2 (n0 := 17408) (n1 := 1280) n ⟨1024 + k.val, by omega⟩ : S17408x1280.Idx) :=
    funext fun a => Fin.ext (by match a with | ⟨0, _⟩ => rfl | ⟨1, _⟩ => rfl)
  rw [e]
  show _ * Ideal.div (Ideal.ofBits .f32 0x3F800000#32) (Ideal.ofBits .f32 0x3F800000#32 + Ideal.exp (-_)) = _
  rw [Ideal.ofBits_one_f32]
  rfl

/-- The third mixer's gates. -/
theorem gatesC (Q : S17408x896.Idx → EReal) (n : Fin 17408) (k : Fin 256) :
    (val_main_v78 (F := Ideal) Q (ix2 n k) : EReal) = gateOf (Q (ix2 n ⟨512 + k.val, by omega⟩)) := by
  rw [val_main_v78_apply, val_main_v77_apply, val_main_v76_apply, val_main_v75_apply, val_main_v74_apply, val_main_v73_apply, val_main_v72_apply, val_main_v3_apply]
  have e : idx_main_v3 (ix2 n k) = (ix2 (n0 := 17408) (n1 := 896) n ⟨512 + k.val, by omega⟩ : S17408x896.Idx) :=
    funext fun a => Fin.ext (by match a with | ⟨0, _⟩ => rfl | ⟨1, _⟩ => rfl)
  rw [e]
  show _ * Ideal.div (Ideal.ofBits .f32 0x3F800000#32) (Ideal.ofBits .f32 0x3F800000#32 + Ideal.exp (-_)) = _
  rw [Ideal.ofBits_one_f32]
  rfl

/-- Four blocks joined along the columns, at a place. -/
theorem joint4 (a b c d : S17408x256.Idx → EReal) (n : Fin 17408) (k : Fin 1024) :
    (concatenate (α := EReal) S17408x1024 1 [⟨S17408x256, a⟩, ⟨S17408x256, b⟩, ⟨S17408x256, c⟩, ⟨S17408x256, d⟩]
      concatenates_S17408x256_S17408x256_S17408x256_S17408x256_S17408x1024_d1 (ix2 n k) : EReal)
      = four (fun k => a (ix2 n k)) (fun k => b (ix2 n k)) (fun k => c (ix2 n k)) (fun k => d (ix2 n k)) k := by
  unfold four
  pointwise
  have e2 : ∀ h, (⟨k.val - 256 - 256, h⟩ : Fin 256) = ⟨k.val - 512, by omega⟩ := fun h => Fin.ext (by simp only; omega)
  have e3 : ∀ h, (⟨k.val - 256 - 256 - 256, h⟩ : Fin 256) = ⟨k.val - 768, by omega⟩ := fun h => Fin.ext (by simp only; omega)
  by_cases h0 : k.val < 256
  · rw [dif_pos h0, dif_pos h0]
  rw [dif_neg h0, dif_neg h0]
  by_cases h1 : k.val < 512
  · rw [dif_pos (by omega), dif_pos h1]
  rw [dif_neg (by omega), dif_neg h1]
  by_cases h2 : k.val < 768
  · rw [dif_pos (by omega), dif_pos h2, e2]
  · rw [dif_neg (by omega), dif_neg h2, e3]

section Rows

variable (I : Inputs)

theorem heads (n : Fin 17408) (k : Fin 1024) :
    (val_main_v80 (F := Ideal) I.A I.B I.U I.H I.C I.E I.Q I.D I.ga I.gc (ix2 n k) : EReal)
      = four (I.headsA n) (fun k => I.H (ix2 n k)) (I.headsC n) (I.headsD n) k := by
  unfold val_main_v80
  rw [joint4]
  have a : (fun k => (val_main_v54 (F := Ideal) I.A I.B I.U I.ga (ix2 n k) : EReal)) = I.headsA n := funext fun k => by
    rw [val_main_v54_apply, normed, gatesA]
    rfl
  have c : (fun k => (val_main_v79 (F := Ideal) I.C I.E I.Q I.gc (ix2 n k) : EReal)) = I.headsC n := funext fun k => by
    rw [val_main_v79_apply, show val_main_v71 (F := Ideal) I.C I.E I.gc = val_main_v46 (F := Ideal) I.C I.E I.gc from rfl, normed, gatesC]
    rfl
  have d : (fun k => (val_main_v30 (F := Ideal) I.D (ix2 n k) : EReal)) = I.headsD n := funext fun k => by
    rw [val_main_v30_apply, val_main_v29_apply]
    exact congrArg I.D (funext fun a => Fin.ext (by match a with
      | ⟨0, _⟩ => show (n.val * 256 + k.val) / 65536 = n.val / 256; omega
      | ⟨1, _⟩ => show (n.val * 256 + k.val) % 256 = k.val; omega
      | ⟨2, _⟩ => show (n.val * 256 + k.val) / 256 % 256 = n.val % 256; omega))
  rw [a, c, d]
  rfl

/-- The stream's rows. -/
theorem stream (n : Fin 17408) (d : Fin 1024) :
    (val_main_v83 (F := Ideal) I.A I.B I.U I.H I.C I.E I.Q I.D I.X I.T I.ga I.gc I.W (ix2 n d) : EReal) = I.mixed n d := by
  rw [val_main_v83_apply, val_main_v82_apply, gate, val_main_v81_apply]
  unfold Inputs.mixed
  rw [← sum_four]
  refine congrArg (fun z : EReal => I.X (ix2 n d) + vec I.T 2 (tableRow n) d * z) (Finset.sum_congr rfl fun k _ => ?_)
  have el : lidx_main_v81 (ix2 n d) k = (ix2 (n0 := 17408) (n1 := 1024) n k : S17408x1024.Idx) :=
    funext fun a => Fin.ext (by match a with | ⟨0, _⟩ => rfl | ⟨1, _⟩ => rfl)
  have er : ridx_main_v81 (ix2 n d) k = (ix2 (n0 := 1024) (n1 := 1024) k d : S1024x1024.Idx) :=
    funext fun a => Fin.ext (by match a with | ⟨0, _⟩ => rfl | ⟨1, _⟩ => rfl)
  rw [el, er, heads]

/-- The root of the mean of a row's squares plus the small term. -/
theorem rootRow (n : Fin 17408) :
    (val_main_v91 (F := Ideal) I.A I.B I.U I.H I.C I.E I.Q I.D I.X I.T I.ga I.gc I.W (ix2 n (0 : Fin 1)) : EReal)
      = Ideal.rsqrt (Ideal.div (∑ k : Fin 1024, I.mixed n k * I.mixed n k) width + eps) := by
  rw [val_main_v91_apply, val_main_v90_apply, val_main_v88_apply, val_main_v86_apply, val_main_v85_apply, val_main_v87_apply, val_main_v89_apply]
  have s : ((val_main_cst_9 (F := Ideal)) (Shape.Idx.first h_S_) + ∑ k : Fin 1024,
      (val_main_v84 (F := Ideal) I.A I.B I.U I.H I.C I.E I.Q I.D I.X I.T I.ga I.gc I.W) (idx_main_v85 (idx_main_v86 (ix2 n (0 : Fin 1))) k) : EReal)
      = ∑ k : Fin 1024, I.mixed n k * I.mixed n k := by
    rw [show (val_main_cst_9 (F := Ideal) (Shape.Idx.first h_S_) : EReal) = 0 from zero_word, zero_add]
    refine Finset.sum_congr rfl fun k _ => ?_
    have e : idx_main_v85 (idx_main_v86 (ix2 n (0 : Fin 1))) k = (ix2 (n0 := 17408) (n1 := 1024) n k : S17408x1024.Idx) :=
      funext fun a => Fin.ext (by match a with | ⟨0, _⟩ => rfl | ⟨1, _⟩ => rfl)
    rw [e, val_main_v84_apply, stream]
    rfl
  exact congrArg (fun z : EReal => Ideal.rsqrt (Ideal.div z width + eps)) s

/-- The rows for the layer's second half. -/
theorem rows (n : Fin 17408) (d : Fin 1024) :
    (val_main_v99 (F := Ideal) I.A I.B I.U I.H I.C I.E I.Q I.D I.X I.T I.ga I.gc I.g I.W (ix2 n d) : EReal) = I.second n d := by
  rw [val_main_v99_apply, val_main_v98_apply, val_main_v95_apply, val_main_v93_apply, val_main_v92_apply, val_main_v97_apply, val_main_v96_apply, stream, shift, scale]
  have e : idx_main_v92 (ix2 n d) = (ix2 (n0 := 17408) (n1 := 1) n 0 : S17408x1.Idx) :=
    funext fun a => Fin.ext (by match a with | ⟨0, _⟩ => rfl | ⟨1, _⟩ => rfl)
  have hg : (val_main_v94 (F := Ideal) I.g (ix2 n d) : EReal) = I.g (ix2 0 d) := by
    rw [val_main_v94_apply]
    exact congrArg I.g (funext fun a => Fin.ext (by match a with | ⟨0, _⟩ => rfl | ⟨1, _⟩ => rfl))
  rw [e, rootRow, hg]
  show _ * (Ideal.ofBits .f32 0x3F800000#32 + _) + _ = _
  rw [Ideal.ofBits_one_f32]
  rfl

/-- The second result: the rows stored as eight rows of 128 per token. -/
theorem stored (j : Fin 139264) (l : Fin 128) :
    (val_main_v100 (F := Ideal) I.A I.B I.U I.H I.C I.E I.Q I.D I.X I.T I.ga I.gc I.g I.W (ix2 j l) : EReal)
      = I.second ⟨j.val / 8, by omega⟩ ⟨128 * (j.val % 8) + l.val, by omega⟩ := by
  rw [val_main_v100_apply]
  have e : idx_main_v100 (ix2 j l) = (ix2 (n0 := 17408) (n1 := 1024) ⟨j.val / 8, by omega⟩ ⟨128 * (j.val % 8) + l.val, by omega⟩ : S17408x1024.Idx) :=
    funext fun a => Fin.ext (by match a with
      | ⟨0, _⟩ => show (j.val * 128 + l.val) / 1024 = j.val / 8; omega
      | ⟨1, _⟩ => show (j.val * 128 + l.val) % 1024 = 128 * (j.val % 8) + l.val; omega)
  rw [e, rows]

end Rows

end Cert.Reference6Ideal.Outproj

end
-- ==== Proof.OutprojPre.lean ====
/- What the output projection's precondition says, read off its predicate: the recurrences' outputs are finite. -/
module

public import proofs.«01_k».proof.Pre_mixer_outputs
public import proofs.«01_k».proof.Proof.AttnMath

@[expose] public section

set_option backward.proofsInPublic true
set_option maxRecDepth 16384

noncomputable section

namespace Cert.Pre_mixer_outputs

open Idealize.ShloMosaic Cert.Math

/-- The predicate's side condition. -/
theorem facts : Facts where
  bcast_S_S17408x256 := by decide

theorem inf_word : Ideal.ofBits FTy.f32 2139095040#32 = ⊤ := by simp [Ideal.ofBits, Ideal.ieee]

theorem true_of_word : ∀ {p : Bool}, BitVec.ofBool p = 1#1 → p = true := by decide

variable [Facts]
open Facts

/-- An array whose magnitudes all compare below infinity is finite. -/
theorem finite (a : FVec Ideal S17408x256 .f32)
    (h : cmpf .olt (Host.absf a) (broadcastInDim S17408x256 ![] bcast_S_S17408x256 (constant S_ .f32 0x7F800000#32)) = fun _ => 1#1)
    (i : S17408x256.Idx) : IsReal (a i) := by
  have e := congrFun h i
  pointwise at e
  rw [inf_word] at e
  exact IsReal.of_abs_lt (of_decide_eq_true (true_of_word e))

end Cert.Pre_mixer_outputs

end
-- ==== Proof.OutprojClaim.lean ====
/- The output projection's value claim: under the precondition the kernel and the reference end with equal results. -/
module

public import proofs.«01_k».proof.Defs
public import proofs.«01_k».proof.Proof.OutprojArray
public import proofs.«01_k».proof.Proof.OutprojRef
public import proofs.«01_k».proof.Proof.OutprojPre
public import proofs.«01_k».proof.Proof.Gen.Reference6Ideal.Run

@[expose] public section

set_option backward.proofsInPublic true

noncomputable section

namespace Cert.Kernel6Ideal.Outproj

open Cert.Kernel6Ideal Cert.Kernel6Ideal.Gen Idealize.ShloMosaic Idealize.ShloMosaic.TcCoe Idealize.SL.Sem
open Idealize.ShloMosaic.Pipeline (Dat)

set_option maxHeartbeats 2000000 in
/-- The run with both result arrays named and the arguments as launched. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8_0) = (dats m 0 c).arrAt 18 cfg0.N
      ∧ r.2.mem ((c : Thread nD τ).loc main_v8_1) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1 18, (h c).1 19,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).2 main_arg13 (Pipeline.mem_restRefs_of main_arg13 (by decide) (by decide))).trans (V_main_arg13 m c)⟩)
    (run_main m ρ)

end Cert.Kernel6Ideal.Outproj

namespace Cert.Outproj

open Idealize.ShloMosaic Idealize.SL.Sem Cert.Rows

/-- The reference runs, its arguments kept, every counter at zero: it declares none. -/
theorem frame_r : quiescent_Reference6Ideal :=
  fun m g _ => (θ_run (Reference6Ideal.defs (F := Ideal)) _ _).mono (fun r h => ⟨fun c => (h c).2.2,
      sem_eq_zero_of_no_sems (by decide) r.2⟩)
    (Reference6Ideal.Value.run (F := Ideal) m g)

/-- So it does under the precondition. -/
theorem frame_rp [Cert.Pre_mixer_outputs.Facts] : quiescent_Reference6Ideal_pre_mixer_outputs :=
  fun m g _ => frame_r m g trivial

/-- The precondition makes the recurrences' outputs finite. -/
theorem finite [Cert.Pre_mixer_outputs.Facts] (m : (ℓ : Loc Kernel6Ideal.nD Kernel6Ideal.τ Kernel6Ideal.sig) → Buf (Elt Ideal) ℓ)
    (hp : Pre_Kernel6Ideal_mixer_outputs m) (c : Dev Kernel6Ideal.nD) : Kernel6Ideal.Outproj.Finite m c where
  A := Pre_mixer_outputs.finite _ (hp c).1
  B := Pre_mixer_outputs.finite _ (hp c).2.1
  C := Pre_mixer_outputs.finite _ (hp c).2.2.1
  E := Pre_mixer_outputs.finite _ (hp c).2.2.2

/-- The claim: equal results from equal arguments that satisfy the precondition. -/
theorem algebraic [Cert.Pre_mixer_outputs.Facts] : algebraic_Kernel6Ideal_Reference6Ideal_pre_mixer_outputs := by
  intro m g m' g' hp hag
  refine ⟨fun c => (Kernel6Ideal.Gen.dats m 0 c).arrAt 18 Kernel6Ideal.cfg0.N, fun c => (Kernel6Ideal.Gen.dats m 0 c).arrAt 19 Kernel6Ideal.cfg0.N,
    Kernel6Ideal.Outproj.run_arrays m g, ?_⟩
  refine (θ_run _ _ _).mono (fun r h c => ⟨(h c).1.trans ?_, (h c).2.1.trans ?_, (h c).2.2⟩) (Reference6Ideal.Value.run (F := Ideal) m' g')
  · obtain ⟨h0, h1, h2, h3, h4, h5, h6, h7, h8, h9, h10, h11, h12, h13⟩ := hag c
    rw [Reference6Ideal.Read.val_main_v83_eq, h0, h1, h2, h3, h4, h5, h6, h7, h8, h9, h10, h11, h13]
    refine Eq.trans (funext fun i => ?_) (Kernel6Ideal.Outproj.final18 m c (finite m hp c)).symm
    have e : i = (ix2 (n0 := 17408) (n1 := 1024) (i 0) (i 1) : Reference6Ideal.S17408x1024.Idx) := eq_ix2 i
    exact (congrArg _ e).trans (Reference6Ideal.Outproj.stream (Kernel6Ideal.Outproj.inputs m c) (i 0) (i 1))
  · obtain ⟨h0, h1, h2, h3, h4, h5, h6, h7, h8, h9, h10, h11, h12, h13⟩ := hag c
    rw [Reference6Ideal.Read.val_main_v100_eq, h0, h1, h2, h3, h4, h5, h6, h7, h8, h9, h10, h11, h12, h13]
    refine Eq.trans (funext fun i => ?_) (Kernel6Ideal.Outproj.final19 m c (finite m hp c)).symm
    have e : i = (ix2 (n0 := 139264) (n1 := 128) (i 0) (i 1) : Reference6Ideal.S139264x128.Idx) := eq_ix2 i
    exact (congrArg _ e).trans (Reference6Ideal.Outproj.stored (Kernel6Ideal.Outproj.inputs m c) (i 0) (i 1))

end Cert.Outproj

end
-- ==== Proof.OutprojLastRunIdeal.lean ====
/- The output projection's run in the ideal program: what its body leaves in the two result blocks, at every point, and the frame. -/
module

public import proofs.«01_k».proof.Proof.Gen.Kernel7Ideal.Frame
public import proofs.«01_k».proof.Proof.Gen.Kernel7Ideal.Skeleton
public import proofs.«01_k».proof.Proof.StoredTiles
public import Idealize.ShloMosaic.Lib.Claim

@[expose] public section

-- membership in a rectangle of production extents (`View.cover_of_tiled`): the elaborator's structural look
-- recurses once per coordinate of the long axes
set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 18, through which its contents are stated (`View.read_writes_of_cover`: the
    choice does not matter). -/
abbrev VO0_18 : View sig .tc .vmem S256x1024 .f32 := (Memref.whole cc0_stg18_0 : Memref sig .tc .vmem S256x1024 .f32).view
/-- One staging buffer of output window 19, through which its contents are stated (`View.read_writes_of_cover`: the
    choice does not matter). -/
abbrev VO0_19 : View sig .tc .vmem S2048x128 .f32 := (Memref.whole cc0_stg19_0 : Memref sig .tc .vmem S2048x128 .f32).view
/-- Each window's current staging memref at point `t`, spelled as the pipeline passes it (`bodyAt0`), and its wholeness. -/
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x6144 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x1024 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x256 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2048x128 .f32 := win0_19.stage (cfg0.slots t 19)
abbrev hs0_19 (t : Fin cfg0.N) : (ms0_19 t).IsWhole := hstage0_19 ((cfg0.slots t 19).cast nbuf0_19)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256x256 .bf16) (harg8 : arg8.IsWhole) (arg9 : Memref sig .tc .vmem S256x1024 .f32) (harg9 : arg9.IsWhole) (arg10 : Memref sig .tc .vmem S8x6144 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x256 .bf16) (harg18 : arg18.IsWhole) (arg19 : Memref sig .tc .vmem S256x1024 .f32) (harg19 : arg19.IsWhole) (arg20 : Memref sig .tc .vmem S2048x128 .f32) (harg20 : arg20.IsWhole)
    (x0 : Vec F S256x256 .f32) (x1 : Vec F S256x256 .f32) (x2 : Vec F S256x256 .f32) (x3 : Vec F S256x256 .bf16) (x4 : Vec F S256x256 .f32) (x5 : Vec F S256x256 .f32) (x6 : Vec F S256x256 .f32) (x7 : Vec F S1x256x256 .bf16) (x8 : Vec F S256x1024 .f32) (x9 : Vec F S8x6144 .f32) (x10 : Vec F S1x256 .f32) (x11 : Vec F S1x256 .f32) (x12 : Vec F S1x1024 .f32) (x13 : Vec F S256x1024 .bf16) (x14 : Vec F S256x1024 .bf16) (x15 : Vec F S256x1024 .bf16) (x16 : Vec F S256x1024 .bf16) (x17 : Vec F S256x256 .bf16) :
    Σ' (L18 : List (View.Piece (Elt F) S256x1024 .f32)), { L19 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19)) -∗ K ⟨⟩))
          ⊢ wp frame (wpE (defs₀ (F := F)) Variants.none c none) E (cc0_out_projection i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun E K => ?run⟩
  case run =>
    simp only [cc0_out_projection_eq_skeleton]; unfold cc0_out_projection_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    iexists _; iexact H19

/-- The one store of the residual covers its block. -/
theorem cover0_A_18 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256x256 .bf16) (harg8 : arg8.IsWhole) (arg9 : Memref sig .tc .vmem S256x1024 .f32) (harg9 : arg9.IsWhole) (arg10 : Memref sig .tc .vmem S8x6144 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x256 .bf16) (harg18 : arg18.IsWhole) (arg19 : Memref sig .tc .vmem S256x1024 .f32) (harg19 : arg19.IsWhole) (arg20 : Memref sig .tc .vmem S2048x128 .f32) (harg20 : arg20.IsWhole)
    (x0 : Vec F S256x256 .f32) (x1 : Vec F S256x256 .f32) (x2 : Vec F S256x256 .f32) (x3 : Vec F S256x256 .bf16) (x4 : Vec F S256x256 .f32) (x5 : Vec F S256x256 .f32) (x6 : Vec F S256x256 .f32) (x7 : Vec F S1x256x256 .bf16) (x8 : Vec F S256x1024 .f32) (x9 : Vec F S8x6144 .f32) (x10 : Vec F S1x256 .f32) (x11 : Vec F S1x256 .f32) (x12 : Vec F S1x1024 .f32) (x13 : Vec F S256x1024 .bf16) (x14 : Vec F S256x1024 .bf16) (x15 : Vec F S256x1024 .bf16) (x16 : Vec F S256x1024 .bf16) (x17 : Vec F S256x256 .bf16) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).1 S256x1024.size (by sl_kernel_rfl) y

/-- What the run leaves in output 18's staging buffer: its pieces read back over junk. -/
def out0_A_18 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256x256 .bf16) (harg8 : arg8.IsWhole) (arg9 : Memref sig .tc .vmem S256x1024 .f32) (harg9 : arg9.IsWhole) (arg10 : Memref sig .tc .vmem S8x6144 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x256 .bf16) (harg18 : arg18.IsWhole) (arg19 : Memref sig .tc .vmem S256x1024 .f32) (harg19 : arg19.IsWhole) (arg20 : Memref sig .tc .vmem S2048x128 .f32) (harg20 : arg20.IsWhole)
    (x0 : Vec F S256x256 .f32) (x1 : Vec F S256x256 .f32) (x2 : Vec F S256x256 .f32) (x3 : Vec F S256x256 .bf16) (x4 : Vec F S256x256 .f32) (x5 : Vec F S256x256 .f32) (x6 : Vec F S256x256 .f32) (x7 : Vec F S1x256x256 .bf16) (x8 : Vec F S256x1024 .f32) (x9 : Vec F S8x6144 .f32) (x10 : Vec F S1x256 .f32) (x11 : Vec F S1x256 .f32) (x12 : Vec F S1x1024 .f32) (x13 : Vec F S256x1024 .bf16) (x14 : Vec F S256x1024 .bf16) (x15 : Vec F S256x1024 .bf16) (x16 : Vec F S256x1024 .bf16) (x17 : Vec F S256x256 .bf16) : Vec F S256x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).1)

/-- The eight stores of the token tiles cover their block. -/
theorem cover0_A_19 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256x256 .bf16) (harg8 : arg8.IsWhole) (arg9 : Memref sig .tc .vmem S256x1024 .f32) (harg9 : arg9.IsWhole) (arg10 : Memref sig .tc .vmem S8x6144 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x256 .bf16) (harg18 : arg18.IsWhole) (arg19 : Memref sig .tc .vmem S256x1024 .f32) (harg19 : arg19.IsWhole) (arg20 : Memref sig .tc .vmem S2048x128 .f32) (harg20 : arg20.IsWhole)
    (x0 : Vec F S256x256 .f32) (x1 : Vec F S256x256 .f32) (x2 : Vec F S256x256 .f32) (x3 : Vec F S256x256 .bf16) (x4 : Vec F S256x256 .f32) (x5 : Vec F S256x256 .f32) (x6 : Vec F S256x256 .f32) (x7 : Vec F S1x256x256 .bf16) (x8 : Vec F S256x1024 .f32) (x9 : Vec F S8x6144 .f32) (x10 : Vec F S1x256 .f32) (x11 : Vec F S1x256 .f32) (x12 : Vec F S1x1024 .f32) (x13 : Vec F S256x1024 .bf16) (x14 : Vec F S256x1024 .bf16) (x15 : Vec F S256x1024 .bf16) (x16 : Vec F S256x1024 .bf16) (x17 : Vec F S256x256 .bf16) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.1, y ∈ pc.1.set :=
  StoredTiles.cover (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.1 (by sl_kernel_rfl) y

/-- What the run leaves in output 19's staging buffer: its pieces read back over junk. -/
def out0_A_19 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256x256 .bf16) (harg8 : arg8.IsWhole) (arg9 : Memref sig .tc .vmem S256x1024 .f32) (harg9 : arg9.IsWhole) (arg10 : Memref sig .tc .vmem S8x6144 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x256 .bf16) (harg18 : arg18.IsWhole) (arg19 : Memref sig .tc .vmem S256x1024 .f32) (harg19 : arg19.IsWhole) (arg20 : Memref sig .tc .vmem S2048x128 .f32) (harg20 : arg20.IsWhole)
    (x0 : Vec F S256x256 .f32) (x1 : Vec F S256x256 .f32) (x2 : Vec F S256x256 .f32) (x3 : Vec F S256x256 .bf16) (x4 : Vec F S256x256 .f32) (x5 : Vec F S256x256 .f32) (x6 : Vec F S256x256 .f32) (x7 : Vec F S1x256x256 .bf16) (x8 : Vec F S256x1024 .f32) (x9 : Vec F S8x6144 .f32) (x10 : Vec F S1x256 .f32) (x11 : Vec F S1x256 .f32) (x12 : Vec F S1x1024 .f32) (x13 : Vec F S256x1024 .bf16) (x14 : Vec F S256x1024 .bf16) (x15 : Vec F S256x1024 .bf16) (x16 : Vec F S256x1024 .bf16) (x17 : Vec F S256x256 .bf16) : Vec F S2048x128 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).2.1)

/-! ## What the outputs hold after each point -/

/-- What the outputs' staging buffers hold after the body at point `t` (as a tuple, in window order): the run's contents at
    the point's memrefs and input blocks. -/
def outsAt0 (c : Dev nD) (t : Fin cfg0.N) : Vec F S256x1024 .f32 × Vec F S2048x128 .f32 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  unfold outsAt0
  unfold out0_A_18 out0_A_19; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, ⟨%e18, H18⟩, ⟨%e19, H19⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H19
  ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame: from any memory with zero counters every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel7Ideal.Gen

end
-- ==== Proof.OutprojLastBlocks.lean ====
/- The last layer's output projection, what one block of 256 tokens leaves: the operations are the other layers', so the
   two values are those of `Outproj.Blocks`. -/
module

public import proofs.«01_k».proof.Proof.OutprojLastRunIdeal
public import proofs.«01_k».proof.Proof.OutprojBlocks
public import proofs.«01_k».proof.Proof.OutprojPoint

@[expose] public section

set_option backward.proofsInPublic true
set_option maxRecDepth 16384

noncomputable section

namespace Cert.Kernel7Ideal.Outproj

open Cert.Kernel7Ideal Cert.Kernel7Ideal.Gen Cert.Kernel7Ideal.Facts Idealize.ShloMosaic Idealize.ShloMosaic.TcCoe Idealize.SL.Sem Cert.Rows
open Idealize.ShloMosaic.Pipeline (Dat)
open Cert.Kernel6Ideal.Outproj (Blocks placed columns)

section Case

variable (c : Dev nD) (i : grid0.Coords)
  (arg1 : Memref sig .tc .vmem S256x256 .f32) (harg1 : arg1.IsWhole)
  (arg2 : Memref sig .tc .vmem S256x256 .f32) (harg2 : arg2.IsWhole)
  (arg3 : Memref sig .tc .vmem S256x256 .f32) (harg3 : arg3.IsWhole)
  (arg4 : Memref sig .tc .vmem S256x256 .bf16) (harg4 : arg4.IsWhole)
  (arg5 : Memref sig .tc .vmem S256x256 .f32) (harg5 : arg5.IsWhole)
  (arg6 : Memref sig .tc .vmem S256x256 .f32) (harg6 : arg6.IsWhole)
  (arg7 : Memref sig .tc .vmem S256x256 .f32) (harg7 : arg7.IsWhole)
  (arg8 : Memref sig .tc .vmem S1x256x256 .bf16) (harg8 : arg8.IsWhole)
  (arg9 : Memref sig .tc .vmem S256x1024 .f32) (harg9 : arg9.IsWhole)
  (arg10 : Memref sig .tc .vmem S8x6144 .f32) (harg10 : arg10.IsWhole)
  (arg11 : Memref sig .tc .vmem S1x256 .f32) (harg11 : arg11.IsWhole)
  (arg12 : Memref sig .tc .vmem S1x256 .f32) (harg12 : arg12.IsWhole)
  (arg13 : Memref sig .tc .vmem S1x1024 .f32) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S256x1024 .bf16) (harg16 : arg16.IsWhole)
  (arg17 : Memref sig .tc .vmem S256x1024 .bf16) (harg17 : arg17.IsWhole)
  (arg18 : Memref sig .tc .vmem S256x256 .bf16) (harg18 : arg18.IsWhole)
  (arg19 : Memref sig .tc .vmem S256x1024 .f32) (harg19 : arg19.IsWhole)
  (arg20 : Memref sig .tc .vmem S2048x128 .f32) (harg20 : arg20.IsWhole)
  (x0 : Vec Ideal S256x256 .f32)
  (x1 : Vec Ideal S256x256 .f32)
  (x2 : Vec Ideal S256x256 .f32)
  (x3 : Vec Ideal S256x256 .bf16)
  (x4 : Vec Ideal S256x256 .f32)
  (x5 : Vec Ideal S256x256 .f32)
  (x6 : Vec Ideal S256x256 .f32)
  (x7 : Vec Ideal S1x256x256 .bf16)
  (x8 : Vec Ideal S256x1024 .f32)
  (x9 : Vec Ideal S8x6144 .f32)
  (x10 : Vec Ideal S1x256 .f32)
  (x11 : Vec Ideal S1x256 .f32)
  (x12 : Vec Ideal S1x1024 .f32)
  (x13 : Vec Ideal S256x1024 .bf16)
  (x14 : Vec Ideal S256x1024 .bf16)
  (x15 : Vec Ideal S256x1024 .bf16)
  (x16 : Vec Ideal S256x1024 .bf16)
  (x17 : Vec Ideal S256x256 .bf16)

/-- The blocks a point reads, the table's row in the place of the table. -/
abbrev read : Blocks := ⟨x0, x1, x2, x3, x4, x5, x6, x7, x8, (View.ld x9 (Rect.unit (k0_off1 i) ![1, 6144] (k0_off1_inb i))), x10, x11, x12, x13, x14, x15, x16, x17⟩

/-- The sum of the first three products. -/
abbrev three : FVec Ideal S256x1024 .f32 :=
  k0_pay15 x17 (k0_pay8 x17 (k0_pay7 x0 x1) x10 x2) (k0_pay9 x4 x5) x11 x6
    (k0_pay11 x4 x5) (k0_pay12 x4 x5) (k0_pay13 x4 x5) (k0_pay14 x4 x5) x13 x3 x14 x15

theorem three_eq : three x0 x1 x2 x3 x4 x5 x6 x10 x11 x13 x14 x15 x17 = (read i x0 x1 x2 x3 x4 x5 x6 x7 x8 x9 x10 x11 x12 x13 x14 x15 x16 x17).three := rfl

/-- The modulated rows. -/
abbrev modulated : FVec Ideal S256x1024 .f32 :=
  k0_pay17 (three x0 x1 x2 x3 x4 x5 x6 x10 x11 x13 x14 x15 x17) x7 x16 (View.ld x9 (Rect.unit (k0_off1 i) ![1, 6144] (k0_off1_inb i))) x8 x12

theorem modulated_eq : modulated i x0 x1 x2 x3 x4 x5 x6 x7 x8 x9 x10 x11 x12 x13 x14 x15 x16 x17
    = (read i x0 x1 x2 x3 x4 x5 x6 x7 x8 x9 x10 x11 x12 x13 x14 x15 x16 x17).second := rfl

/-- What a point leaves in the stream's output. -/
theorem out18 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
    = k0_pay16 (three x0 x1 x2 x3 x4 x5 x6 x10 x11 x13 x14 x15 x17) x7 x16 (View.ld x9 (Rect.unit (k0_off1 i) ![1, 6144] (k0_off1_inb i))) x8 := by
  frame_open
  simp (disch := decide) only [↓ View.readCov_skip, ↓ View.readCov_cons_toLoadRect, ↓ View.readCov_fill]
  frame_out

theorem out18_eq : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
    = (read i x0 x1 x2 x3 x4 x5 x6 x7 x8 x9 x10 x11 x12 x13 x14 x15 x16 x17).stream :=
  (out18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17).trans rfl

/-- What a point leaves in the output of token tiles. -/
theorem out19 (y : S2048x128.Idx) : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 y
    = placed (modulated i x0 x1 x2 x3 x4 x5 x6 x7 x8 x9 x10 x11 x12 x13 x14 x15 x16 x17) ((y 0).val / 8) (128 * ((y 0).val % 8) + (y 1).val) := by
  frame_open
  simp (disch := decide) only [↓ View.readCov_skip, ↓ View.readCov_cons_toLoadRect, ↓ View.readCov_fill]
  frame_out
  refine (StoredTiles.canon_eighths (e := .f32) (placed (modulated i x0 x1 x2 x3 x4 x5 x6 x7 x8 x9 x10 x11 x12 x13 x14 x15 x16 x17)) _ (by rfl) ?_ y)
  have col := columns (modulated i x0 x1 x2 x3 x4 x5 x6 x7 x8 x9 x10 x11 x12 x13 x14 x15 x16 x17)
  intro p hp
  simp only [List.mem_cons, List.not_mem_nil, or_false] at hp
  rcases hp with rfl | rfl | rfl | rfl | rfl | rfl | rfl | rfl
  · exact ⟨7, _, rfl, fun x => (show _ = _ from col 7 slices_S256x1024_o0_896_S256x128 x)⟩
  · exact ⟨6, _, rfl, fun x => (show _ = _ from col 6 slices_S256x1024_o0_768_S256x128 x)⟩
  · exact ⟨5, _, rfl, fun x => (show _ = _ from col 5 slices_S256x1024_o0_640_S256x128 x)⟩
  · exact ⟨4, _, rfl, fun x => (show _ = _ from col 4 slices_S256x1024_o0_512_S256x128 x)⟩
  · exact ⟨3, _, rfl, fun x => (show _ = _ from col 3 slices_S256x1024_o0_384_S256x128 x)⟩
  · exact ⟨2, _, rfl, fun x => (show _ = _ from col 2 slices_S256x1024_o0_256_S256x128 x)⟩
  · exact ⟨1, _, rfl, fun x => (show _ = _ from col 1 slices_S256x1024_o0_128_S256x128 x)⟩
  · exact ⟨0, _, rfl, fun x => (show _ = _ from col 0 slices_S256x1024_o0_0_S256x128 x)⟩

end Case

end Cert.Kernel7Ideal.Outproj

end
-- ==== Proof.OutprojLastMath.lean ====
/- The rows of the last layer's output projection: only the latent tokens', numbered among themselves. -/
module

public import proofs.«01_k».proof.Proof.OutprojMath

@[expose] public section

noncomputable section

namespace Cert.Rows

open Idealize.ShloMosaic

/-- The row of a latent token among all tokens' rows. -/
def late (n : Fin 16384) : Fin 17408 := ⟨4352 * (n.val / 4096) + (256 + n.val % 4096), by omega⟩

/-- The latent token of a row (of a context row, the batch's first). -/
def early (n : Fin 17408) : Fin 16384 := ⟨4096 * (n.val / 4352) + (n.val % 4352 - 256), by omega⟩

theorem early_late (n : Fin 16384) : early (late n) = n := Fin.ext (by unfold early late; simp only; omega)

/-- The block of latent tokens of a block of tokens. -/
def earlyBlock (t : Fin 68) : Fin 64 := ⟨16 * (t.val / 17) + (t.val % 17 - 1), by omega⟩

theorem tableRow_late (n : Fin 16384) : (tableRow (late n)).val = n.val / 4096 := by
  unfold tableRow late
  rw [if_neg (by simp only; omega)]
  show (4352 * (n.val / 4096) + (256 + n.val % 4096)) / 4352 = n.val / 4096
  omega

/-- The arrays the last layer's output projection reads: of two mixers only the latent rows. -/
structure LastInputs where
  A : (⟨2, ![17408, 256]⟩ : Shape).Idx → EReal
  B : (⟨2, ![17408, 256]⟩ : Shape).Idx → EReal
  U : (⟨2, ![17408, 1280]⟩ : Shape).Idx → EReal
  H : (⟨2, ![16384, 256]⟩ : Shape).Idx → EReal
  C : (⟨2, ![17408, 256]⟩ : Shape).Idx → EReal
  E : (⟨2, ![17408, 256]⟩ : Shape).Idx → EReal
  Q : (⟨2, ![17408, 896]⟩ : Shape).Idx → EReal
  D : (⟨3, ![64, 256, 256]⟩ : Shape).Idx → EReal
  X : (⟨2, ![17408, 1024]⟩ : Shape).Idx → EReal
  T : (⟨2, ![8, 6144]⟩ : Shape).Idx → EReal
  ga : (⟨2, ![1, 256]⟩ : Shape).Idx → EReal
  gc : (⟨2, ![1, 256]⟩ : Shape).Idx → EReal
  g : (⟨2, ![1, 1024]⟩ : Shape).Idx → EReal
  W : (⟨2, ![1024, 1024]⟩ : Shape).Idx → EReal

namespace LastInputs

variable (I : LastInputs)

/-- The same arrays with those two spread over all rows. -/
def wide : Inputs where
  A := I.A
  B := I.B
  U := I.U
  H := fun i => I.H (ix2 (early (i 0)) (i 1))
  C := I.C
  E := I.E
  Q := I.Q
  D := fun i => I.D (ix3 (earlyBlock (i 0)) (i 1) (i 2))
  X := I.X
  T := I.T
  ga := I.ga
  gc := I.gc
  g := I.g
  W := I.W

/-- The second mixer's heads of a latent token. -/
theorem wide_H (n : Fin 16384) (k : Fin 256) : I.wide.H (ix2 (late n) k) = I.H (ix2 n k) := by
  show I.H (ix2 (early (late n)) k) = _
  rw [early_late]

/-- The fourth mixer's heads of a latent token. -/
theorem wide_D (n : Fin 16384) (k : Fin 256) :
    I.wide.headsD (late n) k = I.D (ix3 ⟨n.val / 256, by omega⟩ k ⟨n.val % 256, by omega⟩) := by
  refine congrArg I.D (congrArg₂ (fun (x : Fin 64) (y : Fin 256) => ix3 x k y) (Fin.ext ?_) (Fin.ext ?_))
  · show 16 * ((4352 * (n.val / 4096) + (256 + n.val % 4096)) / 256 / 17) + ((4352 * (n.val / 4096) + (256 + n.val % 4096)) / 256 % 17 - 1) = n.val / 256
    omega
  · show (4352 * (n.val / 4096) + (256 + n.val % 4096)) % 256 = n.val % 256
    omega

end LastInputs

end Cert.Rows

end
-- ==== Proof.OutprojLastTable.lean ====
/- The last layer's table of heads is printed word for word as the other layers'. -/
module

public import proofs.«01_k».proof.Kernel7Ideal
public import proofs.«01_k».proof.Proof.OutprojTable

@[expose] public section

set_option backward.proofsInPublic true
set_option maxRecDepth 65536

namespace Cert.Kernel7Ideal.Outproj

open Cert.Kernel7Ideal

theorem table (k e : Fin 256) : lit0t (256 * k.val + e.val) = if k.val / 64 = e.val / 64 then 0x3F80#16 else 0#16 :=
  (show lit0t (256 * k.val + e.val) = Kernel6Ideal.lit0t (256 * k.val + e.val) from rfl).trans (Kernel6Ideal.Outproj.table k e)

end Cert.Kernel7Ideal.Outproj
-- ==== Proof.OutprojLastArray.lean ====
/- The last layer's output projection: what its windows hold, and its two result arrays, both over the latent tokens only. -/
module

public import proofs.«01_k».proof.Proof.OutprojLastBlocks
public import proofs.«01_k».proof.Proof.OutprojLastMath
public import proofs.«01_k».proof.Proof.OutprojLastTable
public import proofs.«01_k».proof.Proof.Gen.Kernel7Ideal.Frame
public import Idealize.ShloMosaic.Lib.StableHlo.ReadAt
public import Idealize.ShloMosaic.Lib.Pointwise

@[expose] public section

set_option backward.proofsInPublic true
set_option maxRecDepth 16384

noncomputable section

namespace Cert.Kernel7Ideal.Outproj

open Cert.Kernel7Ideal Cert.Kernel7Ideal.Gen Cert.Kernel7Ideal.Facts Idealize.ShloMosaic Idealize.ShloMosaic.TcCoe Idealize.SL.Sem Cert.Rows Cert.Math
open Idealize.ShloMosaic.Pipeline (Dat)
open Cert.Kernel6Ideal.Outproj (Blocks placed Readable)

/-- The blocks each point reads and writes and the row of the modulation table it loads, decided over the grid. -/
theorem idx : ∀ t : Fin cfg0.N, win0_0.index t = ![17 * (t.val / 16) + (t.val % 16 + 1), 0]
    ∧ win0_1.index t = ![17 * (t.val / 16) + (t.val % 16 + 1), 0]
    ∧ win0_2.index t = ![17 * (t.val / 16) + (t.val % 16 + 1), 4]
    ∧ win0_3.index t = ![t.val, 0]
    ∧ win0_4.index t = ![17 * (t.val / 16) + (t.val % 16 + 1), 0]
    ∧ win0_5.index t = ![17 * (t.val / 16) + (t.val % 16 + 1), 0]
    ∧ win0_6.index t = ![17 * (t.val / 16) + (t.val % 16 + 1), 2]
    ∧ win0_7.index t = ![t.val, 0, 0]
    ∧ win0_8.index t = ![17 * (t.val / 16) + (t.val % 16 + 1), 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![t.val, 0]
    ∧ win0_19.index t = ![t.val, 0]
    ∧ k0_off1 (grid0.coords t) = ![t.val / 16, 0] :=
  (by decide +kernel : ∀ t : Fin grid0.N, win0_0.index t = ![17 * (t.val / 16) + (t.val % 16 + 1), 0]
    ∧ win0_1.index t = ![17 * (t.val / 16) + (t.val % 16 + 1), 0]
    ∧ win0_2.index t = ![17 * (t.val / 16) + (t.val % 16 + 1), 4]
    ∧ win0_3.index t = ![t.val, 0]
    ∧ win0_4.index t = ![17 * (t.val / 16) + (t.val % 16 + 1), 0]
    ∧ win0_5.index t = ![17 * (t.val / 16) + (t.val % 16 + 1), 0]
    ∧ win0_6.index t = ![17 * (t.val / 16) + (t.val % 16 + 1), 2]
    ∧ win0_7.index t = ![t.val, 0, 0]
    ∧ win0_8.index t = ![17 * (t.val / 16) + (t.val % 16 + 1), 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![t.val, 0]
    ∧ win0_19.index t = ![t.val, 0]
    ∧ k0_off1 (grid0.coords t) = ![t.val / 16, 0])

variable (m : (ℓ : Loc nD τ sig) → Buf (Elt Ideal) ℓ) (c : Dev nD)

abbrev Wm : S1024x1024.Idx → EReal := m ((c : Thread nD τ).loc main_arg13)

theorem quarter0 (k : Fin 256) (d : Fin 1024) :
    (V m c main_v1 : S256x1024.Idx → EReal) (ix2 k d) = Wm m c (ix2 ⟨k.val, by omega⟩ d) := by
  unfold V
  after_reads_at

theorem quarter1 (k : Fin 256) (d : Fin 1024) :
    (V m c main_v3 : S256x1024.Idx → EReal) (ix2 k d) = Wm m c (ix2 ⟨256 + k.val, by omega⟩ d) := by
  unfold V
  after_reads_at

theorem quarter2 (k : Fin 256) (d : Fin 1024) :
    (V m c main_v5 : S256x1024.Idx → EReal) (ix2 k d) = Wm m c (ix2 ⟨512 + k.val, by omega⟩ d) := by
  unfold V
  after_reads_at

theorem quarter3 (k : Fin 256) (d : Fin 1024) :
    (V m c main_v7 : S256x1024.Idx → EReal) (ix2 k d) = Wm m c (ix2 ⟨768 + k.val, by omega⟩ d) := by
  unfold V
  after_reads_at

/-- The table is one where two places lie in one head and zero elsewhere. -/
theorem heads (k e : Fin 256) :
    (V m c main_cst : S256x256.Idx → EReal) (ix2 k e) = sameHead k e := by
  have h : (V m c main_cst : S256x256.Idx → EReal) (ix2 k e) = Ideal.ofBits .bf16 (lit0t (256 * k.val + e.val)) := by
    unfold V
    after_reads_at
    show Ideal.ofBits FTy.bf16 (lit0t (S256x256.rowMajor (ix2 k e)).val) = _
    refine congrArg (fun n => Ideal.ofBits FTy.bf16 (lit0t n)) ?_
    refine (Shape.rowMajor_val_two (d := ![256, 256]) (ix2 k e)).trans ?_
    show k.val * 256 + e.val = 256 * k.val + e.val
    omega
  rw [h, table]
  unfold sameHead
  by_cases q : k.val / 64 = e.val / 64
  · rw [if_pos q, if_pos q]
    exact Ideal.ofBits_one_bf16
  · rw [if_neg q, if_neg q]
    simp [Ideal.ofBits, Ideal.ieee]

/-- The arrays the kernel is called with. -/
def inputs : LastInputs where
  A := m ((c : Thread nD τ).loc main_arg0)
  B := m ((c : Thread nD τ).loc main_arg1)
  U := m ((c : Thread nD τ).loc main_arg2)
  H := m ((c : Thread nD τ).loc main_arg3)
  C := m ((c : Thread nD τ).loc main_arg4)
  E := m ((c : Thread nD τ).loc main_arg5)
  Q := m ((c : Thread nD τ).loc main_arg6)
  D := m ((c : Thread nD τ).loc main_arg7)
  X := m ((c : Thread nD τ).loc main_arg8)
  T := m ((c : Thread nD τ).loc main_arg9)
  ga := m ((c : Thread nD τ).loc main_arg10)
  gc := m ((c : Thread nD τ).loc main_arg11)
  g := m ((c : Thread nD τ).loc main_arg12)
  W := m ((c : Thread nD τ).loc main_arg13)

theorem tlt (t : Fin cfg0.N) : t.val < 64 := lt_of_lt_of_eq t.isLt (show cfg0.N = 64 from N_0)

/-- Latent token `r` of point `t`. -/
def tok (t : Fin cfg0.N) (r : Fin 256) : Fin 16384 := ⟨256 * t.val + r.val, by have := tlt t; omega⟩

/-- The same token's row among all tokens' rows. -/
def spot (t : Fin cfg0.N) (r : Fin 256) : Fin 17408 := ⟨256 * (17 * (t.val / 16) + (t.val % 16 + 1)) + r.val, by have := tlt t; omega⟩

theorem spot_eq (t : Fin cfg0.N) (r : Fin 256) : spot t r = late (tok t r) := by
  have := tlt t
  refine Fin.ext ?_
  show 256 * (17 * (t.val / 16) + (t.val % 16 + 1)) + r.val = 4352 * ((256 * t.val + r.val) / 4096) + (256 + (256 * t.val + r.val) % 4096)
  omega

theorem iblk0_apply (t : Fin cfg0.N) (r k : Fin 256) : iblk m c 0 t (ix2 r k) = (inputs m c).A (ix2 (spot t r) k) := by
  unfold inputs spot
  blk_ext [iblk, V, (idx t).1]

theorem iblk1_apply (t : Fin cfg0.N) (r k : Fin 256) : iblk m c 1 t (ix2 r k) = (inputs m c).B (ix2 (spot t r) k) := by
  unfold inputs spot
  blk_ext [iblk, V, (idx t).2.1]

theorem iblk3_apply (t : Fin cfg0.N) (r k : Fin 256) : iblk m c 3 t (ix2 r k) = (inputs m c).H (ix2 (tok t r) k) := by
  unfold inputs tok
  blk_ext [iblk, V, (idx t).2.2.2.1]

theorem iblk4_apply (t : Fin cfg0.N) (r k : Fin 256) : iblk m c 4 t (ix2 r k) = (inputs m c).C (ix2 (spot t r) k) := by
  unfold inputs spot
  blk_ext [iblk, V, (idx t).2.2.2.2.1]

theorem iblk5_apply (t : Fin cfg0.N) (r k : Fin 256) : iblk m c 5 t (ix2 r k) = (inputs m c).E (ix2 (spot t r) k) := by
  unfold inputs spot
  blk_ext [iblk, V, (idx t).2.2.2.2.2.1]

theorem iblk2_apply (t : Fin cfg0.N) (r k : Fin 256) : iblk m c 2 t (ix2 r k) = (inputs m c).U (ix2 (spot t r) ⟨1024 + k.val, by omega⟩) := by
  unfold inputs spot
  blk_ext [iblk, V, (idx t).2.2.1]

theorem block6_apply (t : Fin cfg0.N) (r k : Fin 256) : X0_6 m c t (ix2 r k) = (inputs m c).Q (ix2 (spot t r) ⟨512 + k.val, by omega⟩) := by
  unfold X0_6 Pipeline.Window.fill
  rw [dif_pos (moved0_6 t _)]
  unfold inputs spot
  blk_ext [iblk, V, (idx t).2.2.2.2.2.2.1]

theorem iblk7_apply (t : Fin cfg0.N) (k r : Fin 256) : iblk m c 7 t (ix3 0 k r) = (inputs m c).D (ix3 ⟨t.val, tlt t⟩ k r) := by
  unfold inputs
  blk_ext [iblk, V, (idx t).2.2.2.2.2.2.2.1]

theorem iblk8_apply (t : Fin cfg0.N) (r : Fin 256) (d : Fin 1024) : iblk m c 8 t (ix2 r d) = (inputs m c).X (ix2 (spot t r) d) := by
  unfold inputs spot
  blk_ext [iblk, V, (idx t).2.2.2.2.2.2.2.2.1]

theorem iblk9_apply (t : Fin cfg0.N) (r : Fin 8) (d : Fin 6144) : iblk m c 9 t (ix2 r d) = (inputs m c).T (ix2 r d) := by
  unfold inputs
  blk_ext [iblk, V, (idx t).2.2.2.2.2.2.2.2.2.1]

theorem iblk10_apply (t : Fin cfg0.N) (d : Fin 256) : iblk m c 10 t (ix2 0 d) = (inputs m c).ga (ix2 0 d) := by
  unfold inputs
  blk_ext [iblk, V, (idx t).2.2.2.2.2.2.2.2.2.2.1]

theorem iblk11_apply (t : Fin cfg0.N) (d : Fin 256) : iblk m c 11 t (ix2 0 d) = (inputs m c).gc (ix2 0 d) := by
  unfold inputs
  blk_ext [iblk, V, (idx t).2.2.2.2.2.2.2.2.2.2.2.1]

theorem iblk12_apply (t : Fin cfg0.N) (d : Fin 1024) : iblk m c 12 t (ix2 0 d) = (inputs m c).g (ix2 0 d) := by
  unfold inputs
  blk_ext [iblk, V, (idx t).2.2.2.2.2.2.2.2.2.2.2.2.1]

theorem iblk13_apply (t : Fin cfg0.N) (k : Fin 256) (d : Fin 1024) : iblk m c 13 t (ix2 k d) = (inputs m c).W (ix2 ⟨k.val, by omega⟩ d) := by
  refine Eq.trans ?_ (quarter0 m c k d)
  blk_ext [iblk, (idx t).2.2.2.2.2.2.2.2.2.2.2.2.2.1]

theorem iblk14_apply (t : Fin cfg0.N) (k : Fin 256) (d : Fin 1024) : iblk m c 14 t (ix2 k d) = (inputs m c).W (ix2 ⟨256 + k.val, by omega⟩ d) := by
  refine Eq.trans ?_ (quarter1 m c k d)
  blk_ext [iblk, (idx t).2.2.2.2.2.2.2.2.2.2.2.2.2.2.1]

theorem iblk15_apply (t : Fin cfg0.N) (k : Fin 256) (d : Fin 1024) : iblk m c 15 t (ix2 k d) = (inputs m c).W (ix2 ⟨512 + k.val, by omega⟩ d) := by
  refine Eq.trans ?_ (quarter2 m c k d)
  blk_ext [iblk, (idx t).2.2.2.2.2.2.2.2.2.2.2.2.2.2.2.1]

theorem iblk16_apply (t : Fin cfg0.N) (k : Fin 256) (d : Fin 1024) : iblk m c 16 t (ix2 k d) = (inputs m c).W (ix2 ⟨768 + k.val, by omega⟩ d) := by
  refine Eq.trans ?_ (quarter3 m c k d)
  blk_ext [iblk, (idx t).2.2.2.2.2.2.2.2.2.2.2.2.2.2.2.2.1]

theorem iblk17_apply (t : Fin cfg0.N) (k e : Fin 256) : iblk m c 17 t (ix2 k e) = sameHead k e := by
  refine Eq.trans ?_ (heads m c k e)
  blk_ext [iblk, (idx t).2.2.2.2.2.2.2.2.2.2.2.2.2.2.2.2.2.1]

/-- The table row that modulates the rows of point `t`. -/
theorem tableRow_eq (t : Fin cfg0.N) (r : Fin 256) : (tableRow (spot t r)).val = t.val / 16 := by
  have ht := tlt t
  rw [spot_eq, tableRow_late]
  show (256 * t.val + r.val) / 4096 = t.val / 16
  omega

/-- The row of the modulation table a point loads. -/
abbrev row (t : Fin cfg0.N) : Vec Ideal S1x6144 .f32 :=
  View.ld (iblk m c 9 t) (Rect.unit (k0_off1 (grid0.coords t)) ![1, 6144] (k0_off1_inb (grid0.coords t)))

theorem row_apply (t : Fin cfg0.N) (r : Fin 256) (l : Fin 6144) : row m c t (ix2 0 l) = (inputs m c).T (ix2 (tableRow (spot t r)) l) := by
  have hl : row m c t (ix2 0 l) = iblk m c 9 t (ix2 (tableRow (spot t r)) l) := by
    refine View.ld_unit_apply_of _ _ _ _ _ _ fun a => ?_
    have e := congrFun (idx t).2.2.2.2.2.2.2.2.2.2.2.2.2.2.2.2.2.2.2.2 a
    match a with
    | ⟨0, _⟩ => exact (tableRow_eq t r).trans (congrArg (· + 0) e).symm
    | ⟨1, _⟩ => exact (Nat.zero_add _).symm.trans (congrArg (· + l.val) e).symm
  exact hl.trans (iblk9_apply m c t _ _)

/-- The second mixer's heads at a point's row. -/
theorem headsB_apply (t : Fin cfg0.N) (r k : Fin 256) : iblk m c 3 t (ix2 r k) = (inputs m c).wide.H (ix2 (spot t r) k) := by
  rw [iblk3_apply, spot_eq]
  exact ((inputs m c).wide_H _ _).symm

/-- The fourth mixer's heads at a point's row. -/
theorem headsD_apply (t : Fin cfg0.N) (r k : Fin 256) : iblk m c 7 t (ix3 0 k r) = (inputs m c).wide.headsD (spot t r) k := by
  rw [iblk7_apply, spot_eq, (inputs m c).wide_D]
  refine congrArg (inputs m c).D (congrArg₂ (fun (x : Fin 64) (y : Fin 256) => ix3 x k y) (Fin.ext ?_) (Fin.ext ?_))
  · show t.val = (256 * t.val + r.val) / 256
    omega
  · show r.val = (256 * t.val + r.val) % 256
    omega

/-- The blocks of point `t`. -/
abbrev blocks (t : Fin cfg0.N) : Blocks where
  x0 := iblk m c 0 t
  x1 := iblk m c 1 t
  x2 := iblk m c 2 t
  x3 := iblk m c 3 t
  x4 := iblk m c 4 t
  x5 := iblk m c 5 t
  x6 := X0_6 m c t
  x7 := iblk m c 7 t
  x8 := iblk m c 8 t
  row := row m c t
  x10 := iblk m c 10 t
  x11 := iblk m c 11 t
  x12 := iblk m c 12 t
  x13 := iblk m c 13 t
  x14 := iblk m c 14 t
  x15 := iblk m c 15 t
  x16 := iblk m c 16 t
  x17 := iblk m c 17 t

set_option maxHeartbeats 4000000 in
/-- They hold the inputs at the rows of point `t`. -/
theorem hold (t : Fin cfg0.N) : (blocks m c t).Hold (inputs m c).wide (spot t) where
  A := iblk0_apply m c t
  B := iblk1_apply m c t
  U := iblk2_apply m c t
  H := headsB_apply m c t
  C := iblk4_apply m c t
  E := iblk5_apply m c t
  Q := block6_apply m c t
  D := headsD_apply m c t
  stream := iblk8_apply m c t
  T := row_apply m c t
  ga := iblk10_apply m c t
  gc := iblk11_apply m c t
  g := iblk12_apply m c t
  W0 := iblk13_apply m c t
  W1 := iblk14_apply m c t
  W2 := iblk15_apply m c t
  W3 := iblk16_apply m c t
  heads := iblk17_apply m c t

/-- The recurrences' outputs are finite. -/
abbrev Finite : Prop := Readable (inputs m c).wide

variable (hf : Finite m c)

set_option maxHeartbeats 4000000 in
include hf in
theorem point18 (t : Fin cfg0.N) (r : Fin 256) (d : Fin 1024) : (outsAt0 m c t).1 (ix2 r d) = (inputs m c).wide.mixed (late (tok t r)) d := by
  unfold outsAt0
  dsimp only
  rw [out18_eq, ← spot_eq]
  exact (hold m c t).streamRows hf r d

set_option maxHeartbeats 4000000 in
include hf in
theorem point19 (t : Fin cfg0.N) (j : Fin 2048) (l : Fin 128) :
    (outsAt0 m c t).2 (ix2 j l) = (inputs m c).wide.second (late (tok t ⟨j.val / 8, by omega⟩)) ⟨128 * (j.val % 8) + l.val, by omega⟩ := by
  unfold outsAt0
  dsimp only
  rw [out19, modulated_eq, ← spot_eq]
  refine Eq.trans ?_ ((hold m c t).secondRows hf ⟨j.val / 8, by omega⟩ ⟨128 * (j.val % 8) + l.val, by omega⟩)
  unfold placed
  exact dif_pos (show j.val / 8 < 256 ∧ 128 * (j.val % 8) + l.val < 1024 by omega)

include hf in
/-- The stream with the mixers' projection added. -/
theorem final18 :
    (dats m 0 c).arrAt 18 cfg0.N = fun i : S16384x1024.Idx => (inputs m c).wide.mixed (late (i 0)) (i 1) := by
  refine (dats m 0 c).arrAt_eq_of_covers 18 _ (by decide +kernel) fun t hfl y => ?_
  blk_simp
  have e0 : ((win0_18.blk t).view.emb y 0).val = 256 * t.val + (y 0).val := by blk_simp [(idx t).2.2.2.2.2.2.2.2.2.2.2.2.2.2.2.2.2.2.1]; omega
  have e1 : ((win0_18.blk t).view.emb y 1).val = (y 1).val := by blk_simp [(idx t).2.2.2.2.2.2.2.2.2.2.2.2.2.2.2.2.2.2.1]
  have hy : y = (ix2 (n0 := 256) (n1 := 1024) (y 0) (y 1) : S256x1024.Idx) := eq_ix2 y
  rw [after0_18]
  refine (congrArg (outsAt0 m c t).1 hy).trans ((point18 m c hf t (y 0) (y 1)).trans ?_)
  have f0 : tok t (y 0) = (win0_18.blk t).view.emb y 0 := Fin.ext e0.symm
  have f1 : (y 1 : Fin 1024) = (win0_18.blk t).view.emb y 1 := Fin.ext e1.symm
  rw [f0, f1]

include hf in
/-- The modulated rows as tiles of tokens. -/
theorem final19 :
    (dats m 0 c).arrAt 19 cfg0.N = fun i : S131072x128.Idx =>
      (inputs m c).wide.second (late ⟨(i 0).val / 8, by have : (i 0).val < 131072 := (i 0).isLt; omega⟩)
        ⟨128 * ((i 0).val % 8) + (i 1).val, by have : (i 1).val < 128 := (i 1).isLt; omega⟩ := by
  refine (dats m 0 c).arrAt_eq_of_covers 19 _ (by decide +kernel) fun t hfl y => ?_
  blk_simp
  have z0 : win0_19.index t 0 = t.val := congrFun (idx t).2.2.2.2.2.2.2.2.2.2.2.2.2.2.2.2.2.2.2.1 0
  have z1 : win0_19.index t 1 = 0 := congrFun (idx t).2.2.2.2.2.2.2.2.2.2.2.2.2.2.2.2.2.2.2.1 1
  have hy : y = (ix2 (n0 := 2048) (n1 := 128) (y 0) (y 1) : S2048x128.Idx) := eq_ix2 y
  rw [after0_19]
  refine (congrArg (outsAt0 m c t).2 hy).trans ((point19 m c hf t (y 0) (y 1)).trans ?_)
  refine congrArg₂ (inputs m c).wide.second (congrArg late (Fin.ext ?_)) (Fin.ext ?_)
  · show 256 * t.val + (y 0).val / 8 = (win0_19.index t 0 * 2048 + (y 0).val) / 8
    rw [z0]; omega
  · show 128 * ((y 0).val % 8) + (y 1).val = 128 * ((win0_19.index t 0 * 2048 + (y 0).val) % 8) + (win0_19.index t 1 * 128 + (y 1).val)
    rw [z0, z1]; omega

end Cert.Kernel7Ideal.Outproj

end
-- ==== Proof.OutprojLastRef.lean ====
/- The last layer's output projection as the reference computes it: the latent tokens' rows are cut out first. -/
module

public import proofs.«01_k».proof.Proof.OutprojLastMath
public import proofs.«01_k».proof.Proof.Gen.Reference7Ideal.Read
public import Idealize.ShloMosaic.Lib.Pointwise

@[expose] public section

set_option backward.proofsInPublic true
set_option maxRecDepth 16384

noncomputable section

namespace Cert.Reference7Ideal.Outproj

open Cert.Reference7Ideal Cert.Reference7Ideal.Gen Cert.Reference7Ideal.Read Idealize.ShloMosaic Idealize.ShloMosaic.TcCoe Idealize.SL.Sem Cert.Rows

/-- Cutting the latent tokens' rows out of an array of 256 columns. -/
theorem cut (n : Fin 16384) (k : Fin 256) :
    idx_main_v1 (idx_main_v2 (idx_main_v3 (ix2 n k))) = (ix2 (n0 := 17408) (n1 := 256) (late n) k : S17408x256.Idx) := by
  have e3 : idx_main_v3 (ix2 n k) = (ix3 (n0 := 4) (n1 := 4096) (n2 := 256) ⟨n.val / 4096, by omega⟩ ⟨n.val % 4096, by omega⟩ k : S4x4096x256.Idx) :=
    funext fun a => Fin.ext (by match a with
      | ⟨0, _⟩ => show (n.val * 256 + k.val) / 1048576 = n.val / 4096; omega
      | ⟨1, _⟩ => show (n.val * 256 + k.val) / 256 % 4096 = n.val % 4096; omega
      | ⟨2, _⟩ => show (n.val * 256 + k.val) % 256 = k.val; omega)
  rw [e3]
  exact funext fun a => Fin.ext (by match a with
    | ⟨0, _⟩ => show ((n.val / 4096 * 4352 + (256 + n.val % 4096)) * 256 + k.val) / 256 = 4352 * (n.val / 4096) + (256 + n.val % 4096); omega
    | ⟨1, _⟩ => show ((n.val / 4096 * 4352 + (256 + n.val % 4096)) * 256 + k.val) % 256 = k.val; omega)

/-- A latent token's row and column in the array by batches. -/
theorem fold (n : Fin 16384) (d : Fin 1024) :
    idx_main_v18 (ix2 n d) = (ix3 (n0 := 4) (n1 := 4096) (n2 := 1024) ⟨n.val / 4096, by omega⟩ ⟨n.val % 4096, by omega⟩ d : S4x4096x1024.Idx) :=
  funext fun a => Fin.ext (by match a with
    | ⟨0, _⟩ => show (n.val * 1024 + d.val) / 4194304 = n.val / 4096; omega
    | ⟨1, _⟩ => show (n.val * 1024 + d.val) / 1024 % 4096 = n.val % 4096; omega
    | ⟨2, _⟩ => show (n.val * 1024 + d.val) % 1024 = d.val; omega)

/-- The stream's rows of the latent tokens. -/
theorem before (X : S17408x1024.Idx → EReal) (n : Fin 16384) (d : Fin 1024) :
    (val_main_v18 (F := Ideal) X (ix2 n d) : EReal) = X (ix2 (late n) d) := by
  rw [val_main_v18_apply, fold, val_main_v17_apply, val_main_v16_apply]
  exact congrArg X (funext fun a => Fin.ext (by match a with
    | ⟨0, _⟩ => show ((n.val / 4096 * 4352 + (256 + n.val % 4096)) * 1024 + d.val) / 1024 = 4352 * (n.val / 4096) + (256 + n.val % 4096); omega
    | ⟨1, _⟩ => show ((n.val / 4096 * 4352 + (256 + n.val % 4096)) * 1024 + d.val) % 1024 = d.val; omega))

/-- A latent token's entry of one of the table's vectors. -/
theorem entry (T : S8x6144.Idx → EReal) (j : Fin 6) (n : Fin 16384) (d : Fin 1024) (y : S8x6144.Idx)
    (h0 : (y 0).val = n.val / 4096) (h1 : (y 1).val = 1024 * j.val + d.val) : T y = vec T j (tableRow (late n)) d := by
  refine congrArg T (funext fun a => Fin.ext ?_)
  match a with
  | ⟨0, _⟩ => exact h0.trans (tableRow_late n).symm
  | ⟨1, _⟩ => exact h1

/-- The gate of each row. -/
theorem gate (T : S8x6144.Idx → EReal) (n : Fin 16384) (d : Fin 1024) :
    (val_main_v22 (F := Ideal) T (ix2 n d) : EReal) = vec T 2 (tableRow (late n)) d := by
  rw [val_main_v22_apply, show idx_main_v22 (ix2 n d) = _ from fold n d, val_main_v21_apply, val_main_v20_apply, val_main_v19_apply]
  exact entry T 2 n d _ rfl rfl

/-- The shift of each row. -/
theorem shift (T : S8x6144.Idx → EReal) (n : Fin 16384) (d : Fin 1024) :
    (val_main_v26 (F := Ideal) T (ix2 n d) : EReal) = vec T 3 (tableRow (late n)) d := by
  rw [val_main_v26_apply, show idx_main_v26 (ix2 n d) = _ from fold n d, val_main_v25_apply, val_main_v24_apply, val_main_v23_apply]
  exact entry T 3 n d _ rfl rfl

/-- The scale of each row. -/
theorem scale (T : S8x6144.Idx → EReal) (n : Fin 16384) (d : Fin 1024) :
    (val_main_v30 (F := Ideal) T (ix2 n d) : EReal) = vec T 4 (tableRow (late n)) d := by
  rw [val_main_v30_apply, show idx_main_v30 (ix2 n d) = _ from fold n d, val_main_v29_apply, val_main_v28_apply, val_main_v27_apply]
  exact entry T 4 n d _ rfl rfl

theorem zero_word : (Ideal.ofBits .f32 0x00000000#32 : EReal) = 0 := by simp [Ideal.ofBits, Ideal.ieee]

section Readout

variable (A B : S17408x256.Idx → EReal) (g : S1x256.Idx → EReal)

theorem place (n : Fin 16384) (h : Fin 4) (j : Fin 64) :
    idx_main_v34 (ix3 n h j) = (ix2 (n0 := 16384) (n1 := 256) n ⟨64 * h.val + j.val, by omega⟩ : S16384x256.Idx) :=
  funext fun a => Fin.ext (by match a with
    | ⟨0, _⟩ => show ((n.val * 4 + h.val) * 64 + j.val) / 256 = n.val; omega
    | ⟨1, _⟩ => show ((n.val * 4 + h.val) * 64 + j.val) % 256 = 64 * h.val + j.val; omega)

/-- A place of a head of the added halves. -/
theorem added (n : Fin 16384) (h : Fin 4) (j : Fin 64) : (val_main_v34 (F := Ideal) A B (ix3 n h j) : EReal)
    = A (ix2 (late n) ⟨64 * h.val + j.val, by omega⟩) + B (ix2 (late n) ⟨64 * h.val + j.val, by omega⟩) := by
  rw [val_main_v34_apply, place, val_main_v3_apply, val_main_v2_apply, val_main_v1_apply, cut, val_main_v0_apply]
  rfl

/-- The root of the mean of a head's squares plus the small term. -/
theorem root (n : Fin 16384) (h : Fin 4) : (val_main_v42 (F := Ideal) A B (ix3 n h (0 : Fin 1)) : EReal)
    = Ideal.rsqrt (Ideal.div (∑ j : Fin 64, (A (ix2 (late n) ⟨64 * h.val + j.val, by omega⟩) + B (ix2 (late n) ⟨64 * h.val + j.val, by omega⟩))
        * (A (ix2 (late n) ⟨64 * h.val + j.val, by omega⟩) + B (ix2 (late n) ⟨64 * h.val + j.val, by omega⟩))) headWidth + eps) := by
  rw [val_main_v42_apply, val_main_v41_apply, val_main_v39_apply, val_main_v37_apply, val_main_v36_apply, val_main_v38_apply, val_main_v40_apply]
  have s : ((val_main_cst (F := Ideal)) (Shape.Idx.first h_S_) + ∑ j : Fin 64, (val_main_v35 (F := Ideal) A B) (idx_main_v36 (idx_main_v37 (ix3 n h (0 : Fin 1))) j) : EReal)
      = ∑ j : Fin 64, (A (ix2 (late n) ⟨64 * h.val + j.val, by omega⟩) + B (ix2 (late n) ⟨64 * h.val + j.val, by omega⟩))
        * (A (ix2 (late n) ⟨64 * h.val + j.val, by omega⟩) + B (ix2 (late n) ⟨64 * h.val + j.val, by omega⟩)) := by
    rw [show (val_main_cst (F := Ideal) (Shape.Idx.first h_S_) : EReal) = 0 from zero_word, zero_add]
    refine Finset.sum_congr rfl fun j _ => ?_
    have e : idx_main_v36 (idx_main_v37 (ix3 n h (0 : Fin 1))) j = (ix3 (n0 := 16384) (n1 := 4) (n2 := 64) n h j : S16384x4x64.Idx) :=
      funext fun a => Fin.ext (by match a with | ⟨0, _⟩ => rfl | ⟨1, _⟩ => rfl | ⟨2, _⟩ => rfl)
    rw [e, val_main_v35_apply, added]
    rfl
  exact congrArg (fun z : EReal => Ideal.rsqrt (Ideal.div z headWidth + eps)) s

/-- A head's place over the root, times the gain. -/
theorem normed (n : Fin 16384) (k : Fin 256) : (val_main_v49 (F := Ideal) A B g (ix2 n k) : EReal)
    = (A (ix2 (late n) k) + B (ix2 (late n) k)) * Ideal.rsqrt (Ideal.div (headSum (fun j => (A (ix2 (late n) j) + B (ix2 (late n) j)) * (A (ix2 (late n) j) + B (ix2 (late n) j))) k) headWidth + eps)
      * g (ix2 0 k) := by
  have e : idx_main_v49 (ix2 n k) = (ix3 (n0 := 16384) (n1 := 4) (n2 := 64) n ⟨k.val / 64, by omega⟩ ⟨k.val % 64, by omega⟩ : S16384x4x64.Idx) :=
    funext fun a => Fin.ext (by match a with
      | ⟨0, _⟩ => show (n.val * 256 + k.val) / 256 = n.val; omega
      | ⟨1, _⟩ => show (n.val * 256 + k.val) / 64 % 4 = k.val / 64; omega
      | ⟨2, _⟩ => show (n.val * 256 + k.val) % 64 = k.val % 64; omega)
  have r : idx_main_v43 (ix3 n ⟨k.val / 64, by omega⟩ ⟨k.val % 64, by omega⟩)
      = (ix3 (n0 := 16384) (n1 := 4) (n2 := 1) n ⟨k.val / 64, by omega⟩ 0 : S16384x4x1.Idx) :=
    funext fun a => Fin.ext (by match a with | ⟨0, _⟩ => rfl | ⟨1, _⟩ => rfl | ⟨2, _⟩ => rfl)
  have hk : (⟨64 * (k.val / 64) + k.val % 64, by omega⟩ : Fin 256) = k := Fin.ext (by simp only; omega)
  have hg : (val_main_v47 (F := Ideal) g (ix3 n ⟨k.val / 64, by omega⟩ ⟨k.val % 64, by omega⟩) : EReal) = g (ix2 0 k) := by
    rw [val_main_v47_apply, val_main_v46_apply, val_main_v45_apply]
    exact congrArg g (funext fun a => Fin.ext (by match a with
      | ⟨0, _⟩ => rfl
      | ⟨1, _⟩ => show (k.val / 64 * 64 + k.val % 64) % 256 = k.val; omega))
  rw [val_main_v49_apply, e, val_main_v48_apply, val_main_v44_apply, val_main_v43_apply, r, added, root, hg, hk]
  rfl

end Readout

/-- The first mixer's gates. -/
theorem gatesA (U : S17408x1280.Idx → EReal) (n : Fin 16384) (k : Fin 256) :
    (val_main_v56 (F := Ideal) U (ix2 n k) : EReal) = gateOf (U (ix2 (late n) ⟨1024 + k.val, by omega⟩)) := by
  have e : (val_main_v7 (F := Ideal) U (ix2 n k) : EReal) = U (ix2 (late n) ⟨1024 + k.val, by omega⟩) := by
    rw [val_main_v7_apply, val_main_v6_apply, val_main_v5_apply, show idx_main_v5 (idx_main_v6 (idx_main_v7 (ix2 n k))) = _ from cut n k, val_main_v4_apply]
    exact congrArg U (funext fun a => Fin.ext (by match a with | ⟨0, _⟩ => rfl | ⟨1, _⟩ => rfl))
  rw [val_main_v56_apply, val_main_v55_apply, val_main_v54_apply, val_main_v53_apply, val_main_v52_apply, val_main_v51_apply, val_main_v50_apply, e]
  show _ * Ideal.div (Ideal.ofBits .f32 0x3F800000#32) (Ideal.ofBits .f32 0x3F800000#32 + Ideal.exp (-_)) = _
  rw [Ideal.ofBits_one_f32]
  rfl

/-- The third mixer's gates. -/
theorem gatesC (Q : S17408x896.Idx → EReal) (n : Fin 16384) (k : Fin 256) :
    (val_main_v81 (F := Ideal) Q (ix2 n k) : EReal) = gateOf (Q (ix2 (late n) ⟨512 + k.val, by omega⟩)) := by
  have e : (val_main_v15 (F := Ideal) Q (ix2 n k) : EReal) = Q (ix2 (late n) ⟨512 + k.val, by omega⟩) := by
    rw [val_main_v15_apply, val_main_v14_apply, val_main_v13_apply, show idx_main_v13 (idx_main_v14 (idx_main_v15 (ix2 n k))) = _ from cut n k, val_main_v12_apply]
    exact congrArg Q (funext fun a => Fin.ext (by match a with | ⟨0, _⟩ => rfl | ⟨1, _⟩ => rfl))
  rw [val_main_v81_apply, val_main_v80_apply, val_main_v79_apply, val_main_v78_apply, val_main_v77_apply, val_main_v76_apply, val_main_v75_apply, e]
  show _ * Ideal.div (Ideal.ofBits .f32 0x3F800000#32) (Ideal.ofBits .f32 0x3F800000#32 + Ideal.exp (-_)) = _
  rw [Ideal.ofBits_one_f32]
  rfl

/-- Four blocks joined along the columns, at a place. -/
theorem joint4 (a b c d : S16384x256.Idx → EReal) (n : Fin 16384) (k : Fin 1024) :
    (concatenate (α := EReal) S16384x1024 1 [⟨S16384x256, a⟩, ⟨S16384x256, b⟩, ⟨S16384x256, c⟩, ⟨S16384x256, d⟩]
      concatenates_S16384x256_S16384x256_S16384x256_S16384x256_S16384x1024_d1 (ix2 n k) : EReal)
      = four (fun k => a (ix2 n k)) (fun k => b (ix2 n k)) (fun k => c (ix2 n k)) (fun k => d (ix2 n k)) k := by
  unfold four
  pointwise
  have e2 : ∀ h, (⟨k.val - 256 - 256, h⟩ : Fin 256) = ⟨k.val - 512, by omega⟩ := fun h => Fin.ext (by simp only; omega)
  have e3 : ∀ h, (⟨k.val - 256 - 256 - 256, h⟩ : Fin 256) = ⟨k.val - 768, by omega⟩ := fun h => Fin.ext (by simp only; omega)
  by_cases h0 : k.val < 256
  · rw [dif_pos h0, dif_pos h0]
  rw [dif_neg h0, dif_neg h0]
  by_cases h1 : k.val < 512
  · rw [dif_pos (by omega), dif_pos h1]
  rw [dif_neg (by omega), dif_neg h1]
  by_cases h2 : k.val < 768
  · rw [dif_pos (by omega), dif_pos h2, e2]
  · rw [dif_neg (by omega), dif_neg h2, e3]

section Rows

variable (I : LastInputs)

theorem heads (n : Fin 16384) (k : Fin 1024) :
    (val_main_v83 (F := Ideal) I.A I.B I.U I.H I.C I.E I.Q I.D I.ga I.gc (ix2 n k) : EReal)
      = four (I.wide.headsA (late n)) (fun k => I.wide.H (ix2 (late n) k)) (I.wide.headsC (late n)) (I.wide.headsD (late n)) k := by
  unfold val_main_v83
  rw [joint4]
  have a : (fun k => (val_main_v57 (F := Ideal) I.A I.B I.U I.ga (ix2 n k) : EReal)) = I.wide.headsA (late n) := funext fun k => by
    rw [val_main_v57_apply, normed, gatesA]
    rfl
  have c : (fun k => (val_main_v82 (F := Ideal) I.C I.E I.Q I.gc (ix2 n k) : EReal)) = I.wide.headsC (late n) := funext fun k => by
    rw [val_main_v82_apply, show val_main_v74 (F := Ideal) I.C I.E I.gc = val_main_v49 (F := Ideal) I.C I.E I.gc from rfl, normed, gatesC]
    rfl
  have d : (fun k => (val_main_v33 (F := Ideal) I.D (ix2 n k) : EReal)) = I.wide.headsD (late n) := funext fun k => by
    rw [val_main_v33_apply, val_main_v32_apply, I.wide_D]
    exact congrArg I.D (funext fun a => Fin.ext (by match a with
      | ⟨0, _⟩ => show (n.val * 256 + k.val) / 65536 = n.val / 256; omega
      | ⟨1, _⟩ => show (n.val * 256 + k.val) % 256 = k.val; omega
      | ⟨2, _⟩ => show (n.val * 256 + k.val) / 256 % 256 = n.val % 256; omega))
  have h : (fun k => I.wide.H (ix2 (late n) k)) = fun k => I.H (ix2 n k) := funext fun k => I.wide_H n k
  rw [a, c, d, h]
  rfl

/-- The stream's rows. -/
theorem stream (n : Fin 16384) (d : Fin 1024) :
    (val_main_v86 (F := Ideal) I.A I.B I.U I.H I.C I.E I.Q I.D I.X I.T I.ga I.gc I.W (ix2 n d) : EReal) = I.wide.mixed (late n) d := by
  rw [val_main_v86_apply, val_main_v85_apply, before, gate, val_main_v84_apply]
  unfold Inputs.mixed
  rw [← sum_four]
  refine congrArg (fun z : EReal => I.X (ix2 (late n) d) + vec I.T 2 (tableRow (late n)) d * z) (Finset.sum_congr rfl fun k _ => ?_)
  have el : lidx_main_v84 (ix2 n d) k = (ix2 (n0 := 16384) (n1 := 1024) n k : S16384x1024.Idx) :=
    funext fun a => Fin.ext (by match a with | ⟨0, _⟩ => rfl | ⟨1, _⟩ => rfl)
  have er : ridx_main_v84 (ix2 n d) k = (ix2 (n0 := 1024) (n1 := 1024) k d : S1024x1024.Idx) :=
    funext fun a => Fin.ext (by match a with | ⟨0, _⟩ => rfl | ⟨1, _⟩ => rfl)
  rw [el, er, heads]
  rfl

/-- The root of the mean of a row's squares plus the small term. -/
theorem rootRow (n : Fin 16384) :
    (val_main_v94 (F := Ideal) I.A I.B I.U I.H I.C I.E I.Q I.D I.X I.T I.ga I.gc I.W (ix2 n (0 : Fin 1)) : EReal)
      = Ideal.rsqrt (Ideal.div (∑ k : Fin 1024, I.wide.mixed (late n) k * I.wide.mixed (late n) k) width + eps) := by
  rw [val_main_v94_apply, val_main_v93_apply, val_main_v91_apply, val_main_v89_apply, val_main_v88_apply, val_main_v90_apply, val_main_v92_apply]
  have s : ((val_main_cst_9 (F := Ideal)) (Shape.Idx.first h_S_) + ∑ k : Fin 1024,
      (val_main_v87 (F := Ideal) I.A I.B I.U I.H I.C I.E I.Q I.D I.X I.T I.ga I.gc I.W) (idx_main_v88 (idx_main_v89 (ix2 n (0 : Fin 1))) k) : EReal)
      = ∑ k : Fin 1024, I.wide.mixed (late n) k * I.wide.mixed (late n) k := by
    rw [show (val_main_cst_9 (F := Ideal) (Shape.Idx.first h_S_) : EReal) = 0 from zero_word, zero_add]
    refine Finset.sum_congr rfl fun k _ => ?_
    have e : idx_main_v88 (idx_main_v89 (ix2 n (0 : Fin 1))) k = (ix2 (n0 := 16384) (n1 := 1024) n k : S16384x1024.Idx) :=
      funext fun a => Fin.ext (by match a with | ⟨0, _⟩ => rfl | ⟨1, _⟩ => rfl)
    rw [e, val_main_v87_apply, stream]
    rfl
  exact congrArg (fun z : EReal => Ideal.rsqrt (Ideal.div z width + eps)) s

/-- The rows for the layer's second half. -/
theorem rows (n : Fin 16384) (d : Fin 1024) :
    (val_main_v102 (F := Ideal) I.A I.B I.U I.H I.C I.E I.Q I.D I.X I.T I.ga I.gc I.g I.W (ix2 n d) : EReal) = I.wide.second (late n) d := by
  rw [val_main_v102_apply, val_main_v101_apply, val_main_v98_apply, val_main_v96_apply, val_main_v95_apply, val_main_v100_apply, val_main_v99_apply, stream, shift, scale]
  have e : idx_main_v95 (ix2 n d) = (ix2 (n0 := 16384) (n1 := 1) n 0 : S16384x1.Idx) :=
    funext fun a => Fin.ext (by match a with | ⟨0, _⟩ => rfl | ⟨1, _⟩ => rfl)
  have hg : (val_main_v97 (F := Ideal) I.g (ix2 n d) : EReal) = I.g (ix2 0 d) := by
    rw [val_main_v97_apply]
    exact congrArg I.g (funext fun a => Fin.ext (by match a with | ⟨0, _⟩ => rfl | ⟨1, _⟩ => rfl))
  rw [e, rootRow, hg]
  show _ * (Ideal.ofBits .f32 0x3F800000#32 + _) + _ = _
  rw [Ideal.ofBits_one_f32]
  rfl

/-- The second result: the rows stored as eight rows of 128 per token. -/
theorem stored (j : Fin 131072) (l : Fin 128) :
    (val_main_v103 (F := Ideal) I.A I.B I.U I.H I.C I.E I.Q I.D I.X I.T I.ga I.gc I.g I.W (ix2 j l) : EReal)
      = I.wide.second (late ⟨j.val / 8, by omega⟩) ⟨128 * (j.val % 8) + l.val, by omega⟩ := by
  rw [val_main_v103_apply]
  have e : idx_main_v103 (ix2 j l) = (ix2 (n0 := 16384) (n1 := 1024) ⟨j.val / 8, by omega⟩ ⟨128 * (j.val % 8) + l.val, by omega⟩ : S16384x1024.Idx) :=
    funext fun a => Fin.ext (by match a with
      | ⟨0, _⟩ => show (j.val * 128 + l.val) / 1024 = j.val / 8; omega
      | ⟨1, _⟩ => show (j.val * 128 + l.val) % 1024 = 128 * (j.val % 8) + l.val; omega)
  rw [e, rows]

end Rows

end Cert.Reference7Ideal.Outproj

end
-- ==== Proof.OutprojLastPre.lean ====
/- The last layer's precondition is the other layers', on the arrays of its call. -/
module

public import proofs.«01_k».proof.Pre_mixer_outputs_last
public import proofs.«01_k».proof.Proof.OutprojPre

@[expose] public section

set_option backward.proofsInPublic true

noncomputable section

namespace Cert.Pre_mixer_outputs_last

open Idealize.ShloMosaic Cert.Math

/-- The predicate's side condition. -/
theorem facts : Facts where
  bcast_S_S17408x256 := Pre_mixer_outputs.facts.bcast_S_S17408x256

variable [Facts]
open Facts

/-- An array whose magnitudes all compare below infinity is finite. -/
theorem finite (a : FVec Ideal S17408x256 .f32)
    (h : cmpf .olt (Host.absf a) (broadcastInDim S17408x256 ![] bcast_S_S17408x256 (constant S_ .f32 0x7F800000#32)) = fun _ => 1#1)
    (i : S17408x256.Idx) : IsReal (a i) :=
  haveI := Pre_mixer_outputs.facts
  Pre_mixer_outputs.finite a h i

end Cert.Pre_mixer_outputs_last

end
-- ==== Proof.OutprojLastClaim.lean ====
/- The last layer's output projection, the value claim: under the precondition the kernel and the reference end with equal results. -/
module

public import proofs.«01_k».proof.Defs
public import proofs.«01_k».proof.Proof.OutprojLastArray
public import proofs.«01_k».proof.Proof.OutprojLastRef
public import proofs.«01_k».proof.Proof.OutprojLastPre
public import proofs.«01_k».proof.Proof.Gen.Reference7Ideal.Run

@[expose] public section

set_option backward.proofsInPublic true

noncomputable section

namespace Cert.Kernel7Ideal.Outproj

open Cert.Kernel7Ideal Cert.Kernel7Ideal.Gen Idealize.ShloMosaic Idealize.ShloMosaic.TcCoe Idealize.SL.Sem
open Idealize.ShloMosaic.Pipeline (Dat)

set_option maxHeartbeats 2000000 in
/-- The run with both result arrays named and the arguments as launched. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8_0) = (dats m 0 c).arrAt 18 cfg0.N
      ∧ r.2.mem ((c : Thread nD τ).loc main_v8_1) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1 18, (h c).1 19,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).2 main_arg13 (Pipeline.mem_restRefs_of main_arg13 (by decide) (by decide))).trans (V_main_arg13 m c)⟩)
    (run_main m ρ)

end Cert.Kernel7Ideal.Outproj

namespace Cert.OutprojLast

open Idealize.ShloMosaic Idealize.SL.Sem Cert.Rows

/-- The reference runs, its arguments kept, every counter at zero: it declares none. -/
theorem frame_r : quiescent_Reference7Ideal :=
  fun m g _ => (θ_run (Reference7Ideal.defs (F := Ideal)) _ _).mono (fun r h => ⟨fun c => (h c).2.2,
      sem_eq_zero_of_no_sems (by decide) r.2⟩)
    (Reference7Ideal.Value.run (F := Ideal) m g)

/-- So it does under the precondition. -/
theorem frame_rp [Cert.Pre_mixer_outputs_last.Facts] : quiescent_Reference7Ideal_pre_mixer_outputs_last :=
  fun m g _ => frame_r m g trivial

/-- The precondition makes the recurrences' outputs finite. -/
theorem finite [Cert.Pre_mixer_outputs_last.Facts] (m : (ℓ : Loc Kernel7Ideal.nD Kernel7Ideal.τ Kernel7Ideal.sig) → Buf (Elt Ideal) ℓ)
    (hp : Pre_Kernel7Ideal_mixer_outputs_last m) (c : Dev Kernel7Ideal.nD) : Kernel7Ideal.Outproj.Finite m c where
  A := Pre_mixer_outputs_last.finite _ (hp c).1
  B := Pre_mixer_outputs_last.finite _ (hp c).2.1
  C := Pre_mixer_outputs_last.finite _ (hp c).2.2.1
  E := Pre_mixer_outputs_last.finite _ (hp c).2.2.2

/-- The claim: equal results from equal arguments that satisfy the precondition. -/
theorem algebraic [Cert.Pre_mixer_outputs_last.Facts] : algebraic_Kernel7Ideal_Reference7Ideal_pre_mixer_outputs_last := by
  intro m g m' g' hp hag
  refine ⟨fun c => (Kernel7Ideal.Gen.dats m 0 c).arrAt 18 Kernel7Ideal.cfg0.N, fun c => (Kernel7Ideal.Gen.dats m 0 c).arrAt 19 Kernel7Ideal.cfg0.N,
    Kernel7Ideal.Outproj.run_arrays m g, ?_⟩
  refine (θ_run _ _ _).mono (fun r h c => ⟨(h c).1.trans ?_, (h c).2.1.trans ?_, (h c).2.2⟩) (Reference7Ideal.Value.run (F := Ideal) m' g')
  · obtain ⟨h0, h1, h2, h3, h4, h5, h6, h7, h8, h9, h10, h11, h12, h13⟩ := hag c
    rw [Reference7Ideal.Read.val_main_v86_eq, h0, h1, h2, h3, h4, h5, h6, h7, h8, h9, h10, h11, h13]
    refine Eq.trans (funext fun i => ?_) (Kernel7Ideal.Outproj.final18 m c (finite m hp c)).symm
    have e : i = (ix2 (n0 := 16384) (n1 := 1024) (i 0) (i 1) : Reference7Ideal.S16384x1024.Idx) := eq_ix2 i
    exact (congrArg _ e).trans (Reference7Ideal.Outproj.stream (Kernel7Ideal.Outproj.inputs m c) (i 0) (i 1))
  · obtain ⟨h0, h1, h2, h3, h4, h5, h6, h7, h8, h9, h10, h11, h12, h13⟩ := hag c
    rw [Reference7Ideal.Read.val_main_v103_eq, h0, h1, h2, h3, h4, h5, h6, h7, h8, h9, h10, h11, h12, h13]
    refine Eq.trans (funext fun i => ?_) (Kernel7Ideal.Outproj.final19 m c (finite m hp c)).symm
    have e : i = (ix2 (n0 := 131072) (n1 := 128) (i 0) (i 1) : Reference7Ideal.S131072x128.Idx) := eq_ix2 i
    exact (congrArg _ e).trans (Reference7Ideal.Outproj.stored (Kernel7Ideal.Outproj.inputs m c) (i 0) (i 1))

end Cert.OutprojLast

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.AttnClaim
public import proofs.«01_k».proof.Proof.FinalClaim
public import proofs.«01_k».proof.Proof.UpdateClaim
public import proofs.«01_k».proof.Proof.InprojClaim
public import proofs.«01_k».proof.Proof.LatentClaim
public import proofs.«01_k».proof.Proof.OutprojRun
public import proofs.«01_k».proof.Proof.OutprojClaim
public import proofs.«01_k».proof.Proof.OutprojLastRun
public import proofs.«01_k».proof.Proof.OutprojLastClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Pre_attention_inputs.facts,
    Cert.Pre_mixer_outputs.facts,
    Cert.Pre_mixer_outputs_last.facts,
    fun m ρ _ => Cert.Kernel.Gen.frame m ρ,
    fun m ρ _ => Cert.KernelIdeal.Gen.frame m ρ,
    fun m ρ _ => Cert.KernelIdeal.Gen.frame m ρ,
    Cert.Attn.frame_r,
    @Cert.Attn.frame_rp Cert.Pre_attention_inputs.facts,
    fun m ρ _ => Cert.Kernel2.Gen.frame m ρ,
    fun m ρ _ => Cert.Kernel2Ideal.Gen.frame m ρ,
    fun m ρ _ => Cert.Kernel2Ideal.Gen.frame m ρ,
    Cert.Latent.frame_r,
    @Cert.Latent.frame_rp Cert.Pre_attention_inputs.facts,
    fun m ρ _ => Cert.Kernel3.Gen.frame m ρ,
    fun m ρ _ => Cert.Kernel3Ideal.Gen.frame m ρ,
    Cert.Inproj.frame_r,
    fun m ρ _ => Cert.Kernel4.Gen.frame m ρ,
    fun m ρ _ => Cert.Kernel4Ideal.Gen.frame m ρ,
    Cert.Update.frame_r,
    fun m ρ _ => Cert.Kernel5.Gen.frame m ρ,
    fun m ρ _ => Cert.Kernel5Ideal.Gen.frame m ρ,
    Cert.Final.frame_r,
    fun m ρ _ => Cert.Kernel6.Gen.frame m ρ,
    fun m ρ _ => Cert.Kernel6Ideal.Gen.frame m ρ,
    fun m ρ _ => Cert.Kernel6Ideal.Gen.frame m ρ,
    Cert.Outproj.frame_r,
    @Cert.Outproj.frame_rp Cert.Pre_mixer_outputs.facts,
    fun m ρ _ => Cert.Kernel7.Gen.frame m ρ,
    fun m ρ _ => Cert.Kernel7Ideal.Gen.frame m ρ,
    fun m ρ _ => Cert.Kernel7Ideal.Gen.frame m ρ,
    Cert.OutprojLast.frame_r,
    @Cert.OutprojLast.frame_rp Cert.Pre_mixer_outputs_last.facts,
    trivial,
    @Cert.Attn.algebraic Cert.Pre_attention_inputs.facts,
    trivial,
    @Cert.Latent.algebraic Cert.Pre_attention_inputs.facts,
    trivial,
    Cert.Inproj.algebraic,
    trivial,
    Cert.Update.algebraic,
    trivial,
    Cert.Final.algebraic,
    trivial,
    @Cert.Outproj.algebraic Cert.Pre_mixer_outputs.facts,
    trivial,
    @Cert.OutprojLast.algebraic Cert.Pre_mixer_outputs_last.facts⟩

end Cert.Proof

end
